-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "inv_cap" .f32 0x3D888889#32 ((1 / 15 : ℝ) : EReal)
  ∧ IdealRules.named_const.Statement Cert.Kernel3Ideal.κ "log2e" .f32 0x3FB8AA3B#32 (((Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_v45) = v3 c
          ∧ r.2.mem ((c.tc : Thread Cert.Reference3Ideal.nD Cert.Reference3Ideal.τ).loc Cert.Reference3Ideal.main_v48) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "q_scale" .f32 0x3E0293EE#32 (((Real.sqrt 128)⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v43) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x512x8192 : Shape := ⟨3, ![2, 512, 8192]⟩
abbrev S2x8192x512 : Shape := ⟨3, ![2, 8192, 512]⟩
abbrev S2x1024x8192 : Shape := ⟨3, ![2, 1024, 8192]⟩
abbrev S2x8192x1024 : Shape := ⟨3, ![2, 8192, 1024]⟩
abbrev S2x8192x128 : Shape := ⟨3, ![2, 8192, 128]⟩
abbrev S1024 : Shape := ⟨1, ![1024]⟩
abbrev S2x8192x16 : Shape := ⟨3, ![2, 8192, 16]⟩
abbrev S_ : Shape := ⟨0, ![]⟩

class Facts : Prop where
  slices_S2x8192x128_S2x8192x16_0_0_0 : S2x8192x128.Slices ![0, 0, 0] S2x8192x16
  bitsLt_bf16_f32 : FTy.bits .bf16 < FTy.bits .f32
  bcast_S_S2x512x8192 : S_.BroadcastsInDim S2x512x8192 (![] : Fin 0 → Fin S2x512x8192.rank)
  reducesTo_S2x512x8192_S_d0_1_2 : S2x512x8192.ReducesTo [0, 1, 2] S_
  h_S_ : 0 < S_.numel
  bcast_S_S2x8192x512 : S_.BroadcastsInDim S2x8192x512 (![] : Fin 0 → Fin S2x8192x512.rank)
  reducesTo_S2x8192x512_S_d0_1_2 : S2x8192x512.ReducesTo [0, 1, 2] S_
  bcast_S_S2x1024x8192 : S_.BroadcastsInDim S2x1024x8192 (![] : Fin 0 → Fin S2x1024x8192.rank)
  reducesTo_S2x1024x8192_S_d0_1_2 : S2x1024x8192.ReducesTo [0, 1, 2] S_
  bcast_S_S2x8192x16 : S_.BroadcastsInDim S2x8192x16 (![] : Fin 0 → Fin S2x8192x16.rank)
  reducesTo_S2x8192x16_S_d0_1_2 : S2x8192x16.ReducesTo [0, 1, 2] S_

variable [Facts]

def fn_part1 {F : FTy → Type} [FloatOps F] (main_v0 : FVec F S2x8192x16 .f32) (main_v17 : IVec S_ 1) : IVec S_ 1 :=
  let main_v18 : FVec F S2x8192x16 .f32 := Host.absf main_v0
  let main_cst_4 : FVec F S_ .f32 := constant S_ .f32 0x7F800000#32
  let main_v19 : FVec F S2x8192x16 .f32 := broadcastInDim S2x8192x16 ![] bcast_S_S2x8192x16 main_cst_4
  let main_v20 : IVec S2x8192x16 1 := cmpf .olt main_v18 main_v19
  let main_c_5 : IVec S_ 1 := constantI S_ 1 1#1
  let main_v21 : IVec S_ 1 := (fun x v => Host.reduce IntOp.andi x v reducesTo_S2x8192x16_S_d0_1_2 h_S_) main_v20 main_c_5
  let main_v22 : IVec S_ 1 := andi main_v17 main_v21
  main_v22

def fn {F : FTy → Type} [FloatOps F] (main_arg0 : FVec F S2x512x8192 .bf16) (main_arg1 : FVec F S2x8192x512 .bf16) (main_arg2 : FVec F S2x1024x8192 .bf16) (main_arg3 : FVec F S2x8192x1024 .bf16) (main_arg4 : FVec F S2x8192x128 .f32) (main_arg5 : FVec F S1024 .f32) : IVec S_ 1 :=
  let main_v0 : FVec F S2x8192x16 .f32 := (extractStridedSlice S2x8192x16 ![0, 0, 0] · slices_S2x8192x128_S2x8192x16_0_0_0) main_arg4
  let main_v1 : FVec F S2x512x8192 .f32 := (extf .f32 · bitsLt_bf16_f32) main_arg0
  let main_v2 : FVec F S2x512x8192 .f32 := Host.absf main_v1
  let main_cst : FVec F S_ .f32 := constant S_ .f32 0x7F800000#32
  let main_v3 : FVec F S2x512x8192 .f32 := broadcastInDim S2x512x8192 ![] bcast_S_S2x512x8192 main_cst
  let main_v4 : IVec S2x512x8192 1 := cmpf .olt main_v2 main_v3
  let main_c : IVec S_ 1 := constantI S_ 1 1#1
  let main_v5 : IVec S_ 1 := (fun x v => Host.reduce IntOp.andi x v reducesTo_S2x512x8192_S_d0_1_2 h_S_) main_v4 main_c
  let main_v6 : FVec F S2x8192x512 .f32 := (extf .f32 · bitsLt_bf16_f32) main_arg1
  let main_v7 : FVec F S2x8192x512 .f32 := Host.absf main_v6
  let main_cst_0 : FVec F S_ .f32 := constant S_ .f32 0x7F800000#32
  let main_v8 : FVec F S2x8192x512 .f32 := broadcastInDim S2x8192x512 ![] bcast_S_S2x8192x512 main_cst_0
  let main_v9 : IVec S2x8192x512 1 := cmpf .olt main_v7 main_v8
  let main_c_1 : IVec S_ 1 := constantI S_ 1 1#1
  let main_v10 : IVec S_ 1 := (fun x v => Host.reduce IntOp.andi x v reducesTo_S2x8192x512_S_d0_1_2 h_S_) main_v9 main_c_1
  let main_v11 : IVec S_ 1 := andi main_v5 main_v10
  let main_v12 : FVec F S2x1024x8192 .f32 := (extf .f32 · bitsLt_bf16_f32) main_arg2
  let main_v13 : FVec F S2x1024x8192 .f32 := Host.absf main_v12
  let main_cst_2 : FVec F S_ .f32 := constant S_ .f32 0x7F800000#32
  let main_v14 : FVec F S2x1024x8192 .f32 := broadcastInDim S2x1024x8192 ![] bcast_S_S2x1024x8192 main_cst_2
  let main_v15 : IVec S2x1024x8192 1 := cmpf .olt main_v13 main_v14
  let main_c_3 : IVec S_ 1 := constantI S_ 1 1#1
  let main_v16 : IVec S_ 1 := (fun x v => Host.reduce IntOp.andi x v reducesTo_S2x1024x8192_S_d0_1_2 h_S_) main_v15 main_c_3
  let main_v17 : IVec S_ 1 := andi main_v11 main_v16
  fn_part1 (F := F) main_v0 main_v17
-- ==== Kernel.lean ====
abbrev S2x512x8192 : Shape := ⟨3, ![2, 512, 8192]⟩
abbrev S2x8192x512 : Shape := ⟨3, ![2, 8192, 512]⟩
abbrev S2x1024x8192 : Shape := ⟨3, ![2, 1024, 8192]⟩
abbrev S2x8192x1024 : Shape := ⟨3, ![2, 8192, 1024]⟩
abbrev S2x8192x128 : Shape := ⟨3, ![2, 8192, 128]⟩
abbrev S1024 : Shape := ⟨1, ![1024]⟩
abbrev S1x1024 : Shape := ⟨2, ![1, 1024]⟩
abbrev S1x512x256 : Shape := ⟨3, ![1, 512, 256]⟩
abbrev S1x256x512 : Shape := ⟨3, ![1, 256, 512]⟩
abbrev S1x1024x256 : Shape := ⟨3, ![1, 1024, 256]⟩
abbrev S1x256x1024 : Shape := ⟨3, ![1, 256, 1024]⟩
abbrev S1x256x128 : Shape := ⟨3, ![1, 256, 128]⟩
abbrev S4x144x128 : Shape := ⟨3, ![4, 144, 128]⟩
abbrev S8x1x128 : Shape := ⟨3, ![8, 1, 128]⟩
abbrev S16x256 : Shape := ⟨2, ![16, 256]⟩
abbrev S256x128 : Shape := ⟨2, ![256, 128]⟩
abbrev S256x256 : Shape := ⟨2, ![256, 256]⟩
abbrev S128x256 : Shape := ⟨2, ![128, 256]⟩
abbrev S8x256 : Shape := ⟨2, ![8, 256]⟩
abbrev S120x256 : Shape := ⟨2, ![120, 256]⟩
abbrev S128x1 : Shape := ⟨2, ![128, 1]⟩
abbrev S1x128 : Shape := ⟨2, ![1, 128]⟩
abbrev S1x128x256 : Shape := ⟨3, ![1, 128, 256]⟩
abbrev S1x144x128 : Shape := ⟨3, ![1, 144, 128]⟩
abbrev S144x128 : Shape := ⟨2, ![144, 128]⟩
abbrev S144x256 : Shape := ⟨2, ![144, 256]⟩
abbrev S1x256 : Shape := ⟨2, ![1, 256]⟩
abbrev S1x1x128 : Shape := ⟨3, ![1, 1, 128]⟩
abbrev S1x1 : Shape := ⟨2, ![1, 1]⟩
abbrev S256x1 : Shape := ⟨2, ![256, 1]⟩
abbrev S256 : Shape := ⟨1, ![256]⟩
abbrev S1 : Shape := ⟨1, ![1]⟩

abbrev nBuf : Space → Nat
  | .hbm => 8
  | .vmem => 19
  | .smem => 0
  | _ => 0

abbrev bufTy : (tb : Table) → Fin (tcTables nBuf tb) → BufTy
  | .hbm, ⟨0, _⟩ => ⟨S2x512x8192, .bf16⟩
  | .hbm, ⟨1, _⟩ => ⟨S2x8192x512, .bf16⟩
  | .hbm, ⟨2, _⟩ => ⟨S2x1024x8192, .bf16⟩
  | .hbm, ⟨3, _⟩ => ⟨S2x8192x1024, .bf16⟩
  | .hbm, ⟨4, _⟩ => ⟨S2x8192x128, .f32⟩
  | .hbm, ⟨5, _⟩ => ⟨S1024, .f32⟩
  | .hbm, ⟨6, _⟩ => ⟨S1x1024, .f32⟩
  | .hbm, ⟨7, _⟩ => ⟨S2x8192x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x256x512, .bf16⟩
  | .local _ .vmem, ⟨3, _⟩ => ⟨S1x256x512, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S4x144x128, .f32⟩
  | .local _ .vmem, ⟨16, _⟩ => ⟨S8x1x128, .f32⟩
  | .local _ .vmem, ⟨17, _⟩ => ⟨S16x256, .f32⟩
  | .local _ .vmem, ⟨18, _⟩ => ⟨S256x128, .f32⟩
  | _, _ => ⟨S2x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x512x8192 : Shape := ⟨3, ![2, 512, 8192]⟩
abbrev S2x8192x512 : Shape := ⟨3, ![2, 8192, 512]⟩
abbrev S2x1024x8192 : Shape := ⟨3, ![2, 1024, 8192]⟩
abbrev S2x8192x1024 : Shape := ⟨3, ![2, 8192, 1024]⟩
abbrev S2x8192x128 : Shape := ⟨3, ![2, 8192, 128]⟩
abbrev S1024 : Shape := ⟨1, ![1024]⟩
abbrev S_ : Shape := ⟨0, ![]⟩
abbrev S2x8x64x8192 : Shape := ⟨4, ![2, 8, 64, 8192]⟩
abbrev S2x8x8192x64 : Shape := ⟨4, ![2, 8, 8192, 64]⟩
abbrev S2x8192x8x64 : Shape := ⟨4, ![2, 8192, 8, 64]⟩
abbrev S2x8x128x8192 : Shape := ⟨4, ![2, 8, 128, 8192]⟩
abbrev S2x8x8192x128 : Shape := ⟨4, ![2, 8, 8192, 128]⟩
abbrev S2x8192x8 : Shape := ⟨3, ![2, 8192, 8]⟩
abbrev S2x8x8192 : Shape := ⟨3, ![2, 8, 8192]⟩
abbrev S64x64 : Shape := ⟨2, ![64, 64]⟩
abbrev S2x8x64x128 : Shape := ⟨4, ![2, 8, 64, 128]⟩
abbrev S2x8x64 : Shape := ⟨3, ![2, 8, 64]⟩
abbrev S2x8 : Shape := ⟨2, ![2, 8]⟩
abbrev S2x8x128x64x64 : Shape := ⟨5, ![2, 8, 128, 64, 64]⟩
abbrev S128x2x8x64x64 : Shape := ⟨5, ![128, 2, 8, 64, 64]⟩
abbrev S2x8x128x64x128 : Shape := ⟨5, ![2, 8, 128, 64, 128]⟩
abbrev S128x2x8x64x128 : Shape := ⟨5, ![128, 2, 8, 64, 128]⟩
abbrev S2x8x128x64 : Shape := ⟨4, ![2, 8, 128, 64]⟩
abbrev S128x2x8x64 : Shape := ⟨4, ![128, 2, 8, 64]⟩
abbrev S1x2x8x64x64 : Shape := ⟨5, ![1, 2, 8, 64, 64]⟩
abbrev S2x8x64x64 : Shape := ⟨4, ![2, 8, 64, 64]⟩
abbrev S1x2x8x64x128 : Shape := ⟨5, ![1, 2, 8, 64, 128]⟩
abbrev S1x2x8x64 : Shape := ⟨4, ![1, 2, 8, 64]⟩
abbrev S2x8x64x1 : Shape := ⟨4, ![2, 8, 64, 1]⟩
abbrev S2x8x1x64 : Shape := ⟨4, ![2, 8, 1, 64]⟩
abbrev S2x8x1 : Shape := ⟨3, ![2, 8, 1]⟩
abbrev S2x8x1x1 : Shape := ⟨4, ![2, 8, 1, 1]⟩
abbrev S2x8x8192x1 : Shape := ⟨4, ![2, 8, 8192, 1]⟩
abbrev S2x8192x8x128 : Shape := ⟨4, ![2, 8192, 8, 128]⟩
abbrev S1x1x1024 : Shape := ⟨3, ![1, 1, 1024]⟩

abbrev nBuf : Space → Nat
  | .hbm => 213
  | .vmem => 0
  | .smem => 0
  | _ => 0

abbrev hbmTy0_0 (i : Nat) : BufTy := match i % 128 with
  | 0 => ⟨S2x512x8192, .bf16⟩
  | 1 => ⟨S2x8192x512, .bf16⟩
  | 2 => ⟨S2x1024x8192, .bf16⟩
  | 3 => ⟨S2x8192x1024, .bf16⟩
  | 4 => ⟨S2x8192x128, .f32⟩
  | 5 => ⟨S1024, .f32⟩
  | 6 => ⟨S_, .f32⟩
  | 7 => ⟨S_, .f32⟩
  | 8 => ⟨S2x512x8192, .f32⟩
  | 9 => ⟨S2x8x64x8192, .f32⟩
  | 10 => ⟨S2x8x8192x64, .f32⟩
  | 11 => ⟨S2x8192x512, .f32⟩
  | 12 => ⟨S2x8192x8x64, .f32⟩
  | 13 => ⟨S2x8x8192x64, .f32⟩
  | 14 => ⟨S2x1024x8192, .f32⟩
  | 15 => ⟨S2x8x128x8192, .f32⟩
  | 16 => ⟨S2x8x8192x128, .f32⟩
  | 17 => ⟨S2x8192x8, .f32⟩
  | 18 => ⟨S2x8192x8, .f32⟩
  | 19 => ⟨S2x8192x8, .f32⟩
  | 20 => ⟨S2x8x8192, .f32⟩
  | 21 => ⟨S2x8192x8, .f32⟩
  | 22 => ⟨S2x8192x8, .f32⟩
  | 23 => ⟨S2x8192x8, .f32⟩
  | 24 => ⟨S2x8x8192, .f32⟩
  | 25 => ⟨S_, .i1⟩
  | 26 => ⟨S64x64, .i1⟩
  | 27 => ⟨S64x64, .i32⟩
  | 28 => ⟨S_, .i32⟩
  | 29 => ⟨S64x64, .i32⟩
  | 30 => ⟨S64x64, .i32⟩
  | 31 => ⟨S64x64, .i32⟩
  | 32 => ⟨S64x64, .i1⟩
  | 33 => ⟨S_, .i1⟩
  | 34 => ⟨S64x64, .i1⟩
  | 35 => ⟨S64x64, .i1⟩
  | 36 => ⟨S_, .f32⟩
  | 37 => ⟨S2x8x64x128, .f32⟩
  | 38 => ⟨S_, .f32⟩
  | 39 => ⟨S2x8x64, .f32⟩
  | 40 => ⟨S_, .f32⟩
  | 41 => ⟨S2x8, .f32⟩
  | 42 => ⟨S2x8x128x64x64, .f32⟩
  | 43 => ⟨S128x2x8x64x64, .f32⟩
  | 44 => ⟨S2x8x128x64x64, .f32⟩
  | 45 => ⟨S128x2x8x64x64, .f32⟩
  | 46 => ⟨S2x8x128x64x128, .f32⟩
  | 47 => ⟨S128x2x8x64x128, .f32⟩
  | 48 => ⟨S2x8x128x64, .f32⟩
  | 49 => ⟨S128x2x8x64, .f32⟩
  | 50 => ⟨S2x8x128x64, .f32⟩
  | 51 => ⟨S128x2x8x64, .f32⟩
  | 52 => ⟨S_, .f32⟩
  | 53 => ⟨S128x2x8x64x128, .f32⟩
  | 54 => ⟨S_, .i32⟩
  | 55 => ⟨S128x2x8x64x64, .f32⟩
  | 56 => ⟨S128x2x8x64x64, .f32⟩
  | 57 => ⟨S128x2x8x64x128, .f32⟩
  | 58 => ⟨S128x2x8x64, .f32⟩
  | 59 => ⟨S128x2x8x64, .f32⟩
  | 60 => ⟨S64x64, .i1⟩
  | 61 => ⟨S_, .i32⟩
  | 62 => ⟨S2x8x64x128, .f32⟩
  | 63 => ⟨S2x8x64, .f32⟩
  | 64 => ⟨S2x8, .f32⟩
  | 65 => ⟨S128x2x8x64x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1x2x8x64x64, .f32⟩
  | 73 => ⟨S2x8x64x64, .f32⟩
  | 74 => ⟨S_, .i32⟩
  | 75 => ⟨S_, .i32⟩
  | 76 => ⟨S_, .i32⟩
  | 77 => ⟨S_, .i32⟩
  | 78 => ⟨S1x2x8x64x64, .f32⟩
  | 79 => ⟨S2x8x64x64, .f32⟩
  | 80 => ⟨S_, .i32⟩
  | 81 => ⟨S_, .i32⟩
  | 82 => ⟨S_, .i32⟩
  | 83 => ⟨S_, .i32⟩
  | 84 => ⟨S1x2x8x64x128, .f32⟩
  | 85 => ⟨S2x8x64x128, .f32⟩
  | 86 => ⟨S_, .i32⟩
  | 87 => ⟨S_, .i32⟩
  | 88 => ⟨S_, .i32⟩
  | 89 => ⟨S1x2x8x64, .f32⟩
  | 90 => ⟨S2x8x64, .f32⟩
  | 91 => ⟨S_, .i32⟩
  | 92 => ⟨S_, .i32⟩
  | 93 => ⟨S_, .i32⟩
  | 94 => ⟨S1x2x8x64, .f32⟩
  | 95 => ⟨S2x8x64, .f32⟩
  | 96 => ⟨S_, .f32⟩
  | 97 => ⟨S_, .f32⟩
  | 98 => ⟨S2x8x64, .f32⟩
  | 99 => ⟨S2x8x64x1, .f32⟩
  | 100 => ⟨S2x8x1x64, .f32⟩
  | 101 => ⟨S2x8x64x64, .f32⟩
  | 102 => ⟨S2x8x64x64, .f32⟩
  | 103 => ⟨S2x8x64x64, .f32⟩
  | 104 => ⟨S2x8x1x64, .f32⟩
  | 105 => ⟨S2x8x64x64, .f32⟩
  | 106 => ⟨S2x8x64x64, .f32⟩
  | 107 => ⟨S_, .f32⟩
  | 108 => ⟨S_, .f32⟩
  | 109 => ⟨S2x8x64x64, .i1⟩
  | 110 => ⟨S2x8x64x64, .f32⟩
  | 111 => ⟨S2x8x64x64, .f32⟩
  | 112 => ⟨S2x8x1, .f32⟩
  | 113 => ⟨S2x8x64, .f32⟩
  | 114 => ⟨S2x8x64, .f32⟩
  | 115 => ⟨S_, .f32⟩
  | 116 => ⟨S2x8x64, .f32⟩
  | 117 => ⟨S2x8x64, .f32⟩
  | 118 => ⟨S2x8x64x1, .f32⟩
  | 119 => ⟨S2x8x64x64, .f32⟩
  | 120 => ⟨S2x8x64x64, .f32⟩
  | 121 => ⟨S2x8x64x64, .f32⟩
  | 122 => ⟨S2x8x64, .f32⟩
  | 123 => ⟨S2x8x64, .f32⟩
  | 124 => ⟨S2x8x64x64, .f32⟩
  | 125 => ⟨S2x8x64x64, .f32⟩
  | 126 => ⟨S2x8x64x1, .f32⟩
  | 127 => ⟨S2x8x64x128, .f32⟩
  | _ => ⟨S2x512x8192, .bf16⟩

abbrev hbmTy0_1 (i : Nat) : BufTy := match i % 128 with
  | 0 => ⟨S2x8x64x128, .f32⟩
  | 1 => ⟨S2x8x64x128, .f32⟩
  | 2 => ⟨S2x8x64x128, .f32⟩
  | 3 => ⟨S2x8x64x128, .f32⟩
  | 4 => ⟨S2x8x64, .f32⟩
  | 5 => ⟨S2x8x64, .f32⟩
  | 6 => ⟨S_, .f32⟩
  | 7 => ⟨S2x8x64, .f32⟩
  | 8 => ⟨S2x8x64, .f32⟩
  | 9 => ⟨S2x8x64, .f32⟩
  | 10 => ⟨S2x8x64, .f32⟩
  | 11 => ⟨S2x8x64, .f32⟩
  | 12 => ⟨S2x8x64, .f32⟩
  | 13 => ⟨S2x8x64x1, .f32⟩
  | 14 => ⟨S2x8x64x128, .f32⟩
  | 15 => ⟨S2x8x64x128, .f32⟩
  | 16 => ⟨S2x8x1, .f32⟩
  | 17 => ⟨S2x8, .f32⟩
  | 18 => ⟨S2x8x1, .f32⟩
  | 19 => ⟨S2x8x64, .f32⟩
  | 20 => ⟨S2x8x64, .f32⟩
  | 21 => ⟨S2x8x64, .f32⟩
  | 22 => ⟨S2x8, .f32⟩
  | 23 => ⟨S_, .f32⟩
  | 24 => ⟨S2x8, .f32⟩
  | 25 => ⟨S2x8, .f32⟩
  | 26 => ⟨S2x8, .f32⟩
  | 27 => ⟨S2x8, .f32⟩
  | 28 => ⟨S2x8, .f32⟩
  | 29 => ⟨S2x8x1, .f32⟩
  | 30 => ⟨S2x8x64, .f32⟩
  | 31 => ⟨S2x8x64, .f32⟩
  | 32 => ⟨S2x8x64, .f32⟩
  | 33 => ⟨S2x8x1x1, .f32⟩
  | 34 => ⟨S2x8x64x128, .f32⟩
  | 35 => ⟨S2x8x64x128, .f32⟩
  | 36 => ⟨S2x8x64x1, .f32⟩
  | 37 => ⟨S2x8x64x64, .f32⟩
  | 38 => ⟨S2x8x64x64, .f32⟩
  | 39 => ⟨S2x8x64x128, .f32⟩
  | 40 => ⟨S2x8x64x128, .f32⟩
  | 41 => ⟨S2x8x1, .f32⟩
  | 42 => ⟨S2x8x64, .f32⟩
  | 43 => ⟨S2x8x64, .f32⟩
  | 44 => ⟨S2x8x64, .f32⟩
  | 45 => ⟨S2x8x64, .f32⟩
  | 46 => ⟨S1x2x8x64x128, .f32⟩
  | 47 => ⟨S_, .i32⟩
  | 48 => ⟨S_, .i32⟩
  | 49 => ⟨S_, .i32⟩
  | 50 => ⟨S_, .i32⟩
  | 51 => ⟨S128x2x8x64x128, .f32⟩
  | 52 => ⟨S_, .i32⟩
  | 53 => ⟨S_, .i32⟩
  | 54 => ⟨S2x8x128x64x128, .f32⟩
  | 55 => ⟨S2x8x8192x128, .f32⟩
  | 56 => ⟨S2x8x8192x128, .f32⟩
  | 57 => ⟨S_, .f32⟩
  | 58 => ⟨S2x8x8192, .f32⟩
  | 59 => ⟨S2x8x8192x1, .f32⟩
  | 60 => ⟨S_, .f32⟩
  | 61 => ⟨S2x8x8192x1, .f32⟩
  | 62 => ⟨S2x8x8192x1, .f32⟩
  | 63 => ⟨S_, .f32⟩
  | 64 => ⟨S2x8x8192x1, .f32⟩
  | 65 => ⟨S2x8x8192x1, .f32⟩
  | 66 => ⟨S2x8x8192x1, .f32⟩
  | 67 => ⟨S2x8x8192x128, .f32⟩
  | 68 => ⟨S2x8x8192x128, .f32⟩
  | 69 => ⟨S2x8192x8x128, .f32⟩
  | 70 => ⟨S2x8192x1024, .f32⟩
  | 71 => ⟨S1x1x1024, .f32⟩
  | 72 => ⟨S2x8192x1024, .f32⟩
  | 73 => ⟨S2x8192x1024, .f32⟩
  | 74 => ⟨S2x8192x1024, .f32⟩
  | 75 => ⟨S2x8192x1024, .f32⟩
  | 76 => ⟨S2x8192x1024, .f32⟩
  | 77 => ⟨S_, .f32⟩
  | 78 => ⟨S2x8192x1024, .f32⟩
  | 79 => ⟨S2x8192x1024, .f32⟩
  | 80 => ⟨S_, .f32⟩
  | 81 => ⟨S2x8192x1024, .f32⟩
  | 82 => ⟨S2x8192x1024, .f32⟩
  | 83 => ⟨S2x8192x1024, .f32⟩
  | 84 => ⟨S2x8192x1024, .bf16⟩
  | _ => ⟨S2x512x8192, .bf16⟩

abbrev hbmTy (i : Nat) : BufTy := match i / 128 with
  | 0 => hbmTy0_0 i
  | 1 => hbmTy0_1 i
  | _ => ⟨S2x512x8192, .bf16⟩

abbrev bufTy : (tb : Table) → Fin (tcTables nBuf tb) → BufTy
  | .hbm, ⟨i, _⟩ => hbmTy i
  | _, _ => ⟨S2x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_c_4 : Ref sig .tc := ⟨.hbm, 54, rfl⟩
abbrev main_v34_0 : Ref sig .tc := ⟨.hbm, 55, rfl⟩
abbrev main_v34_1 : Ref sig .tc := ⟨.hbm, 56, rfl⟩
abbrev main_v34_2 : Ref sig .tc := ⟨.hbm, 57, rfl⟩
abbrev main_v34_3 : Ref sig .tc := ⟨.hbm, 58, rfl⟩
abbrev main_v34_4 : Ref sig .tc := ⟨.hbm, 59, rfl⟩
abbrev main_v34_5 : Ref sig .tc := ⟨.hbm, 60, rfl⟩
abbrev main_v34_6 : Ref sig .tc := ⟨.hbm, 61, rfl⟩
abbrev main_v34_7 : Ref sig .tc := ⟨.hbm, 62, rfl⟩
abbrev main_v34_8 : Ref sig .tc := ⟨.hbm, 63, rfl⟩
abbrev main_v34_9 : Ref sig .tc := ⟨.hbm, 64, rfl⟩
abbrev main_v34_10 : Ref sig .tc := ⟨.hbm, 65, rfl⟩
abbrev main_while0c_c_20 : Ref sig .tc := ⟨.hbm, 66, rfl⟩
abbrev main_while0c_v61 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_c_2 : Ref sig .tc := ⟨.hbm, 71, rfl⟩
abbrev main_while0b_call1_v0 : Ref sig .tc := ⟨.hbm, 72, rfl⟩
abbrev main_while0b_v61 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v0 : Ref sig .tc := ⟨.hbm, 78, rfl⟩
abbrev main_while0b_v62 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_c_2 : Ref sig .tc := ⟨.hbm, 83, rfl⟩
abbrev main_while0b_call3_v0 : Ref sig .tc := ⟨.hbm, 84, rfl⟩
abbrev main_while0b_v63 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_v0 : Ref sig .tc := ⟨.hbm, 89, rfl⟩
abbrev main_while0b_v64 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_v0 : Ref sig .tc := ⟨.hbm, 94, rfl⟩
abbrev main_while0b_v65 : Ref sig .tc := ⟨.hbm, 95, rfl⟩
abbrev main_while0b_call6_call0_cst : Ref sig .tc := ⟨.hbm, 96, rfl⟩
abbrev main_while0b_call6_call0_v0 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_cst_20 : Ref sig .tc := ⟨.hbm, 107, rfl⟩
abbrev main_while0b_call7_v0 : Ref sig .tc := ⟨.hbm, 108, rfl⟩
abbrev main_while0b_call7_v1 : Ref sig .tc := ⟨.hbm, 109, rfl⟩
abbrev main_while0b_call7_v2 : Ref sig .tc := ⟨.hbm, 110, rfl⟩
abbrev main_while0b_v75 : Ref sig .tc := ⟨.hbm, 111, rfl⟩
abbrev main_while0b_v76 : Ref sig .tc := ⟨.hbm, 112, rfl⟩
abbrev main_while0b_v77 : Ref sig .tc := ⟨.hbm, 113, rfl⟩
abbrev main_while0b_v78 : Ref sig .tc := ⟨.hbm, 114, rfl⟩
abbrev main_while0b_cst_21 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_v95 : Ref sig .tc := ⟨.hbm, 132, rfl⟩
abbrev main_while0b_v96 : Ref sig .tc := ⟨.hbm, 133, rfl⟩
abbrev main_while0b_cst_22 : Ref sig .tc := ⟨.hbm, 134, rfl⟩
abbrev main_while0b_v97 : Ref sig .tc := ⟨.hbm, 135, rfl⟩
abbrev main_while0b_v98 : Ref sig .tc := ⟨.hbm, 136, rfl⟩
abbrev main_while0b_v99 : Ref sig .tc := ⟨.hbm, 137, rfl⟩
abbrev main_while0b_v100 : Ref sig .tc := ⟨.hbm, 138, rfl⟩
abbrev main_while0b_v101 : Ref sig .tc := ⟨.hbm, 139, rfl⟩
abbrev main_while0b_v102 : Ref sig .tc := ⟨.hbm, 140, rfl⟩
abbrev main_while0b_v103 : Ref sig .tc := ⟨.hbm, 141, rfl⟩
abbrev main_while0b_v104 : Ref sig .tc := ⟨.hbm, 142, rfl⟩
abbrev main_while0b_v105 : Ref sig .tc := ⟨.hbm, 143, rfl⟩
abbrev main_while0b_v106 : Ref sig .tc := ⟨.hbm, 144, rfl⟩
abbrev main_while0b_v107 : Ref sig .tc := ⟨.hbm, 145, rfl⟩
abbrev main_while0b_v108 : Ref sig .tc := ⟨.hbm, 146, rfl⟩
abbrev main_while0b_v109 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_cst_23 : Ref sig .tc := ⟨.hbm, 151, rfl⟩
abbrev main_while0b_v113 : Ref sig .tc := ⟨.hbm, 152, rfl⟩
abbrev main_while0b_v114 : Ref sig .tc := ⟨.hbm, 153, rfl⟩
abbrev main_while0b_v115 : Ref sig .tc := ⟨.hbm, 154, rfl⟩
abbrev main_while0b_v116 : Ref sig .tc := ⟨.hbm, 155, rfl⟩
abbrev main_while0b_v117 : Ref sig .tc := ⟨.hbm, 156, rfl⟩
abbrev main_while0b_v118 : Ref sig .tc := ⟨.hbm, 157, rfl⟩
abbrev main_while0b_v119 : Ref sig .tc := ⟨.hbm, 158, rfl⟩
abbrev main_while0b_v120 : Ref sig .tc := ⟨.hbm, 159, rfl⟩
abbrev main_while0b_v121 : Ref sig .tc := ⟨.hbm, 160, rfl⟩
abbrev main_while0b_v122 : Ref sig .tc := ⟨.hbm, 161, rfl⟩
abbrev main_while0b_v123 : Ref sig .tc := ⟨.hbm, 162, rfl⟩
abbrev main_while0b_v124 : Ref sig .tc := ⟨.hbm, 163, rfl⟩
abbrev main_while0b_v125 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_v133 : Ref sig .tc := ⟨.hbm, 172, rfl⟩
abbrev main_while0b_v134 : Ref sig .tc := ⟨.hbm, 173, rfl⟩
abbrev main_while0b_call8_v0 : Ref sig .tc := ⟨.hbm, 174, rfl⟩
abbrev main_while0b_call8_c : Ref sig .tc := ⟨.hbm, 175, rfl⟩
abbrev main_while0b_call8_c_0 : Ref sig .tc := ⟨.hbm, 176, rfl⟩
abbrev main_while0b_call8_c_1 : Ref sig .tc := ⟨.hbm, 177, rfl⟩
abbrev main_while0b_call8_c_2 : Ref sig .tc := ⟨.hbm, 178, rfl⟩
abbrev main_while0b_v135 : Ref sig .tc := ⟨.hbm, 179, rfl⟩
abbrev main_while0b_c_24 : Ref sig .tc := ⟨.hbm, 180, rfl⟩
abbrev main_while0b_v136 : Ref sig .tc := ⟨.hbm, 181, rfl⟩
abbrev main_v35 : Ref sig .tc := ⟨.hbm, 182, rfl⟩
abbrev main_v36 : Ref sig .tc := ⟨.hbm, 183, rfl⟩
abbrev main_v37 : Ref sig .tc := ⟨.hbm, 184, rfl⟩
abbrev main_cst_5 : Ref sig .tc := ⟨.hbm, 185, rfl⟩
abbrev main_v38 : Ref sig .tc := ⟨.hbm, 186, rfl⟩
abbrev main_v39 : Ref sig .tc := ⟨.hbm, 187, rfl⟩
abbrev main_cst_6 : Ref sig .tc := ⟨.hbm, 188, rfl⟩
abbrev main_v40 : Ref sig .tc := ⟨.hbm, 189, rfl⟩
abbrev main_v41 : Ref sig .tc := ⟨.hbm, 190, rfl⟩
abbrev main_cst_7 : Ref sig .tc := ⟨.hbm, 191, rfl⟩
abbrev main_v42 : Ref sig .tc := ⟨.hbm, 192, rfl⟩
abbrev main_v43 : Ref sig .tc := ⟨.hbm, 193, rfl⟩
abbrev main_v44 : Ref sig .tc := ⟨.hbm, 194, rfl⟩
abbrev main_v45 : Ref sig .tc := ⟨.hbm, 195, rfl⟩
abbrev main_v46 : Ref sig .tc := ⟨.hbm, 196, rfl⟩
abbrev main_v47 : Ref sig .tc := ⟨.hbm, 197, rfl⟩
abbrev main_v48 : Ref sig .tc := ⟨.hbm, 198, rfl⟩
abbrev main_v49 : Ref sig .tc := ⟨.hbm, 199, rfl⟩
abbrev main_v50 : Ref sig .tc := ⟨.hbm, 200, rfl⟩
abbrev main_v51 : Ref sig .tc := ⟨.hbm, 201, rfl⟩
abbrev main_v52 : Ref sig .tc := ⟨.hbm, 202, rfl⟩
abbrev main_v53 : Ref sig .tc := ⟨.hbm, 203, rfl⟩
abbrev main_v54 : Ref sig .tc := ⟨.hbm, 204, rfl⟩
abbrev main_cst_8 : Ref sig .tc := ⟨.hbm, 205, rfl⟩
abbrev main_v55 : Ref sig .tc := ⟨.hbm, 206, rfl⟩
abbrev main_v56 : Ref sig .tc := ⟨.hbm, 207, rfl⟩
abbrev main_cst_9 : Ref sig .tc := ⟨.hbm, 208, rfl⟩
abbrev main_v57 : Ref sig .tc := ⟨.hbm, 209, rfl⟩
abbrev main_v58 : Ref sig .tc := ⟨.hbm, 210, rfl⟩
abbrev main_v59 : Ref sig .tc := ⟨.hbm, 211, rfl⟩
abbrev main_v60 : Ref sig .tc := ⟨.hbm, 212, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x1024 : Shape := ⟨3, ![2, 8192, 1024]⟩
abbrev S16384x1024 : Shape := ⟨2, ![16384, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S1x1024x512 : Shape := ⟨3, ![1, 1024, 512]⟩
abbrev S1x512x1024 : Shape := ⟨3, ![1, 512, 1024]⟩
abbrev S1024x4096 : Shape := ⟨2, ![1024, 4096]⟩
abbrev S4096x1024 : Shape := ⟨2, ![4096, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 20
  | .vmem => 19
  | .smem => 0
  | _ => 0

abbrev bufTy : (tb : Table) → Fin (tcTables nBuf tb) → BufTy
  | .hbm, ⟨0, _⟩ => ⟨S2x8192x1024, .bf16⟩
  | .hbm, ⟨1, _⟩ => ⟨S16384x1024, .f32⟩
  | .hbm, ⟨2, _⟩ => ⟨S1x1024x1024, .f32⟩
  | .hbm, ⟨3, _⟩ => ⟨S2x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S2x1024, .f32⟩
  | .hbm, ⟨8, _⟩ => ⟨S16384x1024, .bf16⟩
  | .hbm, ⟨9, _⟩ => ⟨S1024x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024x512, .f32⟩
  | .local _ .vmem, ⟨8, _⟩ => ⟨S1x1024x512, .f32⟩
  | .local _ .vmem, ⟨9, _⟩ => ⟨S1x512x1024, .f32⟩
  | .local _ .vmem, ⟨10, _⟩ => ⟨S1x512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1024x4096, .bf16⟩
  | .local _ .vmem, ⟨15, _⟩ => ⟨S4096x1024, .bf16⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![39], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c512_i32 : BitVec 32 := 512#32
  let v12 : BitVec 32 := Scalar.muli arg0 c512_i32
  v12
def k0_off1 (i : grid0.Coords) : Fin 2 → Nat :=
  let c0_10 : Index := 0#32
  let arg0 : BitVec 32 := BitVec.ofNat 32 (i 0).val
  let c512_i32 : BitVec 32 := 512#32
  let v12 : BitVec 32 := Scalar.muli arg0 c512_i32
  let v13 : BitVec 32 := v12
  let v20 : Index := Scalar.indexCast v13
  ![0, v20.toNat]
def k0_off2 (i : grid0.Coords) : Fin 2 → Nat :=
  let arg0 : BitVec 32 := BitVec.ofNat 32 (i 0).val
  let c512_i32 : BitVec 32 := 512#32
  let v12 : BitVec 32 := Scalar.muli arg0 c512_i32
  let v13 : BitVec 32 := v12
  let v24 : Index := Scalar.indexCast v13
  let c0_11 : Index := 0#32
  ![v24.toNat, 0]
def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c8_i32_3 : BitVec 32 := 8#32
  let v9 : BitVec 1 := Scalar.cmpi .sge arg0 c8_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  let c0_i32_0 : BitVec 32 := 0#32
  ![c1_i32.toNat, v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x8192x1024 : Shape := ⟨3, ![2, 8192, 1024]⟩
abbrev S16384x1024 : Shape := ⟨2, ![16384, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S16384x4096 : Shape := ⟨2, ![16384, 4096]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S16384x1024, .f32⟩
  | .hbm, ⟨2, _⟩ => ⟨S1x1024x1024, .f32⟩
  | .hbm, ⟨3, _⟩ => ⟨S2x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S2x1024, .f32⟩
  | .hbm, ⟨8, _⟩ => ⟨S2x8192x1024, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024x4096, .f32⟩
  | .hbm, ⟨50, _⟩ => ⟨S1024x4096, .f32⟩
  | .hbm, ⟨51, _⟩ => ⟨S1x4096x1024, .f32⟩
  | .hbm, ⟨52, _⟩ => ⟨S4096x1024, .f32⟩
  | .hbm, ⟨53, _⟩ => ⟨S16384x4096, .f32⟩
  | .hbm, ⟨54, _⟩ => ⟨S_, .f32⟩
  | .hbm, ⟨55, _⟩ => ⟨S16384x4096, .f32⟩
  | .hbm, ⟨56, _⟩ => ⟨S16384x4096, .f32⟩
  | .hbm, ⟨57, _⟩ => ⟨S16384x4096, .f32⟩
  | .hbm, ⟨58, _⟩ => ⟨S16384x1024, .f32⟩
  | .hbm, ⟨59, _⟩ => ⟨S1x1024, .f32⟩
  | .hbm, ⟨60, _⟩ => ⟨S1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S16384x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_cst : Ref sig .tc := ⟨.hbm, 54, rfl⟩
abbrev main_call0_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel3.lean ====
abbrev S16384x1024 : Shape := ⟨2, ![16384, 1024]⟩
abbrev S2x1024 : Shape := ⟨2, ![2, 1024]⟩
abbrev S1x1024x3088 : Shape := ⟨3, ![1, 1024, 3088]⟩
abbrev S1x16 : Shape := ⟨2, ![1, 16]⟩
abbrev S1x1024x3072 : Shape := ⟨3, ![1, 1024, 3072]⟩
abbrev S1024x3072 : Shape := ⟨2, ![1024, 3072]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S1x1024 : Shape := ⟨2, ![1, 1024]⟩
abbrev S1024 : Shape := ⟨1, ![1024]⟩
abbrev S2x512x8192 : Shape := ⟨3, ![2, 512, 8192]⟩
abbrev S16384x512 : Shape := ⟨2, ![16384, 512]⟩
abbrev S2x1024x8192 : Shape := ⟨3, ![2, 1024, 8192]⟩
abbrev S16384x128 : Shape := ⟨2, ![16384, 128]⟩
abbrev S1024x1024 : Shape := ⟨2, ![1024, 1024]⟩
abbrev S1x512x1024 : Shape := ⟨3, ![1, 512, 1024]⟩
abbrev S1024x512 : Shape := ⟨2, ![1024, 512]⟩
abbrev S1x1024x1024 : Shape := ⟨3, ![1, 1024, 1024]⟩
abbrev S512x1024 : Shape := ⟨2, ![512, 1024]⟩
abbrev S1024x1 : Shape := ⟨2, ![1024, 1]⟩

abbrev nBuf : Space → Nat
  | .hbm => 26
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1x1024x3072, .f32⟩
  | .hbm, ⟨5, _⟩ => ⟨S1024x3072, .f32⟩
  | .hbm, ⟨6, _⟩ => ⟨S1024x3072, .bf16⟩
  | .hbm, ⟨7, _⟩ => ⟨S1x1024x16, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S16, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S2x512x8192, .bf16⟩
  | .hbm, ⟨22, _⟩ => ⟨S16384x512, .bf16⟩
  | .hbm, ⟨23, _⟩ => ⟨S2x1024x8192, .bf16⟩
  | .hbm, ⟨24, _⟩ => ⟨S16384x1024, .bf16⟩
  | .hbm, ⟨25, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S1x512x1024, .bf16⟩
  | .local _ .vmem, ⟨7, _⟩ => ⟨S1x512x1024, .bf16⟩
  | .local _ .vmem, ⟨8, _⟩ => ⟨S1024x512, .bf16⟩
  | .local _ .vmem, ⟨9, _⟩ => ⟨S1024x512, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x128, .f32⟩
  | .local _ .vmem, ⟨15, _⟩ => ⟨S1024x128, .f32⟩
  | .local _ .vmem, ⟨16, _⟩ => ⟨S512x1024, .bf16⟩
  | .local _ .vmem, ⟨17, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel3Ideal.lean ====
variable {F : FTy → Type} [FloatOps F] [Named F]
def κ : String → Option EReal := fun
  | "inv_cap" => some ((1 / 15 : ℝ) : EReal)
  | "log2e" => some (((Real.log 2)⁻¹ : ℝ) : EReal)
  | _ => none
-- ==== Reference3Ideal.lean ====
abbrev S16384x1024 : Shape := ⟨2, ![16384, 1024]⟩
abbrev S2x1024 : Shape := ⟨2, ![2, 1024]⟩
abbrev S1x1024x3088 : Shape := ⟨3, ![1, 1024, 3088]⟩
abbrev S1x16 : Shape := ⟨2, ![1, 16]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3088 : Shape := ⟨2, ![1024, 3088]⟩
abbrev S16384x3088 : Shape := ⟨2, ![16384, 3088]⟩
abbrev S16384x512 : Shape := ⟨2, ![16384, 512]⟩
abbrev S16384x16 : Shape := ⟨2, ![16384, 16]⟩
abbrev S16 : Shape := ⟨1, ![16]⟩
abbrev S16384x128 : Shape := ⟨2, ![16384, 128]⟩
abbrev S16384x8 : Shape := ⟨2, ![16384, 8]⟩
abbrev S16384x120 : Shape := ⟨2, ![16384, 120]⟩
abbrev S2x8192x512 : Shape := ⟨3, ![2, 8192, 512]⟩
abbrev S2x512x8192 : Shape := ⟨3, ![2, 512, 8192]⟩
abbrev S2x8192x1024 : Shape := ⟨3, ![2, 8192, 1024]⟩
abbrev S2x1024x8192 : Shape := ⟨3, ![2, 1024, 8192]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x3088, .f32⟩
  | .hbm, ⟨23, _⟩ => ⟨S16384x3088, .f32⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x1024, .f32⟩
  | .hbm, ⟨28, _⟩ => ⟨S16384x16, .f32⟩
  | .hbm, ⟨29, _⟩ => ⟨S_, .f32⟩
  | .hbm, ⟨30, _⟩ => ⟨S16384x512, .f32⟩
  | .hbm, ⟨31, _⟩ => ⟨S16384x512, .f32⟩
  | .hbm, ⟨32, _⟩ => ⟨S16, .f32⟩
  | .hbm, ⟨33, _⟩ => ⟨S1x16, .f32⟩
  | .hbm, ⟨34, _⟩ => ⟨S16384x16, .f32⟩
  | .hbm, ⟨35, _⟩ => ⟨S16384x16, .f32⟩
  | .hbm, ⟨36, _⟩ => ⟨S_, .i32⟩
  | .hbm, ⟨37, _⟩ => ⟨S_, .f32⟩
  | .hbm, ⟨38, _⟩ => ⟨S16384x128, .f32⟩
  | .hbm, ⟨39, _⟩ => ⟨S_, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S_, .f32⟩
  | .hbm, ⟨44, _⟩ => ⟨S16384x128, .f32⟩
  | .hbm, ⟨45, _⟩ => ⟨S16384x128, .f32⟩
  | .hbm, ⟨46, _⟩ => ⟨S16384x8, .f32⟩
  | .hbm, ⟨47, _⟩ => ⟨S16384x120, .f32⟩
  | .hbm, ⟨48, _⟩ => ⟨S16384x120, .f32⟩
  | .hbm, ⟨49, _⟩ => ⟨S_, .f32⟩
  | .hbm, ⟨50, _⟩ => ⟨S16384x120, .f32⟩
  | .hbm, ⟨51, _⟩ => ⟨S16384x120, .f32⟩
  | .hbm, ⟨52, _⟩ => ⟨S16384x120, .f32⟩
  | .hbm, ⟨53, _⟩ => ⟨S16384x120, .f32⟩
  | .hbm, ⟨54, _⟩ => ⟨S16384x120, .i1⟩
  | .hbm, ⟨55, _⟩ => ⟨S16384x120, .f32⟩
  | .hbm, ⟨56, _⟩ => ⟨S16384x120, .f32⟩
  | .hbm, ⟨57, _⟩ => ⟨S16384x120, .f32⟩
  | .hbm, ⟨58, _⟩ => ⟨S16384x120, .f32⟩
  | .hbm, ⟨59, _⟩ => ⟨S16384x120, .f32⟩
  | .hbm, ⟨60, _⟩ => ⟨S16384x120, .f32⟩
  | .hbm, ⟨61, _⟩ => ⟨S16384x120, .f32⟩
  | .hbm, ⟨62, _⟩ => ⟨S16384x120, .f32⟩
  | .hbm, ⟨63, _⟩ => ⟨S16384x120, .f32⟩
  | .hbm, ⟨64, _⟩ => ⟨S_, .f32⟩
  | .hbm, ⟨65, _⟩ => ⟨S_, .f32⟩
  | .hbm, ⟨66, _⟩ => ⟨S2x8192x512, .f32⟩
  | .hbm, ⟨67, _⟩ => ⟨S2x512x8192, .f32⟩
  | .hbm, ⟨68, _⟩ => ⟨S2x512x8192, .bf16⟩
  | .hbm, ⟨69, _⟩ => ⟨S16384x512, .bf16⟩
  | .hbm, ⟨70, _⟩ => ⟨S2x8192x1024, .f32⟩
  | .hbm, ⟨71, _⟩ => ⟨S2x1024x8192, .f32⟩
  | .hbm, ⟨72, _⟩ => ⟨S2x1024x8192, .bf16⟩
  | .hbm, ⟨73, _⟩ => ⟨S16384x1024, .bf16⟩
  | .hbm, ⟨74, _⟩ => ⟨S16384x128, .f32⟩
  | .hbm, ⟨75, _⟩ => ⟨S16384x128, .f32⟩
  | .hbm, ⟨76, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call1_v0 : Ref sig .tc := ⟨.hbm, 48, rfl⟩
abbrev main_call1_call0_cst : Ref sig .tc := ⟨.hbm, 49, rfl⟩
abbrev main_call1_call0_v0 : Ref sig .tc := ⟨.hbm, 50, rfl⟩
abbrev main_call1_call0_v1 : Ref sig .tc := ⟨.hbm, 51, rfl⟩
abbrev main_call1_call0_v2 : Ref sig .tc := ⟨.hbm, 52, rfl⟩
abbrev main_call1_call0_v3 : Ref sig .tc := ⟨.hbm, 53, rfl⟩
abbrev main_call1_call0_v4 : Ref sig .tc := ⟨.hbm, 54, rfl⟩
abbrev main_call1_call0_v5 : Ref sig .tc := ⟨.hbm, 55, rfl⟩
abbrev main_call1_call0_v6 : Ref sig .tc := ⟨.hbm, 56, rfl⟩
abbrev main_call1_call0_v7 : Ref sig .tc := ⟨.hbm, 57, rfl⟩
abbrev main_call1_call0_v8 : Ref sig .tc := ⟨.hbm, 58, rfl⟩
abbrev main_call1_call0_v9 : Ref sig .tc := ⟨.hbm, 59, rfl⟩
abbrev main_call1_call0_v10 : Ref sig .tc := ⟨.hbm, 60, rfl⟩
abbrev main_call1_call0_v11 : Ref sig .tc := ⟨.hbm, 61, rfl⟩
abbrev main_call1_v1 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S1024x3072 : Shape := ⟨2, ![1024, 3072]⟩
abbrev S16384x1024 : Shape := ⟨2, ![16384, 1024]⟩
abbrev S64x1x1024 : Shape := ⟨3, ![64, 1, 1024]⟩
abbrev S2x8x32x144x256 : Shape := ⟨5, ![2, 8, 32, 144, 256]⟩
abbrev S1024x1024 : Shape := ⟨2, ![1024, 1024]⟩
abbrev S4x1x1024 : Shape := ⟨3, ![4, 1, 1024]⟩
abbrev S1x8x4x144x256 : Shape := ⟨5, ![1, 8, 4, 144, 256]⟩
abbrev S1024x1 : Shape := ⟨2, ![1024, 1]⟩
abbrev S256x1024 : Shape := ⟨2, ![256, 1024]⟩
abbrev S1x1x1024 : Shape := ⟨3, ![1, 1, 1024]⟩
abbrev S16x256 : Shape := ⟨2, ![16, 256]⟩
abbrev S128x256 : Shape := ⟨2, ![128, 256]⟩
abbrev S1x1x1x128x256 : Shape := ⟨5, ![1, 1, 1, 128, 256]⟩
abbrev S1x1x1x16x256 : Shape := ⟨5, ![1, 1, 1, 16, 256]⟩

abbrev nBuf : Space → Nat
  | .hbm => 12
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S1024x3072, .f32⟩
  | .hbm, ⟨6, _⟩ => ⟨S16384x1024, .f32⟩
  | .hbm, ⟨7, _⟩ => ⟨S1x1024, .f32⟩
  | .hbm, ⟨8, _⟩ => ⟨S16384x1024, .bf16⟩
  | .hbm, ⟨9, _⟩ => ⟨S16384x1024, .bf16⟩
  | .hbm, ⟨10, _⟩ => ⟨S64x1x1024, .f32⟩
  | .hbm, ⟨11, _⟩ => ⟨S2x8x32x144x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4x1x1024, .f32⟩
  | .local _ .vmem, ⟨9, _⟩ => ⟨S4x1x1024, .f32⟩
  | .local _ .vmem, ⟨10, _⟩ => ⟨S1x8x4x144x256, .bf16⟩
  | .local _ .vmem, ⟨11, _⟩ => ⟨S1x8x4x144x256, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x4x144x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel4Ideal.lean ====
variable {F : FTy → Type} [FloatOps F] [Named F]
def κ : String → Option EReal := fun
  | "q_scale" => some (((Real.sqrt 128)⁻¹ * (Real.log 2)⁻¹ : ℝ) : EReal)
  | _ => none
-- ==== Reference4Ideal.lean ====
abbrev S2x8192x1024 : Shape := ⟨3, ![2, 8192, 1024]⟩
abbrev S2x1024 : Shape := ⟨2, ![2, 1024]⟩
abbrev S1x1024x3072 : Shape := ⟨3, ![1, 1024, 3072]⟩
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩
abbrev S64x256x1024 : Shape := ⟨3, ![64, 256, 1024]⟩
abbrev S64x1024 : Shape := ⟨2, ![64, 1024]⟩
abbrev S64x1x1024 : Shape := ⟨3, ![64, 1, 1024]⟩
abbrev S2x32x256x8x128 : Shape := ⟨5, ![2, 32, 256, 8, 128]⟩
abbrev S2x8x32x128x256 : Shape := ⟨5, ![2, 8, 32, 128, 256]⟩
abbrev S16 : Shape := ⟨1, ![16]⟩
abbrev S16x1 : Shape := ⟨2, ![16, 1]⟩
abbrev S2x8x32x16x256 : Shape := ⟨5, ![2, 8, 32, 16, 256]⟩
abbrev S2x8x32x144x256 : Shape := ⟨5, ![2, 8, 32, 144, 256]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3072, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x3072, .f32⟩
  | .hbm, ⟨23, _⟩ => ⟨S16384x3072, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S64x256x1024, .f32⟩
  | .hbm, ⟨36, _⟩ => ⟨S_, .f32⟩
  | .hbm, ⟨37, _⟩ => ⟨S64x1024, .f32⟩
  | .hbm, ⟨38, _⟩ => ⟨S64x1x1024, .f32⟩
  | .hbm, ⟨39, _⟩ => ⟨S_, .f32⟩
  | .hbm, ⟨40, _⟩ => ⟨S64x1x1024, .f32⟩
  | .hbm, ⟨41, _⟩ => ⟨S64x1x1024, .f32⟩
  | .hbm, ⟨42, _⟩ => ⟨S2x32x256x8x128, .f32⟩
  | .hbm, ⟨43, _⟩ => ⟨S2x8x32x128x256, .f32⟩
  | .hbm, ⟨44, _⟩ => ⟨S16, .i32⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S16, .f32⟩
  | .hbm, ⟨49, _⟩ => ⟨S16x1, .f32⟩
  | .hbm, ⟨50, _⟩ => ⟨S2x8x32x16x256, .f32⟩
  | .hbm, ⟨51, _⟩ => ⟨S16384x1024, .bf16⟩
  | .hbm, ⟨52, _⟩ => ⟨S16384x1024, .bf16⟩
  | .hbm, ⟨53, _⟩ => ⟨S2x8x32x144x256, .f32⟩
  | .hbm, ⟨54, _⟩ => ⟨S2x8x32x144x256, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.ScanVocab.lean ====
module

public import proofs.«01_k».proof.Proof.Gen.KernelIdeal.Frame
public import Idealize.ShloMosaic.Lib.Pipeline.Value
public import Idealize.ShloMosaic.Lib.Pipeline.ReadBack

/-! The scan kernel's work at one grid point in one vocabulary: the same functions of a head number for all eight
    heads, of the blocks fetched and of the four arrays carried from the point before. -/

@[expose] public section

set_option maxRecDepth 16384

noncomputable section

namespace Cert.Scan

open Idealize.ShloMosaic Idealize.ShloMosaic.TcCoe Idealize.ShloMosaic.Tactic Idealize.SL.Sem
open Cert.KernelIdeal Cert.KernelIdeal.Gen

variable {F : FTy → Type} [FloatOps F]

/-- Rows `64 * half … 64 * half + 63` of a pair's 128 query rows, the other rows zero. -/
def qMask (half : Nat) (q : Vec F S1x128x256 .bf16) : FVec F S128x256 .bf16 :=
  select (broadcastTo S128x256 (shapeCast S128x1 (andi (cmpi .sge (iota .tc S128x1 32 [0] iota_S128x1_d0_w32) (broadcast S128x1 (BitVec.ofNat 32 (64 * half))))
      (cmpi .slt (iota .tc S128x1 32 [0] iota_S128x1_d0_w32) (broadcast S128x1 (BitVec.ofNat 32 (64 * half + 64))))) shapeCasts_S128x1_S128x1) broadcasts_S128x1_S128x256)
    (shapeCast S128x256 q shapeCasts_S1x128x256_S128x256) (broadcast S128x256 (Scalar.ofBits .bf16 0x0000#16))

/-- Keys against queries: row `s`, column `t`. -/
def sQK (half : Nat) (q : Vec F S1x128x256 .bf16) (k : Vec F S1x256x128 .bf16) : FVec F S256x256 .f32 :=
  matmul dot_S256x128_S128x256_S256x256_1_0_0_1_n_n none (shapeCast S256x128 k shapeCasts_S1x256x128_S256x128) (qMask half q) (constant S256x256 .f32 0x00000000#32)

/-- The carried state against the queries. -/
def inter (half : Nat) (q : Vec F S1x128x256 .bf16) (C : Vec F S1x144x128 .f32) : FVec F S144x256 .f32 :=
  matmul dot_S144x128_S128x256_S144x256_1_0_0_1_n_n none (truncf .bf16 (shapeCast S144x128 C shapeCasts_S1x144x128_S144x128) bitsLt_bf16_f32) (qMask half q)
    (constant S144x256 .f32 0x00000000#32)

/-- The log weight of position `s` in the result at `t`, minus infinity past the diagonal. -/
def logD (b : Vec F S1x256 .f32) (u : Vec F S256x1 .f32) : FVec F S256x256 .f32 :=
  select (cmpi .sle (iota .tc S256x256 32 [0] iota_S256x256_d0_w32) (iota .tc S256x256 32 [1] iota_S256x256_d1_w32))
    (addf (broadcastTo S256x256 u broadcasts_S256x1_S256x256) (broadcastTo S256x256 b broadcasts_S1x256_S256x256))
    (broadcast S256x256 (Scalar.ofBits .f32 0xFF800000#32))

/-- The log weight of the carried state in the result at `t`. -/
def logI (b : Vec F S1x256 .f32) (m : Vec F S1x1x128 .f32) : FVec F S1x256 .f32 :=
  addf b (broadcastTo S1x256 (extractStridedSlice S1x1 ![0, 0] (shapeCast S1x128 m shapeCasts_S1x1x128_S1x128) slices_S1x128_o0_0_S1x1) broadcasts_S1x1_S1x256)

/-- The largest log weight at `t`. -/
def mT (b : Vec F S1x256 .f32) (m : Vec F S1x1x128 .f32) (u : Vec F S256x1 .f32) : FVec F S1x256 .f32 :=
  maximumf (logI b m) (shapeCast S1x256 (multiReduction .maximumf [0] S256 (logD b u) 0xFF800000#32 reduces_S256x256_S256 (.inl rfl) rfl) shapeCasts_S256_S1x256)

/-- The weighted scores. -/
def sT (half : Nat) (q : Vec F S1x128x256 .bf16) (k : Vec F S1x256x128 .bf16) (b : Vec F S1x256 .f32) (m : Vec F S1x1x128 .f32) (u : Vec F S256x1 .f32) : FVec F S256x256 .bf16 :=
  truncf .bf16 (mulf (sQK half q k) (exp2 (subf (logD b u) (broadcastTo S256x256 (mT b m u) broadcasts_S1x256_S256x256)))) bitsLt_bf16_f32

/-- The values with a row of ones beneath. -/
def vExt (v : Vec F S1x128x256 .bf16) : FVec F S144x256 .bf16 :=
  concatenate S144x256 0 [⟨S128x256, shapeCast S128x256 v shapeCasts_S1x128x256_S128x256⟩,
    ⟨S16x256, truncf .bf16 (sitofp .f32 (extui 32 (cmpi .eq (iota .tc S16x256 32 [0] iota_S16x256_d0_w32) (broadcast S16x256 0#32)) natLt_1_32)) bitsLt_bf16_f32⟩]
    concatenates_S128x256_S16x256_S144x256_d0

/-- Numerator rows and the denominator's row. -/
def num (half : Nat) (q : Vec F S1x128x256 .bf16) (k : Vec F S1x256x128 .bf16) (v : Vec F S1x128x256 .bf16) (C : Vec F S1x144x128 .f32)
    (m : Vec F S1x1x128 .f32) (b : Vec F S1x256 .f32) (u : Vec F S256x1 .f32) : FVec F S144x256 .f32 :=
  addf (mulf (broadcastTo S144x256 (exp2 (subf (logI b m) (mT b m u))) broadcasts_S1x256_S144x256) (inter half q C))
    (matmul dot_S144x256_S256x256_S144x256_1_0_0_1_n_n none (vExt v) (sT half q k b m u) (constant S144x256 .f32 0x00000000#32))

/-- A head's result before its norm. -/
def hOut (half : Nat) (q : Vec F S1x128x256 .bf16) (k : Vec F S1x256x128 .bf16) (v : Vec F S1x128x256 .bf16) (C : Vec F S1x144x128 .f32)
    (m : Vec F S1x1x128 .f32) (b : Vec F S1x256 .f32) (u : Vec F S256x1 .f32) : FVec F S128x256 .f32 :=
  mulf (extractStridedSlice S128x256 ![0, 0] (num half q k v C m b u) slices_S144x256_o0_0_S128x256)
    (broadcastTo S128x256 (divf (broadcast S1x256 (Scalar.ofBits .f32 0x3F800000#32))
      (maximumf (absf (extractStridedSlice S1x256 ![128, 0] (num half q k v C m b u) slices_S144x256_o128_0_S1x256))
        (exp2 (subf (broadcast S1x256 (Scalar.ofBits .f32 0x00000000#32)) (mT b m u))))) broadcasts_S1x256_S128x256)

/-- A head's norm, gate and scale. -/
def gateNorm (h : FVec F S128x256 .f32) (o : Vec F S1x256x128 .bf16) (nh : Vec F S1x128 .f32) : FVec F S1x256x128 .bf16 :=
  shapeCast S1x256x128 (truncf .bf16 (mulf
    (addf (mulf (broadcast S256x128 (Scalar.ofBits .f32 0x3F000000#32)) (tanh (mulf (broadcast S256x128 (Scalar.ofBits .f32 0x3F000000#32))
      (extf .f32 (shapeCast S256x128 o shapeCasts_S1x256x128_S256x128) bitsLt_bf16_f32)))) (broadcast S256x128 (Scalar.ofBits .f32 0x3F000000#32)))
    (mulf (transpose S256x128 [1, 0] (mulf h (broadcastTo S128x256 (rsqrt (addf (divf (shapeCast S1x256
        (multiReduction .add [0] S256 (mulf h h) 0x00000000#32 reduces_S128x256_S256 (.inl rfl) rfl) shapeCasts_S256_S1x256)
        (broadcast S1x256 (Scalar.ofBits .f32 0x43000000#32))) (broadcast S1x256 (Scalar.ofBits .f32 0x358637BD#32)))) broadcasts_S1x256_S128x256)) transposes_S128x256_p1_0_S256x128)
      (broadcastTo S256x128 (shapeCast S1x128 nh shapeCasts_S1x128_S1x128) broadcasts_S1x128_S256x128))) bitsLt_bf16_f32) shapeCasts_S256x128_S1x256x128

/-- The log weight of position `s` in the state the chunk leaves. -/
def logW (b i : Vec F S1x256 .f32) : FVec F S1x256 .f32 :=
  addf (subf (broadcastTo S1x256 (extractStridedSlice S1x1 ![0, 255] b slices_S1x256_o0_255_S1x1) broadcasts_S1x1_S1x256) b) i

/-- The log weight of the carried state in the state the chunk leaves. -/
def logE (b : Vec F S1x256 .f32) (m : Vec F S1x1x128 .f32) : FVec F S1x1 .f32 :=
  addf (extractStridedSlice S1x1 ![0, 255] b slices_S1x256_o0_255_S1x1) (extractStridedSlice S1x1 ![0, 0] (shapeCast S1x128 m shapeCasts_S1x1x128_S1x128) slices_S1x128_o0_0_S1x1)

/-- The largest of them, carried on. -/
def mNew (b i : Vec F S1x256 .f32) (m : Vec F S1x1x128 .f32) : FVec F S1x1 .f32 :=
  maximumf (logE b m) (shapeCast S1x1 (multiReduction .maximumf [1] S1 (logW b i) 0xFF800000#32 reduces_S1x256_S1 (.inl rfl) rfl) shapeCasts_S1_S1x1)

/-- It fills a row of lanes. -/
def mFill (b i : Vec F S1x256 .f32) (m : Vec F S1x1x128 .f32) : FVec F S1x1x128 .f32 :=
  shapeCast S1x1x128 (broadcastTo S1x128 (shapeCast S1x1 (mNew b i m) shapeCasts_S1x1_S1x1) broadcasts_S1x1_S1x128) shapeCasts_S1x128_S1x1x128

/-- The carried state's factor. -/
def decay (b i : Vec F S1x256 .f32) (m : Vec F S1x1x128 .f32) : FVec F S1x1 .f32 := exp2 (subf (logE b m) (mNew b i m))

/-- The chunk's own part of the state it leaves. -/
def upd (k : Vec F S1x256x128 .bf16) (v : Vec F S1x128x256 .bf16) (b i : Vec F S1x256 .f32) (m : Vec F S1x1x128 .f32) : FVec F S144x128 .f32 :=
  matmul dot_S144x256_S256x128_S144x128_1_0_0_1_n_n none
    (truncf .bf16 (mulf (extf .f32 (vExt v) bitsLt_bf16_f32) (broadcastTo S144x256 (exp2 (subf (logW b i) (broadcastTo S1x256 (mNew b i m) broadcasts_S1x1_S1x256))) broadcasts_S1x256_S144x256)) bitsLt_bf16_f32)
    (shapeCast S256x128 k shapeCasts_S1x256x128_S256x128) (constant S144x128 .f32 0x00000000#32)

/-- A pair's new state from the two heads' factors and parts. -/
def cNew (C : Vec F S1x144x128 .f32) (d0 d1 : FVec F S1x1 .f32) (u0 u1 : FVec F S144x128 .f32) : FVec F S1x144x128 .f32 :=
  shapeCast S1x144x128 (addf (mulf (broadcastTo S144x128 (select (cmpi .slt (iota .tc S1x128 32 [1] iota_S1x128_d1_w32) (broadcast S1x128 64#32))
      (broadcastTo S1x128 (shapeCast S1x1 d0 shapeCasts_S1x1_S1x1) broadcasts_S1x1_S1x128) (broadcastTo S1x128 (shapeCast S1x1 d1 shapeCasts_S1x1_S1x1) broadcasts_S1x1_S1x128)) broadcasts_S1x128_S144x128)
      (shapeCast S144x128 C shapeCasts_S1x144x128_S144x128))
    (select (broadcastTo S144x128 (shapeCast S1x128 (cmpi .slt (iota .tc S1x128 32 [1] iota_S1x128_d1_w32) (broadcast S1x128 64#32)) shapeCasts_S1x128_S1x128) broadcasts_S1x128_S144x128) u0 u1))
    shapeCasts_S144x128_S1x144x128

/-! ## The cuts -/

/-- A pair's rows of the queries. -/
def qOf (x0 : Vec F S1x512x256 .bf16) (p : Fin 4) : Vec F S1x128x256 .bf16 :=
  View.ld x0 (Rect.unit (s := S1x512x256) ![0, 128 * p.val, 0] ![1, 128, 256] (by intro a; fin_cases p <;> fin_cases a <;> decide))
/-- A pair's columns of the keys. -/
def kOf (x1 : Vec F S1x256x512 .bf16) (p : Fin 4) : Vec F S1x256x128 .bf16 :=
  View.ld x1 (Rect.unit (s := S1x256x512) ![0, 0, 128 * p.val] ![1, 256, 128] (by intro a; fin_cases p <;> fin_cases a <;> decide))
/-- A head's rows of the values. -/
def vOf (x2 : Vec F S1x1024x256 .bf16) (h : Fin 8) : Vec F S1x128x256 .bf16 :=
  View.ld x2 (Rect.unit (s := S1x1024x256) ![0, 128 * h.val, 0] ![1, 128, 256] (by intro a; fin_cases h <;> fin_cases a <;> decide))
/-- A head's columns of the output gate. -/
def oOf (x3 : Vec F S1x256x1024 .bf16) (h : Fin 8) : Vec F S1x256x128 .bf16 :=
  View.ld x3 (Rect.unit (s := S1x256x1024) ![0, 0, 128 * h.val] ![1, 256, 128] (by intro a; fin_cases h <;> fin_cases a <;> decide))
/-- A head's lanes of the norm's scale. -/
def nOf (x6 : Vec F S1x1024 .f32) (h : Fin 8) : Vec F S1x128 .f32 :=
  View.ld x6 (Rect.unit (s := S1x1024) ![0, 128 * h.val] ![1, 128] (by intro a; fin_cases h <;> fin_cases a <;> decide))
/-- A pair's carried state. -/
def cOf (C : Vec F S4x144x128 .f32) (p : Fin 4) : Vec F S1x144x128 .f32 :=
  View.ld C (Rect.unit (s := S4x144x128) ![p.val, 0, 0] ![1, 144, 128] (by intro a; fin_cases p <;> fin_cases a <;> decide))
/-- A head's carried maximum. -/
def mOf (m : Vec F S8x1x128 .f32) (h : Fin 8) : Vec F S1x1x128 .f32 :=
  View.ld m (Rect.unit (s := S8x1x128) ![h.val, 0, 0] ![1, 1, 128] (by intro a; fin_cases h <;> fin_cases a <;> decide))
/-- A head's input gates. -/
def iOf (r : Vec F S16x256 .f32) (h : Fin 8) : Vec F S1x256 .f32 :=
  View.ld r (Rect.unit (s := S16x256) ![h.val, 0] ![1, 256] (by intro a; fin_cases h <;> fin_cases a <;> decide))
/-- A head's summed forget gates. -/
def bOf (r : Vec F S16x256 .f32) (h : Fin 8) : Vec F S1x256 .f32 :=
  View.ld r (Rect.unit (s := S16x256) ![8 + h.val, 0] ![1, 256] (by intro a; fin_cases h <;> fin_cases a <;> decide))
/-- A head's column of input gate less summed forget gates. -/
def uOf (u : Vec F S256x128 .f32) (h : Fin 8) : Vec F S256x1 .f32 :=
  View.ld u (Rect.unit (s := S256x128) ![0, h.val] ![256, 1] (by intro a; fin_cases h <;> fin_cases a <;> decide))

/-- A chunk's gates, loaded whole. -/
def gOf (g : Vec F S1x256x128 .f32) : Vec F S1x256x128 .f32 :=
  View.ld g (Rect.unit (s := S1x256x128) ![0, 0, 0] ![1, 256, 128] (by decide))

theorem gOf_eq (g : Vec F S1x256x128 .f32) : gOf g = g := View.ld_unit_zero (by decide) _ g

/-- The pair of a head. -/
def pr (h : Fin 8) : Fin 4 := ⟨h.val / 2, by omega⟩

/-- A head's block of the result. -/
def yHead (x0 : Vec F S1x512x256 .bf16) (x1 : Vec F S1x256x512 .bf16) (x2 : Vec F S1x1024x256 .bf16) (x3 : Vec F S1x256x1024 .bf16) (x6 : Vec F S1x1024 .f32)
    (C : Vec F S4x144x128 .f32) (m : Vec F S8x1x128 .f32) (r : Vec F S16x256 .f32) (u : Vec F S256x128 .f32) (h : Fin 8) : FVec F S1x256x128 .bf16 :=
  gateNorm (hOut (h.val % 2) (qOf x0 (pr h)) (kOf x1 (pr h)) (vOf x2 h) (cOf C (pr h)) (mOf m h) (bOf r h) (uOf u h)) (oOf x3 h) (nOf x6 h)

/-- A pair's new state. -/
def cPair (x1 : Vec F S1x256x512 .bf16) (x2 : Vec F S1x1024x256 .bf16) (C : Vec F S4x144x128 .f32) (m : Vec F S8x1x128 .f32) (r : Vec F S16x256 .f32)
    (p : Fin 4) : FVec F S1x144x128 .f32 :=
  let h0 : Fin 8 := ⟨2 * p.val, by omega⟩
  let h1 : Fin 8 := ⟨2 * p.val + 1, by omega⟩
  cNew (cOf C p) (decay (bOf r h0) (iOf r h0) (mOf m h0)) (decay (bOf r h1) (iOf r h1) (mOf m h1))
    (upd (kOf x1 p) (vOf x2 h0) (bOf r h0) (iOf r h0) (mOf m h0)) (upd (kOf x1 p) (vOf x2 h1) (bOf r h1) (iOf r h1) (mOf m h1))

/-- A head's new maximum. -/
def mHead (m : Vec F S8x1x128 .f32) (r : Vec F S16x256 .f32) (h : Fin 8) : FVec F S1x1x128 .f32 := mFill (bOf r h) (iOf r h) (mOf m h)

/-! ## The gates of a chunk -/

/-- Input gates, one row a head. -/
def iRows (g : Vec F S1x256x128 .f32) : FVec F S8x256 .f32 :=
  extractStridedSlice S8x256 ![0, 0] (transpose S128x256 [1, 0] (shapeCast S256x128 g shapeCasts_S1x256x128_S256x128) transposes_S256x128_p1_0_S128x256) slices_S128x256_o0_0_S8x256

/-- Forget gates, one row a head. -/
def fRows (g : Vec F S1x256x128 .f32) : FVec F S8x256 .f32 :=
  extractStridedSlice S8x256 ![8, 0] (transpose S128x256 [1, 0] (shapeCast S256x128 g shapeCasts_S1x256x128_S256x128) transposes_S256x128_p1_0_S128x256) slices_S128x256_o8_0_S8x256

/-- Ones on and above the diagonal. -/
def tri : FVec F S256x256 .bf16 :=
  truncf .bf16 (sitofp .f32 (extui 32 (cmpi .sle (iota .tc S256x256 32 [0] iota_S256x256_d0_w32) (iota .tc S256x256 32 [1] iota_S256x256_d1_w32)) natLt_1_32)) bitsLt_bf16_f32

/-- The forget gates' running sums, taken in three parts. -/
def bRows (g : Vec F S1x256x128 .f32) : FVec F S8x256 .f32 :=
  let f : FVec F S8x256 .f32 := fRows g
  let hi : FVec F S8x256 .bf16 := truncf .bf16 f bitsLt_bf16_f32
  let r1 : FVec F S8x256 .f32 := subf f (extf .f32 hi bitsLt_bf16_f32)
  let mid : FVec F S8x256 .bf16 := truncf .bf16 r1 bitsLt_bf16_f32
  let lo : FVec F S8x256 .bf16 := truncf .bf16 (subf r1 (extf .f32 mid bitsLt_bf16_f32)) bitsLt_bf16_f32
  addf (addf (matmul dot_S8x256_S256x256_S8x256_1_0_0_1_n_n none hi tri (constant S8x256 .f32 0x00000000#32))
    (matmul dot_S8x256_S256x256_S8x256_1_0_0_1_n_n none mid tri (constant S8x256 .f32 0x00000000#32)))
    (matmul dot_S8x256_S256x256_S8x256_1_0_0_1_n_n none lo tri (constant S8x256 .f32 0x00000000#32))

/-- The column form. -/
def uCol (g : Vec F S1x256x128 .f32) : FVec F S256x128 .f32 :=
  shapeCast S256x128 (transpose S256x128 [1, 0] (concatenate S128x256 0 [⟨S8x256, subf (iRows g) (bRows g)⟩, ⟨S120x256, broadcast S120x256 (Scalar.ofBits .f32 0x00000000#32)⟩]
    concatenates_S8x256_S120x256_S128x256_d0) transposes_S128x256_p1_0_S256x128) shapeCasts_S256x128_S256x128

/-! ## What a point stores -/

/-- The result's pieces, last first. -/
def yPieces (x0 : Vec F S1x512x256 .bf16) (x1 : Vec F S1x256x512 .bf16) (x2 : Vec F S1x1024x256 .bf16) (x3 : Vec F S1x256x1024 .bf16) (x6 : Vec F S1x1024 .f32)
    (C : Vec F S4x144x128 .f32) (m : Vec F S8x1x128 .f32) (r : Vec F S16x256 .f32) (u : Vec F S256x128 .f32) : List (View.Piece (Elt F) S1x256x1024 .bf16) :=
  [⟨Rect.unit (s := S1x256x1024) ![0, 0, 896] ![1, 256, 128] (by decide), yHead x0 x1 x2 x3 x6 C m r u 7⟩,
   ⟨Rect.unit (s := S1x256x1024) ![0, 0, 768] ![1, 256, 128] (by decide), yHead x0 x1 x2 x3 x6 C m r u 6⟩,
   ⟨Rect.unit (s := S1x256x1024) ![0, 0, 640] ![1, 256, 128] (by decide), yHead x0 x1 x2 x3 x6 C m r u 5⟩,
   ⟨Rect.unit (s := S1x256x1024) ![0, 0, 512] ![1, 256, 128] (by decide), yHead x0 x1 x2 x3 x6 C m r u 4⟩,
   ⟨Rect.unit (s := S1x256x1024) ![0, 0, 384] ![1, 256, 128] (by decide), yHead x0 x1 x2 x3 x6 C m r u 3⟩,
   ⟨Rect.unit (s := S1x256x1024) ![0, 0, 256] ![1, 256, 128] (by decide), yHead x0 x1 x2 x3 x6 C m r u 2⟩,
   ⟨Rect.unit (s := S1x256x1024) ![0, 0, 128] ![1, 256, 128] (by decide), yHead x0 x1 x2 x3 x6 C m r u 1⟩,
   ⟨Rect.unit (s := S1x256x1024) ![0, 0, 0] ![1, 256, 128] (by decide), yHead x0 x1 x2 x3 x6 C m r u 0⟩]

/-- The state's pieces, last first. -/
def cPieces (x1 : Vec F S1x256x512 .bf16) (x2 : Vec F S1x1024x256 .bf16) (C : Vec F S4x144x128 .f32) (m : Vec F S8x1x128 .f32) (r : Vec F S16x256 .f32) : List (View.Piece (Elt F) S4x144x128 .f32) :=
  [⟨Rect.unit (s := S4x144x128) ![3, 0, 0] ![1, 144, 128] (by decide), cPair x1 x2 C m r 3⟩,
   ⟨Rect.unit (s := S4x144x128) ![2, 0, 0] ![1, 144, 128] (by decide), cPair x1 x2 C m r 2⟩,
   ⟨Rect.unit (s := S4x144x128) ![1, 0, 0] ![1, 144, 128] (by decide), cPair x1 x2 C m r 1⟩,
   ⟨Rect.unit (s := S4x144x128) ![0, 0, 0] ![1, 144, 128] (by decide), cPair x1 x2 C m r 0⟩]

/-- The maxima's pieces, last first. -/
def mPieces (m : Vec F S8x1x128 .f32) (r : Vec F S16x256 .f32) : List (View.Piece (Elt F) S8x1x128 .f32) :=
  [⟨Rect.unit (s := S8x1x128) ![7, 0, 0] ![1, 1, 128] (by decide), mHead m r 7⟩,
   ⟨Rect.unit (s := S8x1x128) ![6, 0, 0] ![1, 1, 128] (by decide), mHead m r 6⟩,
   ⟨Rect.unit (s := S8x1x128) ![5, 0, 0] ![1, 1, 128] (by decide), mHead m r 5⟩,
   ⟨Rect.unit (s := S8x1x128) ![4, 0, 0] ![1, 1, 128] (by decide), mHead m r 4⟩,
   ⟨Rect.unit (s := S8x1x128) ![3, 0, 0] ![1, 1, 128] (by decide), mHead m r 3⟩,
   ⟨Rect.unit (s := S8x1x128) ![2, 0, 0] ![1, 1, 128] (by decide), mHead m r 2⟩,
   ⟨Rect.unit (s := S8x1x128) ![1, 0, 0] ![1, 1, 128] (by decide), mHead m r 1⟩,
   ⟨Rect.unit (s := S8x1x128) ![0, 0, 0] ![1, 1, 128] (by decide), mHead m r 0⟩]

/-- The gate rows' pieces, last first. -/
def rPieces (g : Vec F S1x256x128 .f32) : List (View.Piece (Elt F) S16x256 .f32) :=
  [⟨Rect.unit (s := S16x256) ![8, 0] ![8, 256] (by decide), shapeCast S8x256 (bRows g) shapeCasts_S8x256_S8x256⟩,
   ⟨Rect.unit (s := S16x256) ![0, 0] ![8, 256] (by decide), shapeCast S8x256 (iRows g) shapeCasts_S8x256_S8x256⟩]

end Cert.Scan
-- ==== Proof.ScanConst.lean ====
module

public import Idealize.ShloMosaic.Lib.Pointwise
public import Idealize.ShloMosaic.Lib.WordCmp

/-! Constants, comparisons of index words and the gate of the scan over the extended reals. -/

@[expose] public section

noncomputable section

namespace Cert.Scan

open Idealize.ShloMosaic Idealize.SL.Sem

/-- The pattern of minus infinity. -/
theorem ofBits_negInf : Ideal.ofBits .f32 0xFF800000#32 = (⊥ : EReal) := by
  simp [Ideal.ofBits, Ideal.ieee]

/-- The pattern of one half. -/
theorem ofBits_half : Ideal.ofBits .f32 0x3F000000#32 = (((1 / 2 : ℝ)) : EReal) := by
  simp [Ideal.ofBits, Ideal.ieee]
  rw [← EReal.coe_mul]
  congr 1
  norm_num

/-- The pattern of 128. -/
theorem ofBits_128 : Ideal.ofBits .f32 0x43000000#32 = (((128 : ℝ)) : EReal) := by
  simp [Ideal.ofBits, Ideal.ieee]
  rw [← EReal.coe_mul]
  congr 1
  norm_num

/-- Small index words compare as their numbers. -/
theorem sle_word {a b : Nat} (ha : a < 1024) (hb : b < 1024) :
    IntOp.cmpi .sle (BitVec.ofNat 32 a) (BitVec.ofNat 32 b) = BitVec.ofBool (decide (a ≤ b)) :=
  WordCmp.cmpi_sle_ofNat (by omega) (by omega)

theorem slt_word {a b : Nat} (ha : a < 1024) (hb : b < 1024) :
    IntOp.cmpi .slt (BitVec.ofNat 32 a) (BitVec.ofNat 32 b) = BitVec.ofBool (decide (a < b)) :=
  WordCmp.cmpi_slt_ofNat (by omega) (by omega)

theorem sge_word {a b : Nat} (ha : a < 1024) (hb : b < 1024) :
    IntOp.cmpi .sge (BitVec.ofNat 32 a) (BitVec.ofNat 32 b) = BitVec.ofBool (decide (b ≤ a)) :=
  WordCmp.cmpi_sge_ofNat (by omega) (by omega)

theorem eq_word {a b : Nat} (ha : a < 1024) (hb : b < 1024) :
    IntOp.cmpi .eq (BitVec.ofNat 32 a) (BitVec.ofNat 32 b) = BitVec.ofBool (decide (a = b)) :=
  WordCmp.cmpi_eq_ofNat (by omega) (by omega)

/-- A bit as a float. -/
theorem bit_float (p : Prop) [Decidable p] :
    (FloatOps.sitofp (F := Ideal) .f32 (BitVec.setWidth 32 (BitVec.ofBool (decide p)))) = (if p then 1 else 0 : EReal) := by
  by_cases h : p <;> simp [h, FloatOps.sitofp]

/-- Half a hyperbolic tangent of half the argument, shifted: the logistic function, at every extended real. -/
theorem gate_eq (x : EReal) :
    (((1 / 2 : ℝ)) : EReal) * Ideal.tanh ((((1 / 2 : ℝ)) : EReal) * x) + (((1 / 2 : ℝ)) : EReal) = Ideal.div 1 (1 + Ideal.exp (-x)) := by
  have hl : Ideal.div 1 (1 + Ideal.exp (-x)) = Ideal.logistic x := rfl
  rw [hl]
  induction x with
  | bot =>
    rw [EReal.coe_mul_bot_of_pos (by norm_num), Ideal.tanh_bot, Ideal.logistic_bot]
    have h : (-1 : EReal) = ((-1 : ℝ) : EReal) := by simp
    rw [h, ← EReal.coe_mul, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add]
    congr 1
    have h1 : Real.exp (1 / 2 * r) * Real.exp (-(1 / 2 * r)) = 1 := by rw [← Real.exp_add]; simp
    have h2 : Real.exp (-r) = Real.exp (-(1 / 2 * r)) * Real.exp (-(1 / 2 * r)) := by rw [← Real.exp_add]; congr 1; ring
    rw [Real.tanh_eq_sinh_div_cosh, Real.sinh_eq, Real.cosh_eq, h2]
    have p1 := Real.exp_pos (1 / 2 * r)
    have p2 := Real.exp_pos (-(1 / 2 * r))
    set A := Real.exp (1 / 2 * r)
    set B := Real.exp (-(1 / 2 * r))
    field_simp
    nlinarith [h1]

end Cert.Scan
-- ==== Proof.ScanRead.lean ====
module

public import proofs.«01_k».proof.Proof.ScanVocab
public import proofs.«01_k».proof.Proof.ScanConst

/-! The scan's vocabulary read at an index over the extended reals. -/

@[expose] public section

set_option maxRecDepth 16384

noncomputable section

namespace Cert.Scan

open Idealize.ShloMosaic Idealize.ShloMosaic.TcCoe Idealize.SL.Sem
open Cert.KernelIdeal Cert.KernelIdeal.Gen

theorem coe_sum {ι : Type} [Fintype ι] (f : ι → ℝ) : ((∑ i, f i : ℝ) : EReal) = ∑ i, (f i : EReal) :=
  map_sum (⟨⟨fun r : ℝ => (r : EReal), rfl⟩, EReal.coe_add⟩ : ℝ →+ EReal) f Finset.univ

theorem logD_apply (b : Vec Ideal S1x256 .f32) (u : Vec Ideal S256x1 .f32) (s t : Fin 256) :
    logD b u (ix2 s t) = if s.val ≤ t.val then (u (ix2 s 0) + b (ix2 0 t) : EReal) else ⊥ := by
  pointwise [logD]
  rw [sle_word (by omega) (by omega)]
  simp only [WordCmp.select_ofBool, ofBits_negInf, decide_eq_true_eq]

theorem mT_apply (b : Vec Ideal S1x256 .f32) (m : Vec Ideal S1x1x128 .f32) (u : Vec Ideal S256x1 .f32) (t : Fin 256) :
    mT b m u (ix2 0 t) = max (b (ix2 0 t) + m (ix3 0 0 0) : EReal) (Finset.univ.fold max (⊥ : EReal) fun s : Fin 256 => logD b u (ix2 s t)) := by
  pointwise [mT, logI, ofBits_negInf]

theorem qMask_apply (half : Nat) (hh : half < 2) (q : Vec Ideal S1x128x256 .bf16) (l : Fin 128) (t : Fin 256) :
    qMask half q (ix2 l t) = if l.val / 64 = half then q (ix3 0 l t) else (0 : EReal) := by
  pointwise [qMask]
  rw [sge_word (by omega) (by omega), slt_word (by omega) (by omega)]
  have ha : ∀ a b : Bool, IntOp.andi (BitVec.ofBool a) (BitVec.ofBool b) = BitVec.ofBool (a && b) := by decide
  rw [ha, WordCmp.select_ofBool]
  congr 1
  simp only [Bool.and_eq_true, decide_eq_true_eq, eq_iff_iff]
  omega

theorem sQK_apply (half : Nat) (q : Vec Ideal S1x128x256 .bf16) (k : Vec Ideal S1x256x128 .bf16) (s t : Fin 256) :
    sQK half q k (ix2 s t) = ∑ l : Fin 128, (k (ix3 0 s l) * qMask half q (ix2 l t) : EReal) := by
  pointwise [sQK]

theorem inter_apply (half : Nat) (q : Vec Ideal S1x128x256 .bf16) (C : Vec Ideal S1x144x128 .f32) (e : Fin 144) (t : Fin 256) :
    inter half q C (ix2 e t) = ∑ l : Fin 128, (C (ix3 0 e l) * qMask half q (ix2 l t) : EReal) := by
  pointwise [inter]

theorem vExt_apply (v : Vec Ideal S1x128x256 .bf16) (e : Fin 144) (t : Fin 256) :
    vExt v (ix2 e t) = if h : e.val < 128 then v (ix3 0 ⟨e.val, h⟩ t) else if e.val = 128 then (1 : EReal) else 0 := by
  pointwise [vExt]
  rw [eq_word (by omega) (by omega), bit_float]
  split
  · rfl
  · congr 1
    simp only [eq_iff_iff]
    omega

theorem num_apply (half : Nat) (q : Vec Ideal S1x128x256 .bf16) (k : Vec Ideal S1x256x128 .bf16) (v : Vec Ideal S1x128x256 .bf16) (C : Vec Ideal S1x144x128 .f32)
    (m : Vec Ideal S1x1x128 .f32) (b : Vec Ideal S1x256 .f32) (u : Vec Ideal S256x1 .f32) (e : Fin 144) (t : Fin 256) :
    num half q k v C m b u (ix2 e t) = Ideal.exp2 ((b (ix2 0 t) + m (ix3 0 0 0)) - mT b m u (ix2 0 t)) * inter half q C (ix2 e t)
      + ∑ s : Fin 256, (vExt v (ix2 e s) * (sQK half q k (ix2 s t) * Ideal.exp2 (logD b u (ix2 s t) - mT b m u (ix2 0 t))) : EReal) := by
  pointwise [num, sT, logI]
  rfl

theorem hOut_apply (half : Nat) (q : Vec Ideal S1x128x256 .bf16) (k : Vec Ideal S1x256x128 .bf16) (v : Vec Ideal S1x128x256 .bf16) (C : Vec Ideal S1x144x128 .f32)
    (m : Vec Ideal S1x1x128 .f32) (b : Vec Ideal S1x256 .f32) (u : Vec Ideal S256x1 .f32) (e : Fin 128) (t : Fin 256) :
    hOut half q k v C m b u (ix2 e t) = (num half q k v C m b u (ix2 ⟨e.val, by omega⟩ t)
      * Ideal.div 1 (max (max (num half q k v C m b u (ix2 128 t)) (-(num half q k v C m b u (ix2 128 t)))) (Ideal.exp2 (0 - mT b m u (ix2 0 t)))) : EReal) := by
  pointwise [hOut]
  rfl

theorem gateNorm_apply (h : FVec Ideal S128x256 .f32) (o : Vec Ideal S1x256x128 .bf16) (nh : Vec Ideal S1x128 .f32) (t : Fin 256) (e : Fin 128) :
    gateNorm h o nh (ix3 0 t e) = (Ideal.div 1 (1 + Ideal.exp (-(o (ix3 0 t e)))) *
      (h (ix2 e t) * Ideal.rsqrt (Ideal.div (∑ x : Fin 128, h (ix2 x t) * h (ix2 x t)) (Ideal.ofBits .f32 0x43000000#32) + Ideal.ofBits .f32 0x358637BD#32)
        * nh (ix2 0 e)) : EReal) := by
  pointwise [gateNorm, ofBits_half]
  rw [gate_eq]

theorem mNew_apply (b i : Vec Ideal S1x256 .f32) (m : Vec Ideal S1x1x128 .f32) :
    mNew b i m (ix2 0 0) = max (b (ix2 0 255) + m (ix3 0 0 0) : EReal) (Finset.univ.fold max (⊥ : EReal) fun s : Fin 256 => (b (ix2 0 255) - b (ix2 0 s) + i (ix2 0 s) : EReal)) := by
  pointwise [mNew, logE, logW, ofBits_negInf]

theorem mFill_apply (b i : Vec Ideal S1x256 .f32) (m : Vec Ideal S1x1x128 .f32) (l : Fin 128) : mFill b i m (ix3 0 0 l) = mNew b i m (ix2 0 0) := by
  pointwise [mFill]

theorem decay_apply (b i : Vec Ideal S1x256 .f32) (m : Vec Ideal S1x1x128 .f32) :
    decay b i m (ix2 0 0) = Ideal.exp2 ((b (ix2 0 255) + m (ix3 0 0 0) : EReal) - mNew b i m (ix2 0 0)) := by
  pointwise [decay, logE]
  rfl

theorem upd_apply (k : Vec Ideal S1x256x128 .bf16) (v : Vec Ideal S1x128x256 .bf16) (b i : Vec Ideal S1x256 .f32) (m : Vec Ideal S1x1x128 .f32) (e : Fin 144) (l : Fin 128) :
    upd k v b i m (ix2 e l) = ∑ s : Fin 256, (vExt v (ix2 e s) * Ideal.exp2 ((b (ix2 0 255) - b (ix2 0 s) + i (ix2 0 s)) - mNew b i m (ix2 0 0)) * k (ix3 0 s l) : EReal) := by
  pointwise [upd, logW]
  rfl

theorem cNew_apply (C : Vec Ideal S1x144x128 .f32) (d0 d1 : FVec Ideal S1x1 .f32) (u0 u1 : FVec Ideal S144x128 .f32) (e : Fin 144) (l : Fin 128) :
    cNew C d0 d1 u0 u1 (ix3 0 e l) = if l.val < 64 then (d0 (ix2 0 0) * C (ix3 0 e l) + u0 (ix2 e l) : EReal) else d1 (ix2 0 0) * C (ix3 0 e l) + u1 (ix2 e l) := by
  pointwise [cNew]
  rw [slt_word (by omega) (by omega)]
  simp only [WordCmp.select_ofBool, decide_eq_true_eq]
  split <;> rfl

theorem iRows_apply (g : Vec Ideal S1x256x128 .f32) (h : Fin 8) (t : Fin 256) : iRows g (ix2 h t) = g (ix3 0 t ⟨h.val, by omega⟩) := by
  pointwise [iRows]

theorem bRows_apply (g : Vec Ideal S1x256x128 .f32) (h : Fin 8) (t : Fin 256) (f : Fin 256 → ℝ)
    (hf : ∀ x : Fin 256, g (ix3 0 x ⟨8 + h.val, by omega⟩) = ((f x : ℝ) : EReal)) :
    bRows g (ix2 h t) = ((∑ x : Fin 256, if x.val ≤ t.val then f x else 0 : ℝ) : EReal) := by
  pointwise [bRows, fRows, tri]
  have hs : ∀ x : Fin 256, FloatOps.sitofp (F := Ideal) .f32 (BitVec.setWidth 32 (IntOp.cmpi .sle (BitVec.ofNat 32 x.val) (BitVec.ofNat 32 t.val)))
      = ((if x.val ≤ t.val then (1 : ℝ) else 0 : ℝ) : EReal) := fun x => by
    rw [sle_word (by omega) (by omega), bit_float]
    split <;> simp
  simp only [hs, hf, ← EReal.coe_sub, ← EReal.coe_mul, sub_self, sub_zero, zero_mul, EReal.coe_zero, Finset.sum_const_zero, add_zero, mul_ite, mul_one, mul_zero]
  rw [coe_sum]

theorem uCol_apply (g : Vec Ideal S1x256x128 .f32) (h : Fin 8) (t : Fin 256) : uCol g (ix2 t ⟨h.val, by omega⟩) = (iRows g (ix2 h t) - bRows g (ix2 h t) : EReal) := by
  pointwise [uCol]

end Cert.Scan
-- ==== Proof.ScanMath.lean ====
module

public import Mathlib.Analysis.SpecialFunctions.Pow.Real
public import Mathlib.Data.EReal.Operations
public import Mathlib.Data.Finset.Fold

/-! The gated recurrence in closed form, and what a chunk of it computes from the state before the chunk.

    Gates `f` and `i` are logarithms to the base 2. `G t` sums the forget gates before position `t`, `A s` is position
    `s`'s log weight less `G`, `M t` the largest of `0` and the `A s` before `t`, and `S w t` the weighted sum of `w`. -/

@[expose] public section

noncomputable section

namespace Cert.Scan

open Finset

/-- The forget gates before `t`, summed. -/
def G (f : ℕ → ℝ) (t : ℕ) : ℝ := ∑ l ∈ range t, f l

/-- The log weight of position `s`, less the sum of all forget gates up to the reader. -/
def A (f i : ℕ → ℝ) (s : ℕ) : ℝ := i s - G f (s + 1)

/-- The running maximum of the log weights and zero. -/
def M (f i : ℕ → ℝ) : ℕ → ℝ
  | 0 => 0
  | t + 1 => max (M f i t) (A f i t)

/-- Two to the power `x`. -/
def W (x : ℝ) : ℝ := Real.exp (Real.log 2 * x)

/-- The stabilised weighted sum of `w` before position `t`. -/
def S (f i w : ℕ → ℝ) (t : ℕ) : ℝ := ∑ s ∈ range t, W (A f i s - M f i t) * w s

theorem W_add (x y : ℝ) : W (x + y) = W x * W y := by
  rw [W, mul_add, Real.exp_add]; rfl

theorem W_pos (x : ℝ) : 0 < W x := Real.exp_pos _

theorem G_zero (f : ℕ → ℝ) : G f 0 = 0 := rfl

theorem S_zero (f i w : ℕ → ℝ) : S f i w 0 = 0 := rfl

/-- The sum of a chunk's forget gates up to `j`. -/
theorem G_chunk (f : ℕ → ℝ) (a n j : ℕ) (hj : j < n) :
    (∑ x : Fin n, if x.val ≤ j then f (a + x.val) else 0) = G f (a + j + 1) - G f a := by
  rw [Fin.sum_univ_eq_sum_range (fun x => if x ≤ j then f (a + x) else 0) n, ← Finset.sum_filter]
  have h : (range n).filter (fun x => x ≤ j) = range (j + 1) := by
    ext x; simp only [mem_filter, mem_range]; omega
  have e := Finset.sum_range_add f a (j + 1)
  rw [h, G, G, show a + j + 1 = a + (j + 1) by omega]
  linarith

/-- A bound on the running maximum past a chunk's start. -/
theorem M_le (f i : ℕ → ℝ) (a n : ℕ) (z : ℝ) : M f i (a + n) ≤ z ↔ M f i a ≤ z ∧ ∀ s, s < n → A f i (a + s) ≤ z := by
  induction n with
  | zero => simp
  | succ n ih =>
    rw [show a + (n + 1) = (a + n) + 1 by omega, M, max_le_iff, ih]
    constructor
    · rintro ⟨⟨h1, h2⟩, h3⟩
      refine ⟨h1, fun s hs => ?_⟩
      rcases Nat.lt_succ_iff_lt_or_eq.mp hs with h | rfl
      · exact h2 s h
      · exact h3
    · rintro ⟨h1, h2⟩
      exact ⟨⟨h1, fun s hs => h2 s (by omega)⟩, h2 n (by omega)⟩

/-- The weighted sum past a chunk, from the sum before it. -/
theorem S_step (f i w : ℕ → ℝ) (a n : ℕ) :
    S f i w (a + n) = W (M f i a - M f i (a + n)) * S f i w a + ∑ s : Fin n, W (A f i (a + s.val) - M f i (a + n)) * w (a + s.val) := by
  rw [Fin.sum_univ_eq_sum_range (fun s => W (A f i (a + s) - M f i (a + n)) * w (a + s)) n, S, S, Finset.sum_range_add, Finset.mul_sum]
  congr 1
  refine Finset.sum_congr rfl fun s _ => ?_
  rw [← mul_assoc, ← W_add]
  congr 2
  ring

/-- The query at `t` against every state entry before it: the sum that a result's numerator and denominator are. -/
def N (f i : ℕ → ℝ) {D : ℕ} (q k : ℕ → Fin D → ℝ) (v : ℕ → ℝ) (t : ℕ) : ℝ :=
  S f i (fun s => (∑ d, q t d * k s d) * v s) (t + 1)

/-- A result at position `a + j` of a chunk of `n` from the state before the chunk and the chunk's own positions. -/
theorem N_split (f i : ℕ → ℝ) {D : ℕ} (q k : ℕ → Fin D → ℝ) (v : ℕ → ℝ) (a n j : ℕ) (hj : j < n) :
    N f i q k v (a + j) = W (M f i a - M f i (a + j + 1)) * (∑ d, q (a + j) d * S f i (fun s => k s d * v s) a)
      + ∑ s : Fin n, if s.val ≤ j then W (A f i (a + s.val) - M f i (a + j + 1)) * ((∑ d, q (a + j) d * k (a + s.val) d) * v (a + s.val)) else 0 := by
  have h1 : (∑ d, q (a + j) d * S f i (fun s => k s d * v s) a) = S f i (fun s => (∑ d, q (a + j) d * k s d) * v s) a := by
    simp only [S, Finset.mul_sum, Finset.sum_mul]
    rw [Finset.sum_comm]
    exact Finset.sum_congr rfl fun s _ => Finset.sum_congr rfl fun d _ => by ring
  rw [h1, N, show a + j + 1 = a + (j + 1) by omega, S_step f i _ a (j + 1)]
  congr 1
  rw [Fin.sum_univ_eq_sum_range (fun s => W (A f i (a + s) - M f i (a + (j + 1))) * ((∑ d, q (a + j) d * k (a + s) d) * v (a + s))) (j + 1),
    Fin.sum_univ_eq_sum_range (fun s => if s ≤ j then W (A f i (a + s) - M f i (a + (j + 1))) * ((∑ d, q (a + j) d * k (a + s) d) * v (a + s)) else 0) n,
    ← Finset.sum_filter]
  have h : (range n).filter (fun x => x ≤ j) = range (j + 1) := by
    ext x; simp only [mem_filter, mem_range]; omega
  rw [h]

/-- A maximum over the extended reals of a finite number and a masked row of finite numbers. -/
theorem max_fold_eq {n : ℕ} (P : Fin n → Prop) [DecidablePred P] (x r : ℝ) (y : Fin n → ℝ)
    (h : ∀ z : ℝ, r ≤ z ↔ (x ≤ z ∧ ∀ s, P s → y s ≤ z)) :
    max (x : EReal) (Finset.univ.fold max (⊥ : EReal) fun s => if P s then (y s : EReal) else ⊥) = (r : EReal) := by
  refine eq_of_forall_ge_iff fun z => ?_
  rw [max_le_iff, Finset.fold_max_le]
  induction z with
  | bot =>
    simp
  | top => simp
  | coe z =>
    rw [EReal.coe_le_coe_iff, EReal.coe_le_coe_iff, h z]
    refine and_congr_right fun _ => ?_
    constructor
    · rintro ⟨_, h2⟩ s hs
      have := h2 s (mem_univ s)
      rw [if_pos hs] at this
      exact_mod_cast this
    · intro h2
      refine ⟨bot_le, fun s _ => ?_⟩
      by_cases hs : P s
      · rw [if_pos hs]; exact_mod_cast h2 s hs
      · rw [if_neg hs]; exact bot_le

/-- The largest log weight at position `a + j`, as a chunk takes it, at any positive scale. -/
theorem max_chunk (f i : ℕ → ℝ) (a n j : ℕ) (hj : j < n) (c : ℝ) (hc : 0 < c) (g : ℝ) :
    max ((c * (g + M f i a) : ℝ) : EReal)
      (Finset.univ.fold max (⊥ : EReal) fun s : Fin n => if s.val ≤ j then ((c * (g + A f i (a + s.val)) : ℝ) : EReal) else ⊥)
      = ((c * (g + M f i (a + j + 1)) : ℝ) : EReal) := by
  refine max_fold_eq (fun s : Fin n => s.val ≤ j) _ _ (fun s => c * (g + A f i (a + s.val))) fun z => ?_
  have e : ∀ x : ℝ, c * (g + x) ≤ z ↔ x ≤ z / c - g := fun x => by
    rw [le_sub_iff_add_le, le_div_iff₀ hc, mul_comm c, add_comm g]
  simp only [e]
  rw [show a + j + 1 = a + (j + 1) by omega, M_le]
  refine and_congr_right fun _ => ⟨fun h s hs => h s.val (by omega), fun h s hs => h ⟨s, by omega⟩ (by show s ≤ j; omega)⟩

/-- The same without a mask. -/
theorem max_chunk_all (f i : ℕ → ℝ) (a n : ℕ) (c : ℝ) (hc : 0 < c) (g : ℝ) :
    max ((c * (g + M f i a) : ℝ) : EReal) (Finset.univ.fold max (⊥ : EReal) fun s : Fin n => ((c * (g + A f i (a + s.val)) : ℝ) : EReal))
      = ((c * (g + M f i (a + n)) : ℝ) : EReal) := by
  have h := max_fold_eq (fun _ : Fin n => True) (c * (g + M f i a)) (c * (g + M f i (a + n))) (fun s => c * (g + A f i (a + s.val))) fun z => ?_
  · simpa using h
  · have e : ∀ x : ℝ, c * (g + x) ≤ z ↔ x ≤ z / c - g := fun x => by
      rw [le_sub_iff_add_le, le_div_iff₀ hc, mul_comm c, add_comm g]
    simp only [e]
    rw [M_le]
    exact and_congr_right fun _ => ⟨fun h s _ => h s.val s.isLt, fun h s hs => h ⟨s, hs⟩ trivial⟩

end Cert.Scan
-- ==== Proof.ScanHead.lean ====
module

public import proofs.«01_k».proof.Proof.ScanRead
public import proofs.«01_k».proof.Proof.ScanMath

/-! One head of one chunk: the kernel's blocks hold finite numbers, and what it computes from them is the recurrence. -/

@[expose] public section

set_option maxRecDepth 16384

noncomputable section

namespace Cert.Scan

open Idealize.ShloMosaic Idealize.ShloMosaic.TcCoe Idealize.SL.Sem
open Cert.KernelIdeal Cert.KernelIdeal.Gen

/-- A result before its norm: numerator over the larger of the denominator and the stabiliser. -/
def hR (f i : ℕ → ℝ) (q k : ℕ → Fin 64 → ℝ) (v : ℕ → ℕ → ℝ) (t e : ℕ) : ℝ :=
  N f i q k (fun s => v s e) t / max |N f i q k (fun s => v s 128) t| (W (-(G f (t + 1) + M f i (t + 1))))

theorem exp2_coe' (x : ℝ) : Ideal.exp2 (x : EReal) = ((W x : ℝ) : EReal) := by
  rw [Ideal.exp2_coe]
  congr 1
  exact Real.rpow_def_of_pos (by norm_num) x

theorem coe_max' (x y : ℝ) : max (x : EReal) (y : EReal) = ((max x y : ℝ) : EReal) := (EReal.coe_strictMono.monotone.map_max).symm

/-- A sum over a pair's lanes of terms masked to one head. -/
theorem sum_half (half : ℕ) (hh : half < 2) (x y : Fin 128 → EReal) :
    (∑ l : Fin 128, x l * (if l.val / 64 = half then y l else 0)) = ∑ d : Fin 64, x ⟨64 * half + d.val, by omega⟩ * y ⟨64 * half + d.val, by omega⟩ := by
  rw [Fin.sum_univ_two_halves 64 64 rfl]
  obtain rfl | rfl : half = 0 ∨ half = 1 := by omega
  · have h1 : ∀ d : Fin 64, (d.val / 64 = 0) := fun d => by omega
    have h2 : ∀ d : Fin 64, ¬((64 + d.val) / 64 = 0) := fun d => by omega
    simp [h1, h2]
  · have h1 : ∀ d : Fin 64, ¬(d.val / 64 = 1) := fun d => by omega
    have h2 : ∀ d : Fin 64, ((64 + d.val) / 64 = 1) := fun d => by omega
    simp [h1, h2]

/-- What a head's blocks hold at the chunk starting at `a`. -/
structure HeadIn (f i : ℕ → ℝ) (q k : ℕ → Fin 64 → ℝ) (v : ℕ → ℕ → ℝ) (a half : ℕ) (hh : half < 2)
    (qb : Vec Ideal S1x128x256 .bf16) (kb : Vec Ideal S1x256x128 .bf16) (vb : Vec Ideal S1x128x256 .bf16) (Cb : Vec Ideal S1x144x128 .f32)
    (mb : Vec Ideal S1x1x128 .f32) (bb ib : Vec Ideal S1x256 .f32) (ub : Vec Ideal S256x1 .f32) : Prop where
  one : ∀ s, v s 128 = 1
  hq : ∀ (d : Fin 64) (t : Fin 256), qb (ix3 0 ⟨64 * half + d.val, by omega⟩ t) = ((q (a + t.val) d : ℝ) : EReal)
  hk : ∀ (s : Fin 256) (d : Fin 64), kb (ix3 0 s ⟨64 * half + d.val, by omega⟩) = ((k (a + s.val) d : ℝ) : EReal)
  hv : ∀ (e : Fin 128) (s : Fin 256), vb (ix3 0 e s) = ((v (a + s.val) e.val : ℝ) : EReal)
  hC : ∀ (e : Fin 144) (d : Fin 64), e.val ≤ 128 → Cb (ix3 0 e ⟨64 * half + d.val, by omega⟩) = ((S f i (fun s => k s d * v s e.val) a : ℝ) : EReal)
  hm : mb (ix3 0 0 0) = ((G f a + M f i a : ℝ) : EReal)
  hb : ∀ t : Fin 256, bb (ix2 0 t) = ((G f (a + t.val + 1) - G f a : ℝ) : EReal)
  hi : ∀ t : Fin 256, ib (ix2 0 t) = ((i (a + t.val) : ℝ) : EReal)
  hu : ∀ t : Fin 256, ub (ix2 t 0) = ((i (a + t.val) - (G f (a + t.val + 1) - G f a) : ℝ) : EReal)

section
variable {f i : ℕ → ℝ} {q k : ℕ → Fin 64 → ℝ} {v : ℕ → ℕ → ℝ} {a half : ℕ} {hh : half < 2}
  {qb : Vec Ideal S1x128x256 .bf16} {kb : Vec Ideal S1x256x128 .bf16} {vb : Vec Ideal S1x128x256 .bf16} {Cb : Vec Ideal S1x144x128 .f32}
  {mb : Vec Ideal S1x1x128 .f32} {bb ib : Vec Ideal S1x256 .f32} {ub : Vec Ideal S256x1 .f32}
  (H : HeadIn f i q k v a half hh qb kb vb Cb mb bb ib ub)

include H

theorem HeadIn.logD (s t : Fin 256) :
    logD bb ub (ix2 s t) = if s.val ≤ t.val then ((1 * (G f (a + t.val + 1) + A f i (a + s.val)) : ℝ) : EReal) else ⊥ := by
  rw [logD_apply, H.hu, H.hb, ← EReal.coe_add]
  refine if_congr Iff.rfl (congrArg _ ?_) rfl
  rw [A]; ring

theorem HeadIn.mT (t : Fin 256) : mT bb mb ub (ix2 0 t) = ((G f (a + t.val + 1) + M f i (a + t.val + 1) : ℝ) : EReal) := by
  rw [mT_apply, H.hm, H.hb, ← EReal.coe_add]
  simp only [H.logD]
  have h := max_chunk f i a 256 t.val t.isLt 1 one_pos (G f (a + t.val + 1))
  rw [show G f (a + t.val + 1) - G f a + (G f a + M f i a) = 1 * (G f (a + t.val + 1) + M f i a) by ring, h, one_mul]

theorem HeadIn.sQK (s t : Fin 256) : sQK half qb kb (ix2 s t) = ((∑ d, q (a + t.val) d * k (a + s.val) d : ℝ) : EReal) := by
  rw [sQK_apply]
  simp only [qMask_apply half hh]
  rw [sum_half half hh (fun l => kb (ix3 0 s l)) (fun l => qb (ix3 0 l t)), coe_sum]
  refine Finset.sum_congr rfl fun d _ => ?_
  rw [H.hk, H.hq, ← EReal.coe_mul, mul_comm]

theorem HeadIn.inter (e : Fin 144) (he : e.val ≤ 128) (t : Fin 256) :
    inter half qb Cb (ix2 e t) = ((∑ d, q (a + t.val) d * S f i (fun s => k s d * v s e.val) a : ℝ) : EReal) := by
  rw [inter_apply]
  simp only [qMask_apply half hh]
  rw [sum_half half hh (fun l => Cb (ix3 0 e l)) (fun l => qb (ix3 0 l t)), coe_sum]
  refine Finset.sum_congr rfl fun d _ => ?_
  rw [H.hC e d he, H.hq, ← EReal.coe_mul, mul_comm]

theorem HeadIn.vExt (e : Fin 144) (he : e.val ≤ 128) (s : Fin 256) : vExt vb (ix2 e s) = ((v (a + s.val) e.val : ℝ) : EReal) := by
  rw [vExt_apply]
  split
  · rw [H.hv]
  · have h : e.val = 128 := by omega
    rw [if_pos h, h, H.one, EReal.coe_one]

theorem HeadIn.num (e : Fin 144) (he : e.val ≤ 128) (t : Fin 256) :
    num half qb kb vb Cb mb bb ub (ix2 e t) = ((N f i q k (fun s => v s e.val) (a + t.val) : ℝ) : EReal) := by
  rw [num_apply, H.inter e he, H.mT, H.hb, H.hm, ← EReal.coe_add, ← EReal.coe_sub,
    show G f (a + t.val + 1) - G f a + (G f a + M f i a) - (G f (a + t.val + 1) + M f i (a + t.val + 1)) = M f i a - M f i (a + t.val + 1) by ring,
    exp2_coe', ← EReal.coe_mul, N_split f i q k (fun s => v s e.val) a 256 t.val t.isLt,
    EReal.coe_add (W (M f i a - M f i (a + t.val + 1)) * _)]
  congr 1
  · rw [coe_sum]
    refine Finset.sum_congr rfl fun s _ => ?_
    rw [H.vExt e he, H.sQK, H.logD]
    by_cases hs : s.val ≤ t.val
    · rw [if_pos hs, if_pos hs, ← EReal.coe_sub, exp2_coe', ← EReal.coe_mul, ← EReal.coe_mul]
      congr 1
      rw [show 1 * (G f (a + t.val + 1) + A f i (a + s.val)) - (G f (a + t.val + 1) + M f i (a + t.val + 1)) = A f i (a + s.val) - M f i (a + t.val + 1) by ring]
      ring
    · rw [if_neg hs, if_neg hs, EReal.bot_sub, Ideal.exp2_bot, mul_zero, mul_zero, EReal.coe_zero]

theorem HeadIn.hOut (e : Fin 128) (t : Fin 256) : hOut half qb kb vb Cb mb bb ub (ix2 e t) = ((hR f i q k v (a + t.val) e.val : ℝ) : EReal) := by
  rw [hOut_apply, H.num ⟨e.val, by omega⟩ (by show e.val ≤ 128; omega), H.num 128 (le_refl 128), H.mT]
  have hp := W_pos (-(G f (a + t.val + 1) + M f i (a + t.val + 1)))
  rw [← EReal.coe_zero, ← EReal.coe_sub, zero_sub, exp2_coe', ← EReal.coe_neg, coe_max', coe_max', ← abs_eq_max_neg]
  set den := max |N f i q k (fun s => v s (128 : Fin 144).val) (a + t.val)| (W (-(G f (a + t.val + 1) + M f i (a + t.val + 1))))
  have hd : 0 < den := lt_of_lt_of_le hp (le_max_right _ _)
  rw [Ideal.div, if_neg (by exact_mod_cast hd.ne'), one_mul, ← EReal.coe_inv, ← EReal.coe_mul]
  rfl

theorem HeadIn.mNew : mNew bb ib mb (ix2 0 0) = ((G f (a + 256) + M f i (a + 256) : ℝ) : EReal) := by
  rw [mNew_apply, H.hm]
  simp only [H.hb, H.hi, ← EReal.coe_sub, ← EReal.coe_add]
  have h := max_chunk_all f i a 256 1 one_pos (G f (a + 256))
  rw [one_mul] at h
  rw [← one_mul (G f (a + 256) + M f i (a + 256)), ← h]
  simp only [A]
  congr 2
  · show _ - G f a + _ = _
    have : a + (255 : Fin 256).val + 1 = a + 256 := rfl
    rw [this]; ring
  · congr 1
    funext s
    have : a + (255 : Fin 256).val + 1 = a + 256 := rfl
    rw [this]; congr 1; ring

theorem HeadIn.decay : decay bb ib mb (ix2 0 0) = ((W (M f i a - M f i (a + 256)) : ℝ) : EReal) := by
  rw [decay_apply, H.mNew, H.hm, H.hb, ← EReal.coe_add, ← EReal.coe_sub, exp2_coe']
  have : a + (255 : Fin 256).val + 1 = a + 256 := rfl
  rw [this]
  congr 2; ring

theorem HeadIn.upd (e : Fin 144) (he : e.val ≤ 128) (d : Fin 64) :
    upd kb vb bb ib mb (ix2 e ⟨64 * half + d.val, by omega⟩)
      = ((∑ s : Fin 256, W (A f i (a + s.val) - M f i (a + 256)) * (k (a + s.val) d * v (a + s.val) e.val) : ℝ) : EReal) := by
  rw [upd_apply, coe_sum]
  refine Finset.sum_congr rfl fun s _ => ?_
  have : a + (255 : Fin 256).val + 1 = a + 256 := rfl
  rw [H.vExt e he, H.mNew, H.hb, H.hb, H.hi, H.hk, ← EReal.coe_sub, ← EReal.coe_add, ← EReal.coe_sub, exp2_coe', ← EReal.coe_mul, ← EReal.coe_mul, this]
  congr 1
  rw [show G f (a + 256) - G f a - (G f (a + s.val + 1) - G f a) + i (a + s.val) - (G f (a + 256) + M f i (a + 256)) = A f i (a + s.val) - M f i (a + 256) by rw [A]; ring]
  ring

/-- The new state's entry of this head. -/
theorem HeadIn.new (e : Fin 144) (he : e.val ≤ 128) (d : Fin 64) :
    (Scan.decay bb ib mb (ix2 0 0) * Cb (ix3 0 e ⟨64 * half + d.val, by omega⟩) + Scan.upd kb vb bb ib mb (ix2 e ⟨64 * half + d.val, by omega⟩) : EReal)
      = ((S f i (fun s => k s d * v s e.val) (a + 256) : ℝ) : EReal) := by
  rw [H.decay, H.hC e d he, H.upd e he, ← EReal.coe_mul, ← EReal.coe_add, S_step]

end

end Cert.Scan
-- ==== Proof.ScanState.lean ====
module

public import proofs.«01_k».proof.Proof.ScanHead

/-! All heads of one chunk: the state the kernel carries is the recurrence's at the chunk's start, and the state it leaves is the recurrence's at the next one's. -/

@[expose] public section

set_option maxRecDepth 16384

noncomputable section

namespace Cert.Scan

open Idealize.ShloMosaic Idealize.ShloMosaic.TcCoe Idealize.SL.Sem
open Cert.KernelIdeal Cert.KernelIdeal.Gen

/-- A batch's arrays as real numbers, by head and position. -/
structure Data where
  f : Fin 8 → ℕ → ℝ
  i : Fin 8 → ℕ → ℝ
  q : Fin 8 → ℕ → Fin 64 → ℝ
  k : Fin 8 → ℕ → Fin 64 → ℝ
  v : Fin 8 → ℕ → ℕ → ℝ
  one : ∀ h s, v h s 128 = 1

/-- What the fetched blocks hold at the chunk starting at `a`. -/
structure ChunkIn (D : Data) (a : ℕ) (x0 : Vec Ideal S1x512x256 .bf16) (x1 : Vec Ideal S1x256x512 .bf16) (x2 : Vec Ideal S1x1024x256 .bf16) : Prop where
  hq : ∀ (h : Fin 8) (d : Fin 64) (t : Fin 256), x0 (ix3 0 ⟨64 * h.val + d.val, by omega⟩ t) = ((D.q h (a + t.val) d : ℝ) : EReal)
  hk : ∀ (h : Fin 8) (d : Fin 64) (t : Fin 256), x1 (ix3 0 t ⟨64 * h.val + d.val, by omega⟩) = ((D.k h (a + t.val) d : ℝ) : EReal)
  hv : ∀ (h : Fin 8) (e : Fin 128) (t : Fin 256), x2 (ix3 0 ⟨128 * h.val + e.val, by omega⟩ t) = ((D.v h (a + t.val) e.val : ℝ) : EReal)

/-- What a chunk's gates hold. -/
structure GateIn (D : Data) (a : ℕ) (g : Vec Ideal S1x256x128 .f32) : Prop where
  hi : ∀ (h : Fin 8) (t : Fin 256), g (ix3 0 t ⟨h.val, by omega⟩) = ((D.i h (a + t.val) : ℝ) : EReal)
  hf : ∀ (h : Fin 8) (t : Fin 256), g (ix3 0 t ⟨8 + h.val, by omega⟩) = ((D.f h (a + t.val) : ℝ) : EReal)

/-- What the carried state and maxima hold before the chunk starting at `a`. -/
structure StIn (D : Data) (a : ℕ) (C : Vec Ideal S4x144x128 .f32) (m : Vec Ideal S8x1x128 .f32) : Prop where
  hC : ∀ (h : Fin 8) (e : Fin 144) (d : Fin 64), e.val ≤ 128 →
    C (ix3 (pr h) e ⟨64 * (h.val % 2) + d.val, by omega⟩) = ((S (D.f h) (D.i h) (fun s => D.k h s d * D.v h s e.val) a : ℝ) : EReal)
  hm : ∀ (h : Fin 8) (l : Fin 128), m (ix3 h 0 l) = ((G (D.f h) a + M (D.f h) (D.i h) a : ℝ) : EReal)

/-- What the carried gate rows and columns hold for the chunk starting at `a`. -/
structure RowIn (D : Data) (a : ℕ) (r : Vec Ideal S16x256 .f32) (u : Vec Ideal S256x128 .f32) : Prop where
  hi : ∀ (h : Fin 8) (t : Fin 256), r (ix2 ⟨h.val, by omega⟩ t) = ((D.i h (a + t.val) : ℝ) : EReal)
  hb : ∀ (h : Fin 8) (t : Fin 256), r (ix2 ⟨8 + h.val, by omega⟩ t) = ((G (D.f h) (a + t.val + 1) - G (D.f h) a : ℝ) : EReal)
  hu : ∀ (h : Fin 8) (t : Fin 256), u (ix2 t ⟨h.val, by omega⟩) = ((D.i h (a + t.val) - (G (D.f h) (a + t.val + 1) - G (D.f h) a) : ℝ) : EReal)

variable {D : Data} {a : ℕ} {x0 : Vec Ideal S1x512x256 .bf16} {x1 : Vec Ideal S1x256x512 .bf16} {x2 : Vec Ideal S1x1024x256 .bf16}
  {C : Vec Ideal S4x144x128 .f32} {m : Vec Ideal S8x1x128 .f32} {r : Vec Ideal S16x256 .f32} {u : Vec Ideal S256x128 .f32}

theorem headIn (X : ChunkIn D a x0 x1 x2) (Y : StIn D a C m) (R : RowIn D a r u) (h : Fin 8) :
    HeadIn (D.f h) (D.i h) (D.q h) (D.k h) (D.v h) a (h.val % 2) (by omega) (qOf x0 (pr h)) (kOf x1 (pr h)) (vOf x2 h) (cOf C (pr h)) (mOf m h)
      (bOf r h) (iOf r h) (uOf u h) where
  one := D.one h
  hq d t := by
    rw [← X.hq h d t]
    pointwise [qOf, pr]
    have e : (⟨128 * (h.val / 2) + (64 * (h.val % 2) + d.val), by omega⟩ : Fin 512) = ⟨64 * h.val + d.val, by omega⟩ := Fin.ext (by simp only; omega)
    exact congrArg (fun z : Fin 512 => x0 (ix3 0 z t)) e
  hk s d := by
    rw [← X.hk h d s]
    pointwise [kOf, pr]
    have e : (⟨128 * (h.val / 2) + (64 * (h.val % 2) + d.val), by omega⟩ : Fin 512) = ⟨64 * h.val + d.val, by omega⟩ := Fin.ext (by simp only; omega)
    exact congrArg (fun z : Fin 512 => x1 (ix3 0 s z)) e
  hv e s := by
    rw [← X.hv h e s]
    pointwise [vOf]
  hC e d he := by
    rw [← Y.hC h e d he]
    pointwise [cOf, pr]
  hm := by
    rw [← Y.hm h 0]
    pointwise [mOf]
  hb t := by
    rw [← R.hb h t]
    pointwise [bOf]
  hi t := by
    rw [← R.hi h t]
    pointwise [iOf]
  hu t := by
    rw [← R.hu h t]
    pointwise [uOf]

/-- The state a point leaves, whole. -/
def cFull (x1 : Vec Ideal S1x256x512 .bf16) (x2 : Vec Ideal S1x1024x256 .bf16) (C : Vec Ideal S4x144x128 .f32) (m : Vec Ideal S8x1x128 .f32) (r : Vec Ideal S16x256 .f32) :
    Vec Ideal S4x144x128 .f32 := fun j => cPair x1 x2 C m r (j 0) (ix3 0 (j 1) (j 2))

theorem cFull_emb (x1 : Vec Ideal S1x256x512 .bf16) (x2 : Vec Ideal S1x1024x256 .bf16) (C : Vec Ideal S4x144x128 .f32) (m : Vec Ideal S8x1x128 .f32) (r : Vec Ideal S16x256 .f32)
    (p : Fin 4) (inb : ∀ d, (![p.val, 0, 0] : Fin 3 → ℕ) d + (![1, 144, 128] : Fin 3 → ℕ) d ≤ S4x144x128.size d) (y0 : Fin 1) (y1 : Fin 144) (y2 : Fin 128) :
    cPair x1 x2 C m r p (ix3 y0 y1 y2) = cFull x1 x2 C m r ((Rect.unit (s := S4x144x128) ![p.val, 0, 0] ![1, 144, 128] inb).emb (ix3 y0 y1 y2)) := by
  have hy : y0 = 0 := Subsingleton.elim _ _
  have h0 : ((Rect.unit (s := S4x144x128) ![p.val, 0, 0] ![1, 144, 128] inb).emb (ix3 y0 y1 y2)) 0 = p :=
    Fin.ext (show p.val + 1 * y0.val = p.val by omega)
  have h1 : ((Rect.unit (s := S4x144x128) ![p.val, 0, 0] ![1, 144, 128] inb).emb (ix3 y0 y1 y2)) 1 = y1 :=
    Fin.ext (show 0 + 1 * y1.val = y1.val by omega)
  have h2 : ((Rect.unit (s := S4x144x128) ![p.val, 0, 0] ![1, 144, 128] inb).emb (ix3 y0 y1 y2)) 2 = y2 :=
    Fin.ext (show 0 + 1 * y2.val = y2.val by omega)
  unfold cFull
  rw [h0, h1, h2, hy]

theorem canon_c (x1 : Vec Ideal S1x256x512 .bf16) (x2 : Vec Ideal S1x1024x256 .bf16) (C : Vec Ideal S4x144x128 .f32) (m : Vec Ideal S8x1x128 .f32) (r : Vec Ideal S16x256 .f32)
    (L : List (View.Piece (Elt Ideal) S4x144x128 .f32)) : View.canon (cPieces x1 x2 C m r ++ L) = cFull x1 x2 C m r := by
  funext y
  refine View.canon_append_of_piecesOf (cFull x1 x2 C m r) L (cPieces x1 x2 C m r) ?_ y (View.cover_of_tiledL (cPieces x1 x2 C m r) S1x144x128.size (by sl_kernel_rfl) y)
  refine ⟨?_, ?_, ?_, ?_, trivial⟩
  all_goals
    intro x
    idx_vars x
  · exact cFull_emb _ _ C m r 3 _ _ _ _
  · exact cFull_emb _ _ C m r 2 _ _ _ _
  · exact cFull_emb _ _ C m r 1 _ _ _ _
  · exact cFull_emb _ _ C m r 0 _ _ _ _

/-- The maxima a point leaves, whole. -/
def mFull (m : Vec Ideal S8x1x128 .f32) (r : Vec Ideal S16x256 .f32) : Vec Ideal S8x1x128 .f32 := fun j => mHead m r (j 0) (ix3 0 0 (j 2))

theorem mFull_emb (m : Vec Ideal S8x1x128 .f32) (r : Vec Ideal S16x256 .f32)
    (h : Fin 8) (inb : ∀ d, (![h.val, 0, 0] : Fin 3 → ℕ) d + (![1, 1, 128] : Fin 3 → ℕ) d ≤ S8x1x128.size d) (y0 : Fin 1) (y1 : Fin 1) (y2 : Fin 128) :
    mHead m r h (ix3 y0 y1 y2) = mFull m r ((Rect.unit (s := S8x1x128) ![h.val, 0, 0] ![1, 1, 128] inb).emb (ix3 y0 y1 y2)) := by
  have hy0 : y0 = 0 := Subsingleton.elim _ _
  have hy1 : y1 = 0 := Subsingleton.elim _ _
  have h0 : ((Rect.unit (s := S8x1x128) ![h.val, 0, 0] ![1, 1, 128] inb).emb (ix3 y0 y1 y2)) 0 = h :=
    Fin.ext (show h.val + 1 * y0.val = h.val by omega)
  have h2 : ((Rect.unit (s := S8x1x128) ![h.val, 0, 0] ![1, 1, 128] inb).emb (ix3 y0 y1 y2)) 2 = y2 :=
    Fin.ext (show 0 + 1 * y2.val = y2.val by omega)
  unfold mFull
  rw [h0, h2, hy0, hy1]

theorem canon_m (m : Vec Ideal S8x1x128 .f32) (r : Vec Ideal S16x256 .f32)
    (L : List (View.Piece (Elt Ideal) S8x1x128 .f32)) : View.canon (mPieces m r ++ L) = mFull m r := by
  funext y
  refine View.canon_append_of_piecesOf (mFull m r) L (mPieces m r) ?_ y (View.cover_of_tiledL (mPieces m r) S1x1x128.size (by sl_kernel_rfl) y)
  refine ⟨?_, ?_, ?_, ?_, ?_, ?_, ?_, ?_, trivial⟩
  all_goals
    intro x
    idx_vars x
  · exact mFull_emb m r 7 _ _ _ _
  · exact mFull_emb m r 6 _ _ _ _
  · exact mFull_emb m r 5 _ _ _ _
  · exact mFull_emb m r 4 _ _ _ _
  · exact mFull_emb m r 3 _ _ _ _
  · exact mFull_emb m r 2 _ _ _ _
  · exact mFull_emb m r 1 _ _ _ _
  · exact mFull_emb m r 0 _ _ _ _

/-- Rows 0 to 7 are off the rows the cumulative gates are stored in. -/
theorem rows_off (h : Fin 8) (t : Fin 256) (inb : ∀ d, (![8, 0] : Fin 2 → ℕ) d + (![8, 256] : Fin 2 → ℕ) d ≤ S16x256.size d) :
    (ix2 ⟨h.val, by omega⟩ t : S16x256.Idx) ∉ (Rect.unit (s := S16x256) ![8, 0] ![8, 256] inb).set := by
  intro hm
  have h8 := (Rect.mem_set_unit.mp hm 0).1
  change 8 ≤ h.val at h8
  omega

/-- The gate rows a point leaves: the input gates in rows 0 to 7. -/
theorem canon_r_lo (g : Vec Ideal S1x256x128 .f32) (L : List (View.Piece (Elt Ideal) S16x256 .f32)) (h : Fin 8) (t : Fin 256) :
    View.canon (rPieces g ++ L) (ix2 ⟨h.val, by omega⟩ t) = iRows g (ix2 h t) := by
  have he : (ix2 ⟨h.val, by omega⟩ t : S16x256.Idx) = (Rect.unit (s := S16x256) ![0, 0] ![8, 256] (by decide)).emb (ix2 h t) := by
    funext d
    fin_cases d
    · exact Fin.ext (show h.val = 0 + 1 * h.val by omega)
    · exact Fin.ext (show t.val = 0 + 1 * t.val by omega)
  unfold rPieces
  rw [List.cons_append, List.cons_append]
  refine (View.canon_cons_of_not_mem _ _ ?_).trans ?_
  · exact rows_off h t (by decide)
  rw [he]
  refine (View.canon_cons_emb _ _ _ _).trans ?_
  generalize iRows g = w
  pointwise []

/-- The gate rows a point leaves: the cumulative forget gates in rows 8 to 15. -/
theorem canon_r_hi (g : Vec Ideal S1x256x128 .f32) (L : List (View.Piece (Elt Ideal) S16x256 .f32)) (h : Fin 8) (t : Fin 256) :
    View.canon (rPieces g ++ L) (ix2 ⟨8 + h.val, by omega⟩ t) = bRows g (ix2 h t) := by
  have he : (ix2 ⟨8 + h.val, by omega⟩ t : S16x256.Idx) = (Rect.unit (s := S16x256) ![8, 0] ![8, 256] (by decide)).emb (ix2 h t) := by
    funext d
    fin_cases d
    · exact Fin.ext (show 8 + h.val = 8 + 1 * h.val by omega)
    · exact Fin.ext (show t.val = 0 + 1 * t.val by omega)
  unfold rPieces
  rw [List.cons_append, he]
  refine (View.canon_cons_emb _ _ _ _).trans ?_
  pointwise []

/-- The state a chunk leaves is the recurrence's at the next chunk's start. -/
theorem stIn_step (X : ChunkIn D a x0 x1 x2) (Y : StIn D a C m) (R : RowIn D a r u) : StIn D (a + 256) (cFull x1 x2 C m r) (mFull m r) where
  hC h e d he := by
    have hnew := (headIn X Y R h).new e he d
    show cPair x1 x2 C m r (pr h) (ix3 0 e ⟨64 * (h.val % 2) + d.val, by omega⟩) = _
    unfold cPair
    rw [cNew_apply]
    rcases Nat.mod_two_eq_zero_or_one h.val with h2 | h2
    · have hh : (⟨2 * (pr h).val, by omega⟩ : Fin 8) = h := Fin.ext (show 2 * (h.val / 2) = h.val by omega)
      rw [if_pos (show 64 * (h.val % 2) + d.val < 64 by omega), hh]
      exact hnew
    · have hh : (⟨2 * (pr h).val + 1, by omega⟩ : Fin 8) = h := Fin.ext (show 2 * (h.val / 2) + 1 = h.val by omega)
      rw [if_neg (show ¬ 64 * (h.val % 2) + d.val < 64 by omega), hh]
      exact hnew
  hm h l := by
    show mHead m r h (ix3 0 0 l) = _
    unfold mHead
    rw [mFill_apply, (headIn X Y R h).mNew]

/-- Before the first chunk the state and the maxima are zero. -/
theorem stIn_zero : StIn D 0 (k0_pay1 (F := Ideal)) (k0_pay2 (F := Ideal)) where
  hC h e d he := by
    rw [S_zero]
    pointwise [k0_pay1]
    exact EReal.coe_zero.symm
  hm h l := by
    rw [G_zero, zero_add]
    pointwise [k0_pay2]
    exact EReal.coe_zero.symm

theorem sum_gate {g : Vec Ideal S1x256x128 .f32} (H : GateIn D a g) (h : Fin 8) (t : Fin 256) :
    bRows g (ix2 h t) = ((G (D.f h) (a + t.val + 1) - G (D.f h) a : ℝ) : EReal) := by
  rw [bRows_apply g h t (fun x => D.f h (a + x.val)) (H.hf h), G_chunk (D.f h) a 256 t.val t.isLt]

/-- The gate rows and columns made of a chunk's gates. -/
theorem rowIn_of {g : Vec Ideal S1x256x128 .f32} (H : GateIn D a g) (L : List (View.Piece (Elt Ideal) S16x256 .f32)) :
    RowIn D a (View.canon (rPieces g ++ L)) (uCol g) where
  hi h t := by rw [canon_r_lo, iRows_apply, H.hi]
  hb h t := by rw [canon_r_hi, sum_gate H]
  hu h t := by rw [uCol_apply, iRows_apply, H.hi, sum_gate H, ← EReal.coe_sub]

/-- The whole result block of a chunk. -/
def yFull (x0 : Vec Ideal S1x512x256 .bf16) (x1 : Vec Ideal S1x256x512 .bf16) (x2 : Vec Ideal S1x1024x256 .bf16) (x3 : Vec Ideal S1x256x1024 .bf16) (x6 : Vec Ideal S1x1024 .f32)
    (C : Vec Ideal S4x144x128 .f32) (m : Vec Ideal S8x1x128 .f32) (r : Vec Ideal S16x256 .f32) (u : Vec Ideal S256x128 .f32) : Vec Ideal S1x256x1024 .bf16 :=
  fun j => yHead x0 x1 x2 x3 x6 C m r u ⟨(j 2).val / 128, by have := (j 2).isLt; change _ < 1024 at this; omega⟩ (ix3 0 (j 1) ⟨(j 2).val % 128, by omega⟩)

theorem yFull_emb (x0 : Vec Ideal S1x512x256 .bf16) (x1 : Vec Ideal S1x256x512 .bf16) (x2 : Vec Ideal S1x1024x256 .bf16) (x3 : Vec Ideal S1x256x1024 .bf16) (x6 : Vec Ideal S1x1024 .f32)
    (C : Vec Ideal S4x144x128 .f32) (m : Vec Ideal S8x1x128 .f32) (r : Vec Ideal S16x256 .f32) (u : Vec Ideal S256x128 .f32)
    (h : Fin 8) (inb : ∀ d, (![0, 0, 128 * h.val] : Fin 3 → ℕ) d + (![1, 256, 128] : Fin 3 → ℕ) d ≤ S1x256x1024.size d) (y0 : Fin 1) (y1 : Fin 256) (y2 : Fin 128) :
    yHead x0 x1 x2 x3 x6 C m r u h (ix3 y0 y1 y2) = yFull x0 x1 x2 x3 x6 C m r u ((Rect.unit (s := S1x256x1024) ![0, 0, 128 * h.val] ![1, 256, 128] inb).emb (ix3 y0 y1 y2)) := by
  have hy0 : y0 = 0 := Subsingleton.elim _ _
  have he : (Rect.unit (s := S1x256x1024) ![0, 0, 128 * h.val] ![1, 256, 128] inb).emb (ix3 y0 y1 y2) = ix3 0 y1 ⟨128 * h.val + y2.val, by omega⟩ := by
    funext d
    fin_cases d
    · exact Fin.ext (show 0 + 1 * y0.val = 0 by omega)
    · exact Fin.ext (show 0 + 1 * y1.val = y1.val by omega)
    · exact Fin.ext (show 128 * h.val + 1 * y2.val = 128 * h.val + y2.val by omega)
  have key : ∀ (h' : Fin 8) (y' : Fin 128), h' = h → y' = y2 →
      yHead x0 x1 x2 x3 x6 C m r u h (ix3 0 y1 y2) = yHead x0 x1 x2 x3 x6 C m r u h' (ix3 0 y1 y') := by
    rintro _ _ rfl rfl
    rfl
  rw [he, hy0]
  exact key _ _ (Fin.ext (show (128 * h.val + y2.val) / 128 = h.val by omega)) (Fin.ext (show (128 * h.val + y2.val) % 128 = y2.val by omega))

theorem canon_y (x0 : Vec Ideal S1x512x256 .bf16) (x1 : Vec Ideal S1x256x512 .bf16) (x2 : Vec Ideal S1x1024x256 .bf16) (x3 : Vec Ideal S1x256x1024 .bf16) (x6 : Vec Ideal S1x1024 .f32)
    (C : Vec Ideal S4x144x128 .f32) (m : Vec Ideal S8x1x128 .f32) (r : Vec Ideal S16x256 .f32) (u : Vec Ideal S256x128 .f32) :
    View.canon (yPieces x0 x1 x2 x3 x6 C m r u) = yFull x0 x1 x2 x3 x6 C m r u := by
  funext y
  rw [← List.append_nil (yPieces x0 x1 x2 x3 x6 C m r u)]
  refine View.canon_append_of_piecesOf (yFull x0 x1 x2 x3 x6 C m r u) [] (yPieces x0 x1 x2 x3 x6 C m r u) ?_ y
    (View.cover_of_tiledL (yPieces x0 x1 x2 x3 x6 C m r u) S1x256x128.size (by sl_kernel_rfl) y)
  refine ⟨?_, ?_, ?_, ?_, ?_, ?_, ?_, ?_, trivial⟩
  all_goals
    intro x
    idx_vars x
  · exact yFull_emb _ _ _ _ _ C m r u 7 _ _ _ _
  · exact yFull_emb _ _ _ _ _ C m r u 6 _ _ _ _
  · exact yFull_emb _ _ _ _ _ C m r u 5 _ _ _ _
  · exact yFull_emb _ _ _ _ _ C m r u 4 _ _ _ _
  · exact yFull_emb _ _ _ _ _ C m r u 3 _ _ _ _
  · exact yFull_emb _ _ _ _ _ C m r u 2 _ _ _ _
  · exact yFull_emb _ _ _ _ _ C m r u 1 _ _ _ _
  · exact yFull_emb _ _ _ _ _ C m r u 0 _ _ _ _

/-- The normed, gated output of a head from its mixed values `h` over the head's 128 lanes. -/
def outOf (h : Fin 128 → EReal) (o n : EReal) (e : Fin 128) : EReal :=
  Ideal.div 1 (1 + Ideal.exp (-o)) * (h e * Ideal.rsqrt (Ideal.div (∑ x : Fin 128, h x * h x) (Ideal.ofBits .f32 0x43000000#32) + Ideal.ofBits .f32 0x358637BD#32) * n)

/-- The result block of a chunk at a position, a head and a lane of it. -/
theorem yFull_apply (X : ChunkIn D a x0 x1 x2) (Y : StIn D a C m) (R : RowIn D a r u) (x3 : Vec Ideal S1x256x1024 .bf16) (x6 : Vec Ideal S1x1024 .f32)
    (t : Fin 256) (l : Fin 1024) :
    yFull x0 x1 x2 x3 x6 C m r u (ix3 0 t l)
      = outOf (fun e => ((hR (D.f ⟨l.val / 128, by omega⟩) (D.i ⟨l.val / 128, by omega⟩) (D.q ⟨l.val / 128, by omega⟩) (D.k ⟨l.val / 128, by omega⟩) (D.v ⟨l.val / 128, by omega⟩) (a + t.val) e.val : ℝ) : EReal))
          (x3 (ix3 0 t l)) (x6 (ix2 0 l)) ⟨l.val % 128, by omega⟩ := by
  show yHead x0 x1 x2 x3 x6 C m r u ⟨l.val / 128, _⟩ (ix3 0 t ⟨l.val % 128, _⟩) = _
  have hl : 128 * (l.val / 128) + l.val % 128 = l.val := by omega
  unfold yHead
  rw [gateNorm_apply]
  simp only [(headIn X Y R ⟨l.val / 128, by omega⟩).hOut]
  have ho : oOf x3 ⟨l.val / 128, by omega⟩ (ix3 0 t ⟨l.val % 128, by omega⟩) = x3 (ix3 0 t l) := by
    pointwise [oOf]
    exact congrArg (fun z : Fin 1024 => x3 (ix3 0 t z)) (Fin.ext hl)
  have hn : nOf x6 ⟨l.val / 128, by omega⟩ (ix2 0 ⟨l.val % 128, by omega⟩) = x6 (ix2 0 l) := by
    pointwise [nOf]
    exact congrArg (fun z : Fin 1024 => x6 (ix2 0 z)) (Fin.ext hl)
  rw [ho, hn]
  rfl

end Cert.Scan
-- ==== Proof.ScanData.lean ====
module

public import proofs.«01_k».proof.Proof.ScanState
public import proofs.«01_k».proof.Proof.Gen.KernelIdeal.Value
public import Idealize.ShloMosaic.Lib.Pipeline.ValueKit

/-! The arrays of a batch as real numbers, and the blocks the kernel fetches read in them. -/

@[expose] public section

set_option maxRecDepth 16384

noncomputable section

namespace Cert.Scan

open Idealize.ShloMosaic Idealize.ShloMosaic.TcCoe Idealize.SL.Sem
open Cert.KernelIdeal Cert.KernelIdeal.Gen

/-- Every entry of an array is a real number. -/
def AllReal {s : Shape} (x : s.Idx → EReal) : Prop := ∀ i, ((x i).toReal : EReal) = x i

/-- Queries, keys, values and gates of batch `b`, by head and position. -/
def dat (Q : S2x512x8192.Idx → EReal) (K : S2x8192x512.Idx → EReal) (V : S2x1024x8192.Idx → EReal) (g : S2x8192x128.Idx → EReal) (b : Fin 2) : Data where
  f h t := if ht : t < 8192 then (g (ix3 b ⟨t, ht⟩ ⟨8 + h.val, by omega⟩)).toReal else 0
  i h t := if ht : t < 8192 then (g (ix3 b ⟨t, ht⟩ ⟨h.val, by omega⟩)).toReal else 0
  q h t d := if ht : t < 8192 then (Q (ix3 b ⟨64 * h.val + d.val, by omega⟩ ⟨t, ht⟩)).toReal else 0
  k h t d := if ht : t < 8192 then (K (ix3 b ⟨t, ht⟩ ⟨64 * h.val + d.val, by omega⟩)).toReal else 0
  v h t e := if he : e < 128 then (if ht : t < 8192 then (V (ix3 b ⟨128 * h.val + e, by omega⟩ ⟨t, ht⟩)).toReal else 0) else 1
  one h s := dif_neg (by decide)

variable (m : (ℓ : Loc nD τ sig) → Buf (Elt Ideal) ℓ) (c : Dev nD)

abbrev argQ : S2x512x8192.Idx → EReal := m ((c : Thread nD τ).loc main_arg0)
abbrev argK : S2x8192x512.Idx → EReal := m ((c : Thread nD τ).loc main_arg1)
abbrev argV : S2x1024x8192.Idx → EReal := m ((c : Thread nD τ).loc main_arg2)
abbrev argO : S2x8192x1024.Idx → EReal := m ((c : Thread nD τ).loc main_arg3)
abbrev argG : S2x8192x128.Idx → EReal := m ((c : Thread nD τ).loc main_arg4)
abbrev argN : S1024.Idx → EReal := m ((c : Thread nD τ).loc main_arg5)

/-- A batch's data, off the launched arrays. -/
abbrev datM (b : Fin 2) : Data := dat (argQ m c) (argK m c) (argV m c) (argG m c) b

/-- The blocks of each window over the grid: batch `t / 32`, chunk `t % 32`, and for the second gate window the chunk after (the last one again at the end). -/
theorem idx : ∀ t : Fin cfg0.N, win0_0.index t = ![t.val / 32, 0, t.val % 32] ∧ win0_1.index t = ![t.val / 32, t.val % 32, 0] ∧ win0_2.index t = ![t.val / 32, 0, t.val % 32]
    ∧ win0_3.index t = ![t.val / 32, t.val % 32, 0] ∧ win0_4.index t = ![t.val / 32, t.val % 32, 0] ∧ win0_5.index t = ![t.val / 32, min (t.val % 32 + 1) 31, 0] ∧ win0_6.index t = ![0, 0] :=
  (by decide +kernel : ∀ t : Fin grid0.N, _)

theorem N64 : cfg0.N = 64 := N_0

theorem bat_lt (t : Fin cfg0.N) : t.val / 32 < 2 := by
  have := lt_of_lt_of_eq t.isLt N64
  omega

/-- The batch of a point. -/
abbrev bat (t : Fin cfg0.N) : Fin 2 := ⟨t.val / 32, bat_lt t⟩

theorem blk_q (t : Fin cfg0.N) (d : Fin 512) (s : Fin 256) :
    iblk m c 0 t (ix3 0 d s) = argQ m c (ix3 (bat t) d ⟨256 * (t.val % 32) + s.val, by omega⟩) := by
  blk_ext [iblk, V, idx t]

theorem blk_k (t : Fin cfg0.N) (s : Fin 256) (d : Fin 512) :
    iblk m c 1 t (ix3 0 s d) = argK m c (ix3 (bat t) ⟨256 * (t.val % 32) + s.val, by omega⟩ d) := by
  blk_ext [iblk, V, idx t]

theorem blk_v (t : Fin cfg0.N) (d : Fin 1024) (s : Fin 256) :
    iblk m c 2 t (ix3 0 d s) = argV m c (ix3 (bat t) d ⟨256 * (t.val % 32) + s.val, by omega⟩) := by
  blk_ext [iblk, V, idx t]

theorem blk_o (t : Fin cfg0.N) (s : Fin 256) (d : Fin 1024) :
    iblk m c 3 t (ix3 0 s d) = argO m c (ix3 (bat t) ⟨256 * (t.val % 32) + s.val, by omega⟩ d) := by
  blk_ext [iblk, V, idx t]

theorem blk_g (t : Fin cfg0.N) (s : Fin 256) (d : Fin 128) :
    iblk m c 4 t (ix3 0 s d) = argG m c (ix3 (bat t) ⟨256 * (t.val % 32) + s.val, by omega⟩ d) := by
  blk_ext [iblk, V, idx t]

theorem blk_gn (t : Fin cfg0.N) (s : Fin 256) (d : Fin 128) :
    iblk m c 5 t (ix3 0 s d) = argG m c (ix3 (bat t) ⟨256 * min (t.val % 32 + 1) 31 + s.val, by omega⟩ d) := by
  blk_ext [iblk, V, idx t]

theorem blk_n (t : Fin cfg0.N) (d : Fin 1024) : iblk m c 6 t (ix2 0 d) = argN m c (ix1 d) := by
  have e : (win0_6.blk t).view.emb (ix2 0 d) = (ix2 0 d : S1x1024.Idx) := by blk_ext [idx t]
  show Gen.V m c main_v0 ((win0_6.blk t).view.emb (ix2 0 d)) = _
  rw [e]
  entry_read
  pointwise []

end Cert.Scan
-- ==== Proof.ScanRunA.lean ====
module

public import proofs.«01_k».proof.Proof.ScanVocab

/-! What the scan's first points of a batch store, in the vocabulary of ScanVocab. -/

@[expose] public section

set_option maxRecDepth 16384
set_option maxHeartbeats 1000000

noncomputable section

namespace Cert.Scan

open Idealize.ShloMosaic Idealize.ShloMosaic.TcCoe Idealize.ShloMosaic.Tactic Idealize.SL.Sem
open Cert.KernelIdeal Cert.KernelIdeal.Gen

variable {F : FTy → Type} [FloatOps F]

/-- The gate rows as the first point stores them. -/
def rCan (g : Vec F S1x256x128 .f32) : Vec F S16x256 .f32 := View.canon (rPieces g)

/-- A load of the gate rows after they are stored. -/
theorem readRows {sig : RefSig} {κ : Kind} {sp : Space} (v : View sig κ sp S16x256 .f32) (x4 : Vec F S1x256x128 .f32) (r : Rect S16x256) :
    v.readCov [⟨Rect.unit ![8, 0] ![8, 256] inb_S16x256_S8x256_8_0, k0_pay7 k0_pay9 (View.ld x4 (Rect.unit ![0, 0, 0] ![1, 256, 128] inb_S1x256x128_S1x256x128_0_0_0))⟩,
      ⟨Rect.unit ![0, 0] ![8, 256] inb_S16x256_S8x256_0_0, k0_pay6 (View.ld x4 (Rect.unit ![0, 0, 0] ![1, 256, 128] inb_S1x256x128_S1x256x128_0_0_0))⟩]
      r.toLoadRect = View.ld (rCan (gOf x4)) r := View.readCov_eq_canon' v _ _

attribute [local irreducible] rCan

/-- The pieces stored to the result. -/
theorem runA_0 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 = yPieces x0 x1 x2 x3 x6 k0_pay1 k0_pay2 (rCan (gOf x4)) (uCol (gOf x4)) := by
  unfold kernelRun0_A
  dsimp only
  sl_unfold_words
  simp only [readRows, View.readAt_eq_ld, harg2.read_unread, harg3.read_unread, harg4.read_unread, harg5.read_unread, harg6.read_unread, harg7.read_unread, harg8.read_unread, harg9.read_unread, harg10.read_unread, harg11.read_unread, harg12.read_unread, harg13.read_unread]
  simp (disch := decide) only [↓View.readCov_skip, ↓View.readCov_fill]
  rfl

/-- The pieces stored to the state. -/
theorem runA_1 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 = cPieces x1 x2 k0_pay1 k0_pay2 (rCan (gOf x4)) ++ [⟨Rect.unit (s := S4x144x128) ![0, 0, 0] ![4, 144, 128] (by decide), k0_pay1⟩] := by
  unfold kernelRun0_A
  dsimp only
  sl_unfold_words
  simp only [readRows, View.readAt_eq_ld, harg2.read_unread, harg3.read_unread, harg4.read_unread, harg5.read_unread, harg6.read_unread, harg7.read_unread, harg8.read_unread, harg9.read_unread, harg10.read_unread, harg11.read_unread, harg12.read_unread, harg13.read_unread]
  simp (disch := decide) only [↓View.readCov_skip, ↓View.readCov_fill]
  rfl

/-- The pieces stored to the maxima. -/
theorem runA_2 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 = mPieces k0_pay2 (rCan (gOf x4)) ++ [⟨Rect.unit (s := S8x1x128) ![0, 0, 0] ![8, 1, 128] (by decide), k0_pay2⟩] := by
  unfold kernelRun0_A
  dsimp only
  sl_unfold_words
  simp only [readRows, View.readAt_eq_ld, harg2.read_unread, harg3.read_unread, harg4.read_unread, harg5.read_unread, harg6.read_unread, harg7.read_unread, harg8.read_unread, harg9.read_unread, harg10.read_unread, harg11.read_unread, harg12.read_unread, harg13.read_unread]
  simp (disch := decide) only [↓View.readCov_skip, ↓View.readCov_fill]
  rfl

/-- The pieces stored to the gate rows. -/
theorem runA_3 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1 = rPieces (gOf x5) ++ rPieces (gOf x4) := by
  unfold kernelRun0_A
  dsimp only
  sl_unfold_words
  simp only [readRows, View.readAt_eq_ld, harg2.read_unread, harg3.read_unread, harg4.read_unread, harg5.read_unread, harg6.read_unread, harg7.read_unread, harg8.read_unread, harg9.read_unread, harg10.read_unread, harg11.read_unread, harg12.read_unread, harg13.read_unread]
  rfl

/-- The pieces stored to the gate columns. -/
theorem runA_4 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1 = [⟨Rect.unit (s := S256x128) ![0, 0] ![256, 128] (by decide), uCol (gOf x5)⟩, ⟨Rect.unit (s := S256x128) ![0, 0] ![256, 128] (by decide), uCol (gOf x4)⟩] := by
  unfold kernelRun0_A
  dsimp only
  sl_unfold_words
  simp only [readRows, View.readAt_eq_ld, harg2.read_unread, harg3.read_unread, harg4.read_unread, harg5.read_unread, harg6.read_unread, harg7.read_unread, harg8.read_unread, harg9.read_unread, harg10.read_unread, harg11.read_unread, harg12.read_unread, harg13.read_unread]
  rfl

end Cert.Scan
-- ==== Proof.ScanRunB.lean ====
module

public import proofs.«01_k».proof.Proof.ScanVocab

/-! What the scan's later points of a batch store, in the vocabulary of ScanVocab. -/

@[expose] public section

set_option maxRecDepth 16384
set_option maxHeartbeats 4000000

noncomputable section

namespace Cert.Scan

open Idealize.ShloMosaic Idealize.ShloMosaic.TcCoe Idealize.ShloMosaic.Tactic Idealize.SL.Sem
open Cert.KernelIdeal Cert.KernelIdeal.Gen

variable {F : FTy → Type} [FloatOps F]

/-- The pieces stored to the result. -/
theorem runB_0 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : ¬cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) (xs0 : Vec F S4x144x128 .f32) (xs1 : Vec F S8x1x128 .f32) (xs2 : Vec F S16x256 .f32) (xs3 : Vec F S256x128 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3).1 = yPieces x0 x1 x2 x3 x6 xs0 xs1 xs2 xs3 := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  rfl

/-- The pieces stored to the state. -/
theorem runB_1 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : ¬cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) (xs0 : Vec F S4x144x128 .f32) (xs1 : Vec F S8x1x128 .f32) (xs2 : Vec F S16x256 .f32) (xs3 : Vec F S256x128 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3).2.1 = cPieces x1 x2 xs0 xs1 xs2 := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  rfl

/-- The pieces stored to the maxima. -/
theorem runB_2 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : ¬cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) (xs0 : Vec F S4x144x128 .f32) (xs1 : Vec F S8x1x128 .f32) (xs2 : Vec F S16x256 .f32) (xs3 : Vec F S256x128 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3).2.2.1 = mPieces xs1 xs2 := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  rfl

/-- The pieces stored to the gate rows. -/
theorem runB_3 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : ¬cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) (xs0 : Vec F S4x144x128 .f32) (xs1 : Vec F S8x1x128 .f32) (xs2 : Vec F S16x256 .f32) (xs3 : Vec F S256x128 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3).2.2.2.1 = rPieces (gOf x5) := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  rfl

/-- The pieces stored to the gate columns. -/
theorem runB_4 (c : Dev nD) (i : grid0.Coords) (arg2 : Memref sig .tc .vmem S1x512x256 .bf16) (harg2 : arg2.IsWhole) (arg3 : Memref sig .tc .vmem S1x256x512 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S4x144x128 .f32) (harg10 : arg10.IsWhole) (arg11 : Memref sig .tc .vmem S8x1x128 .f32) (harg11 : arg11.IsWhole) (arg12 : Memref sig .tc .vmem S16x256 .f32) (harg12 : arg12.IsWhole) (arg13 : Memref sig .tc .vmem S256x128 .f32) (harg13 : arg13.IsWhole) (hc0 : ¬cond0_0 i)
    (x0 : Vec F S1x512x256 .bf16) (x1 : Vec F S1x256x512 .bf16) (x2 : Vec F S1x1024x256 .bf16) (x3 : Vec F S1x256x1024 .bf16) (x4 : Vec F S1x256x128 .f32) (x5 : Vec F S1x256x128 .f32) (x6 : Vec F S1x1024 .f32) (xs0 : Vec F S4x144x128 .f32) (xs1 : Vec F S8x1x128 .f32) (xs2 : Vec F S16x256 .f32) (xs3 : Vec F S256x128 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3).2.2.2.2.1 = [⟨Rect.unit (s := S256x128) ![0, 0] ![256, 128] (by decide), uCol (gOf x5)⟩] := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread]
  rfl

end Cert.Scan
-- ==== Proof.ScanGrid.lean ====
module

public import proofs.«01_k».proof.Proof.ScanData
public import proofs.«01_k».proof.Proof.ScanRunA
public import proofs.«01_k».proof.Proof.ScanRunB

/-! The grid: after every point the carried scratch is the recurrence's state at the next chunk's start, and the result array is the recurrence's normed, gated output. -/

@[expose] public section

set_option maxRecDepth 16384

noncomputable section

namespace Cert.Scan

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The result block, the state, the maxima and the gate rows and columns a point leaves over a state. -/
def ptOut (t : Fin cfg0.N) (C : Vec Ideal S4x144x128 .f32) (mm : Vec Ideal S8x1x128 .f32) (r : Vec Ideal S16x256 .f32) (u : Vec Ideal S256x128 .f32)
    (L : List (View.Piece (Elt Ideal) S16x256 .f32)) : Vec Ideal S1x256x1024 .bf16 × Vec Ideal S4x144x128 .f32 × Vec Ideal S8x1x128 .f32 × Vec Ideal S16x256 .f32 × Vec Ideal S256x128 .f32 :=
  (yFull (iblk m c 0 t) (iblk m c 1 t) (iblk m c 2 t) (iblk m c 3 t) (iblk m c 6 t) C mm r u, cFull (iblk m c 1 t) (iblk m c 2 t) C mm r, mFull mm r,
    View.canon (rPieces (iblk m c 5 t) ++ L), uCol (iblk m c 5 t))

/-- A batch's first point. -/
theorem outA (t : Fin cfg0.N) (h0 : t.val % 32 = 0) : outsAt0 m c t.val t.isLt
    = ptOut m c t (k0_pay1 (F := Ideal)) (k0_pay2 (F := Ideal)) (View.canon (rPieces (iblk m c 4 t))) (uCol (iblk m c 4 t)) (rPieces (iblk m c 4 t)) := by
  rw [outsAt0_A m c t h0]
  unfold out0_A_7 sout0_A_0 sout0_A_1 sout0_A_2 sout0_A_3 ptOut
  simp only [View.read_writes_junk_eq_canon, runA_0, runA_1, runA_2, runA_3, runA_4, canon_y, canon_c, canon_m, gOf_eq, rCan]
  congr 4
  exact View.canon_cons_unit_zero (by decide) _ _ _

/-- A later point. -/
theorem outB (t : Fin cfg0.N) (h0 : ¬ t.val % 32 = 0) (a : Vec Ideal S1x256x1024 .bf16 × Vec Ideal S4x144x128 .f32 × Vec Ideal S8x1x128 .f32 × Vec Ideal S16x256 .f32 × Vec Ideal S256x128 .f32)
    (ha : outsAt0 m c (t.val - 1) (Nat.lt_of_le_of_lt (Nat.sub_le _ _) t.isLt) = a) : outsAt0 m c t.val t.isLt = ptOut m c t a.2.1 a.2.2.1 a.2.2.2.1 a.2.2.2.2 [] := by
  rw [outsAt0_B m c t h0, ha]
  unfold out0_B_7 sout0_B_0 sout0_B_1 sout0_B_2 sout0_B_3 ptOut
  have hc := fun x1 x2 C mm r => canon_c x1 x2 C mm r []
  have hm := fun mm r => canon_m mm r []
  simp only [List.append_nil] at hc hm ⊢
  simp only [View.read_writes_junk_eq_canon, runB_0, runB_1, runB_2, runB_3, runB_4, canon_y, hc, hm, gOf_eq]
  congr 4
  exact View.canon_cons_unit_zero (by decide) _ _ _

variable {m c} (hQ : AllReal (argQ m c)) (hK : AllReal (argK m c)) (hV : AllReal (argV m c)) (hG : ∀ b s (l : Fin 128), l.val < 16 → ((argG m c (ix3 b s l)).toReal : EReal) = argG m c (ix3 b s l))

include hQ hK hV in
/-- The fetched blocks hold the batch's data. -/
theorem chunkIn (t : Fin cfg0.N) : ChunkIn (datM m c (bat t)) (256 * (t.val % 32)) (iblk m c 0 t) (iblk m c 1 t) (iblk m c 2 t) where
  hq h d s := by
    rw [blk_q]
    show _ = (((if ht : _ then _ else _ : ℝ)) : EReal)
    rw [dif_pos (show 256 * (t.val % 32) + s.val < 8192 by omega), hQ]
  hk h d s := by
    rw [blk_k]
    show _ = (((if ht : _ then _ else _ : ℝ)) : EReal)
    rw [dif_pos (show 256 * (t.val % 32) + s.val < 8192 by omega), hK]
  hv h e s := by
    rw [blk_v]
    show _ = (((if he : _ then (if ht : _ then _ else _) else _ : ℝ)) : EReal)
    rw [dif_pos e.isLt, dif_pos (show 256 * (t.val % 32) + s.val < 8192 by omega), hV]

include hG in
theorem gateIn_of (b : Fin 2) (a : ℕ) (ha : a + 256 ≤ 8192) (g : Vec Ideal S1x256x128 .f32)
    (hg : ∀ (s : Fin 256) (l : Fin 128), g (ix3 0 s l) = argG m c (ix3 b ⟨a + s.val, by omega⟩ l)) : GateIn (datM m c b) a g where
  hi h s := by
    rw [hg]
    show _ = (((if ht : _ then _ else _ : ℝ)) : EReal)
    rw [dif_pos (show a + s.val < 8192 by omega), hG _ _ _ (show h.val < 16 by omega)]
  hf h s := by
    rw [hg]
    show _ = (((if ht : _ then _ else _ : ℝ)) : EReal)
    rw [dif_pos (show a + s.val < 8192 by omega), hG _ _ _ (show 8 + h.val < 16 by omega)]

include hG in
theorem gateIn (t : Fin cfg0.N) : GateIn (datM m c (bat t)) (256 * (t.val % 32)) (iblk m c 4 t) :=
  gateIn_of hG (bat t) _ (by omega) _ fun s l => blk_g m c t s l

include hG in
theorem gateNext (t : Fin cfg0.N) (h : t.val % 32 < 31) : GateIn (datM m c (bat t)) (256 * (t.val % 32) + 256) (iblk m c 5 t) :=
  gateIn_of hG (bat t) _ (by omega) _ fun s l => (blk_gn m c t s l).trans (congrArg (fun z : Fin 8192 => argG m c (ix3 (bat t) z l)) (Fin.ext (by simp only; omega)))

/-- The result at a batch, a position and a column. -/
def outAt (m : (ℓ : Loc nD τ sig) → Buf (Elt Ideal) ℓ) (c : Dev nD) (b : Fin 2) (t : Fin 8192) (l : Fin 1024) : EReal :=
  outOf (fun e => ((hR ((datM m c b).f ⟨l.val / 128, by omega⟩) ((datM m c b).i ⟨l.val / 128, by omega⟩) ((datM m c b).q ⟨l.val / 128, by omega⟩)
    ((datM m c b).k ⟨l.val / 128, by omega⟩) ((datM m c b).v ⟨l.val / 128, by omega⟩) t.val e.val : ℝ) : EReal)) (argO m c (ix3 b t l)) (argN m c (ix1 l)) ⟨l.val % 128, by omega⟩

/-- What holds after a point. -/
structure Inv (m : (ℓ : Loc nD τ sig) → Buf (Elt Ideal) ℓ) (c : Dev nD) (t : Fin cfg0.N)
    (a : Vec Ideal S1x256x1024 .bf16 × Vec Ideal S4x144x128 .f32 × Vec Ideal S8x1x128 .f32 × Vec Ideal S16x256 .f32 × Vec Ideal S256x128 .f32) : Prop where
  st : StIn (datM m c (bat t)) (256 * (t.val % 32) + 256) a.2.1 a.2.2.1
  row : t.val % 32 < 31 → RowIn (datM m c (bat t)) (256 * (t.val % 32) + 256) a.2.2.2.1 a.2.2.2.2
  out : ∀ (s : Fin 256) (l : Fin 1024), a.1 (ix3 0 s l) = outAt m c (bat t) ⟨256 * (t.val % 32) + s.val, by omega⟩ l

include hQ hK hV in
theorem out_pt (t : Fin cfg0.N) {C : Vec Ideal S4x144x128 .f32} {mm : Vec Ideal S8x1x128 .f32} {r : Vec Ideal S16x256 .f32} {u : Vec Ideal S256x128 .f32}
    (hs : StIn (datM m c (bat t)) (256 * (t.val % 32)) C mm) (hr : RowIn (datM m c (bat t)) (256 * (t.val % 32)) r u) (s : Fin 256) (l : Fin 1024) :
    yFull (iblk m c 0 t) (iblk m c 1 t) (iblk m c 2 t) (iblk m c 3 t) (iblk m c 6 t) C mm r u (ix3 0 s l) = outAt m c (bat t) ⟨256 * (t.val % 32) + s.val, by omega⟩ l := by
  rw [yFull_apply (chunkIn hQ hK hV t) hs hr, blk_o, blk_n]
  unfold outAt
  rfl

include hQ hK hV hG in
theorem inv_pt (t : Fin cfg0.N) {C : Vec Ideal S4x144x128 .f32} {mm : Vec Ideal S8x1x128 .f32} {r : Vec Ideal S16x256 .f32} {u : Vec Ideal S256x128 .f32}
    (L : List (View.Piece (Elt Ideal) S16x256 .f32)) (hs : StIn (datM m c (bat t)) (256 * (t.val % 32)) C mm) (hr : RowIn (datM m c (bat t)) (256 * (t.val % 32)) r u) :
    Inv m c t (ptOut m c t C mm r u L) := by
  refine ⟨?_, ?_, ?_⟩
  · exact stIn_step (chunkIn hQ hK hV t) hs hr
  · intro h
    have hrow := rowIn_of (gateNext hG t h) L
    exact hrow
  · exact out_pt hQ hK hV t hs hr

include hQ hK hV hG in
theorem inv_all : ∀ (n : ℕ) (hn : n < cfg0.N), Inv m c ⟨n, hn⟩ (outsAt0 m c n hn) := by
  intro n
  induction n with
  | zero =>
    intro hn
    have h := outA m c ⟨0, hn⟩ rfl
    simp only at h
    rw [h]
    refine inv_pt hQ hK hV hG _ _ stIn_zero ?_
    have := rowIn_of (gateIn hG ⟨0, hn⟩) []
    rwa [List.append_nil] at this
  | succ n ih =>
    intro hn
    by_cases h0 : (n + 1) % 32 = 0
    · have h := outA m c ⟨n + 1, hn⟩ h0
      simp only at h
      rw [h]
      have e : 256 * ((⟨n + 1, hn⟩ : Fin cfg0.N).val % 32) = 0 := by simp only; omega
      refine inv_pt hQ hK hV hG _ _ (by rw [e]; exact stIn_zero) ?_
      have := rowIn_of (gateIn hG ⟨n + 1, hn⟩) []
      rwa [List.append_nil] at this
    · have I := ih (by omega)
      have h := outB m c ⟨n + 1, hn⟩ h0 _ rfl
      simp only at h
      rw [h]
      have e : 256 * (n % 32) + 256 = 256 * ((n + 1) % 32) := by omega
      have eb : bat ⟨n, by omega⟩ = bat ⟨n + 1, hn⟩ := Fin.ext (show n / 32 = (n + 1) / 32 by omega)
      have hs := I.st
      have hr := I.row (show n % 32 < 31 by omega)
      simp only at hs hr
      rw [eb, e] at hs hr
      exact inv_pt hQ hK hV hG _ _ hs hr

include hQ hK hV hG in
/-- The kernel's result. -/
theorem kernel_value (b : Fin 2) (t : Fin 8192) (l : Fin 1024) : KernelIdeal.Value.G7 m c (ix3 b t l) = outAt m c b t l := by
  have hp : 32 * (b.val / 1 - 0) + 1 * (t.val / 256 - 0) + 1 * (l.val / 1024 - 0) = 32 * b.val + t.val / 256 := by omega
  have hn : 32 * b.val + t.val / 256 < cfg0.N := by rw [N64]; omega
  have key : ∀ (p : ℕ) (hq : p < cfg0.N), p = 32 * b.val + t.val / 256 → ∀ (x : S1x256x1024.Idx), x = ix3 0 ⟨t.val % 256, by omega⟩ l →
      (Pipeline.accAt (fun n h => Value.stAt0 m c n h Value.junk0) (Value.stAt0 m c) 0 p (by omega)).1 x = outAt m c b t l := by
    rintro p hq rfl x rfl
    rw [← Value.outsAt0_sweep m c _ hq, (inv_all hQ hK hV hG _ hq).out]
    have eb : bat ⟨32 * b.val + t.val / 256, hq⟩ = b := Fin.ext (show (32 * b.val + t.val / 256) / 32 = b.val by omega)
    have et : ∀ h, (⟨256 * ((32 * b.val + t.val / 256) % 32) + t.val % 256, h⟩ : Fin 8192) = t := fun h => Fin.ext (by simp only; omega)
    simp only [eb, et]
  unfold Value.G7
  rw [dif_pos (show Value.pt7Of (ix3 b t l) < cfg0.N from lt_of_eq_of_lt hp hn)]
  refine key _ (lt_of_eq_of_lt hp hn) hp _ ?_
  funext d
  fin_cases d
  · exact Fin.ext (show b.val % 1 = 0 by omega)
  · rfl
  · exact Fin.ext (show l.val % 1024 = l.val by omega)

end Cert.Scan
-- ==== Proof.ScanRefVoc.lean ====
module

public import proofs.«01_k».proof.Proof.ScanHead
public import proofs.«01_k».proof.Proof.Gen.ReferenceIdeal.Step
public import Idealize.ShloMosaic.Lib.Pointwise

/-! The reference's one trip, each of its lines read at an index. -/

@[expose] public section

set_option maxRecDepth 16384

noncomputable section

namespace Cert.Scan

open Idealize.ShloMosaic Idealize.ShloMosaic.TcCoe Idealize.SL.Sem
open Cert.ReferenceIdeal Cert.ReferenceIdeal.Gen Cert.ReferenceIdeal.Step

/-- Adding up a list from a start value is the start value and the sum. -/
theorem foldl_add_map {β : Type} (g : β → EReal) (l : List β) (v : EReal) : l.foldl (fun r n => r + g n) v = v + (l.map g).sum := by
  induction l generalizing v with
  | nil => simp
  | cons x l ih => rw [List.foldl_cons, ih, List.map_cons, List.sum_cons, add_assoc]

/-- A window of sixty-four padded sixty-three low holds the entries up to its position. -/
theorem window_reindex (y : Fin 64 → EReal) (t : Fin 64) :
    (∑ w : Fin 64, if h : 63 ≤ t.val + w.val ∧ t.val + w.val - 63 < 64 then y ⟨t.val + w.val - 63, h.2⟩ else 0)
      = ∑ x : Fin 64, if x.val ≤ t.val then y x else 0 := by
  have e1 : ∀ w : Fin 64, (if h : 63 ≤ t.val + w.val ∧ t.val + w.val - 63 < 64 then y ⟨t.val + w.val - 63, h.2⟩ else 0)
      = if 63 ≤ t.val + w.val then y ⟨t.val + w.val - 63, by omega⟩ else 0 := fun w => by
    by_cases h : 63 ≤ t.val + w.val
    · rw [dif_pos ⟨h, by omega⟩, if_pos h]
    · rw [dif_neg (fun h' => h h'.1), if_neg h]
  simp only [e1]
  rw [← Finset.sum_filter, ← Finset.sum_filter]
  refine Finset.sum_bij' (fun w _ => (⟨t.val + w.val - 63, by omega⟩ : Fin 64)) (fun x hx => (⟨(x.val + 63 - t.val) % 64, Nat.mod_lt _ (by decide)⟩ : Fin 64)) ?_ ?_ ?_ ?_ ?_
  · intro w hw
    simp only [Finset.mem_filter, Finset.mem_univ, true_and] at hw ⊢
    omega
  · intro x hx
    simp only [Finset.mem_filter, Finset.mem_univ, true_and] at hx ⊢
    omega
  · intro w hw
    simp only [Finset.mem_filter, Finset.mem_univ, true_and] at hw
    refine Fin.ext ?_
    show (t.val + w.val - 63 + 63 - t.val) % 64 = w.val
    omega
  · intro x hx
    simp only [Finset.mem_filter, Finset.mem_univ, true_and] at hx
    refine Fin.ext ?_
    show t.val + (x.val + 63 - t.val) % 64 - 63 = x.val
    omega
  · intro w _
    rfl

/-- The running sum along the last axis at an index. -/
theorem cumsum_apply (y : FVec Ideal S2x8x64 .f32) (z : FVec Ideal S_ .f32) (hz : ∀ i, z i = (0 : EReal)) (b : Fin 2) (h : Fin 8) (t : Fin 64) :
    Host.reduceWindowAdd ![1, 1, 64] ![1, 1, 1] ![0, 0, 63] ![0, 0, 0] y z
      reduceWindows_S2x8x64_S2x8x64_w1s1p0_0_w1s1p0_0_w64s1p63_0 h_S_ (ix3 b h t)
      = ∑ x : Fin 64, if x.val ≤ t.val then (y (ix3 b h x) : EReal) else 0 := by
  rw [Host.reduceWindowAdd, Ideal.hostReduceWindowAdd_def, Ideal.hostReduceWindowAdd, Host.reduceWindow]
  simp only [hz]
  rw [foldl_add_map, zero_add, ← List.ofFn_eq_map, List.sum_ofFn]
  rw [← window_reindex (fun x => y (ix3 b h x)) t]
  refine (Equiv.sum_comp ((⟨3, ![1, 1, 64]⟩ : Shape).rowMajor.symm) (fun i : (⟨3, ![1, 1, 64]⟩ : Shape).Idx =>
    if h_1 : ∀ a : Fin 3, ![0, 0, 63] a ≤ (ix3 b h t a).val * ![1, 1, 1] a + (i a).val ∧ (ix3 b h t a).val * ![1, 1, 1] a + (i a).val - ![0, 0, 63] a < S2x8x64.size a then
      (y (fun a => ⟨(ix3 b h t a).val * ![1, 1, 1] a + (i a).val - ![0, 0, 63] a, (h_1 a).2⟩) : EReal) else 0)).trans ?_
  rw [sum_idx3, Fin.sum_univ_one, Fin.sum_univ_one]
  refine Finset.sum_congr rfl fun w _ => ?_
  by_cases hw : 63 ≤ t.val + w.val
  · have h1 : 63 ≤ t.val + w.val ∧ t.val + w.val - 63 < 64 := ⟨hw, by omega⟩
    have h2 : ∀ a : Fin 3, ![0, 0, 63] a ≤ (ix3 b h t a).val * ![1, 1, 1] a + ((ix3 (0 : Fin 1) (0 : Fin 1) w) a).val ∧ (ix3 b h t a).val * ![1, 1, 1] a + ((ix3 (0 : Fin 1) (0 : Fin 1) w) a).val - ![0, 0, 63] a < S2x8x64.size a := fun a => by
      match a with
      | ⟨0, _⟩ => exact ⟨Nat.zero_le _, by show b.val * 1 + 0 - 0 < 2; omega⟩
      | ⟨1, _⟩ => exact ⟨Nat.zero_le _, by show h.val * 1 + 0 - 0 < 8; omega⟩
      | ⟨2, _⟩ => exact ⟨by show 63 ≤ t.val * 1 + w.val; omega, by show t.val * 1 + w.val - 63 < 64; omega⟩
    rw [dif_pos h1, dif_pos h2]
    congr 1
    funext a
    refine Fin.ext ?_
    match a with
    | ⟨0, _⟩ => show b.val * 1 + 0 - 0 = b.val; omega
    | ⟨1, _⟩ => show h.val * 1 + 0 - 0 = h.val; omega
    | ⟨2, _⟩ => show t.val * 1 + w.val - 63 = t.val + w.val - 63; omega
  · rw [dif_neg, dif_neg]
    · exact fun h' => hw h'.1
    · intro h'
      have h3 : 63 ≤ t.val * 1 + w.val := (h' 2).1
      omega

variable (j : ℕ) (s : State Ideal) (b : Fin 2) (h : Fin 8) (t : Fin 64) (x : Fin 64) (e : Fin 128)

theorem start_j (hj : j < 128) : ((BitVec.ofNat 32 j).toInt) = (j : Int) := by
  rw [BitVec.toInt_ofNat', Int.bmod_def]
  omega

theorem clamp_zero {s t : Shape} (ht : t.rank = s.rank) (start : Fin s.rank → Int) (a : Fin s.rank) (n : ℕ)
    (hk : start a = 0) (hle : t.size (a.cast ht.symm) ≤ s.size a) : Host.clampedStart s t ht start a + n = n := by
  rw [Host.clampedStart_of_le ht start a 0 hk (by omega), Nat.zero_add]

theorem start_zero : ((constantI S_ 32 0#32 : IVec S_ 32) (Shape.Idx.first h_S_)).toInt = 0 := by decide

/-- The start vector of a trip's slices of a rank-5 array. -/
def start5 (k : Fin 5) : Int :=
  BitVec.toInt (![constantI S_ 32 (BitVec.ofNat 32 j), constantI S_ 32 0#32, constantI S_ 32 0#32, constantI S_ 32 0#32, constantI S_ 32 0#32] k (Shape.Idx.first h_S_))

theorem start5_0 (hj : j < 128) : start5 j 0 = j := start_j j hj
theorem start5_1 : start5 j 1 = 0 := start_zero
theorem start5_2 : start5 j 2 = 0 := start_zero
theorem start5_3 : start5 j 3 = 0 := start_zero
theorem start5_4 : start5 j 4 = 0 := start_zero

/-- The start vector of a trip's slices of a rank-4 array. -/
def start4 (k : Fin 4) : Int :=
  BitVec.toInt (![constantI S_ 32 (BitVec.ofNat 32 j), constantI S_ 32 0#32, constantI S_ 32 0#32, constantI S_ 32 0#32] k (Shape.Idx.first h_S_))

theorem start4_0 (hj : j < 128) : start4 j 0 = j := start_j j hj
theorem start4_1 : start4 j 1 = 0 := start_zero
theorem start4_2 : start4 j 2 = 0 := start_zero
theorem start4_3 : start4 j 3 = 0 := start_zero

theorem b5_apply (hj : j < 128) : b5 j s (ix4 b h t x) = s.main_v34_0 (ix5 ⟨j, hj⟩ b h t x) := by
  pointwise [b5, b4]
  refine congrArg _ ((ix5_inj _ _ _ _ _ _ _ _ _ _ ).2 ⟨Fin.ext ?_, Fin.ext ?_, Fin.ext ?_, Fin.ext ?_, Fin.ext ?_⟩)
  · exact Host.clampedStart_of_le (s := S128x2x8x64x64) (t := S1x2x8x64x64) rfl (start5 j) 0 j (start5_0 j hj) (by show j + 1 ≤ 128; omega)
  · exact clamp_zero (s := S128x2x8x64x64) (t := S1x2x8x64x64) rfl (start5 j) 1 _ (start5_1 j) (by decide)
  · exact clamp_zero (s := S128x2x8x64x64) (t := S1x2x8x64x64) rfl (start5 j) 2 _ (start5_2 j) (by decide)
  · exact clamp_zero (s := S128x2x8x64x64) (t := S1x2x8x64x64) rfl (start5 j) 3 _ (start5_3 j) (by decide)
  · exact clamp_zero (s := S128x2x8x64x64) (t := S1x2x8x64x64) rfl (start5 j) 4 _ (start5_4 j) (by decide)

theorem b11_apply (hj : j < 128) : b11 j s (ix4 b h t x) = s.main_v34_1 (ix5 ⟨j, hj⟩ b h t x) := by
  pointwise [b11, b10]
  refine congrArg _ ((ix5_inj _ _ _ _ _ _ _ _ _ _ ).2 ⟨Fin.ext ?_, Fin.ext ?_, Fin.ext ?_, Fin.ext ?_, Fin.ext ?_⟩)
  · exact Host.clampedStart_of_le (s := S128x2x8x64x64) (t := S1x2x8x64x64) rfl (start5 j) 0 j (start5_0 j hj) (by show j + 1 ≤ 128; omega)
  · exact clamp_zero (s := S128x2x8x64x64) (t := S1x2x8x64x64) rfl (start5 j) 1 _ (start5_1 j) (by decide)
  · exact clamp_zero (s := S128x2x8x64x64) (t := S1x2x8x64x64) rfl (start5 j) 2 _ (start5_2 j) (by decide)
  · exact clamp_zero (s := S128x2x8x64x64) (t := S1x2x8x64x64) rfl (start5 j) 3 _ (start5_3 j) (by decide)
  · exact clamp_zero (s := S128x2x8x64x64) (t := S1x2x8x64x64) rfl (start5 j) 4 _ (start5_4 j) (by decide)

theorem b17_apply (hj : j < 128) : b17 j s (ix4 b h t e) = s.main_v34_2 (ix5 ⟨j, hj⟩ b h t e) := by
  pointwise [b17, b16]
  refine congrArg _ ((ix5_inj _ _ _ _ _ _ _ _ _ _ ).2 ⟨Fin.ext ?_, Fin.ext ?_, Fin.ext ?_, Fin.ext ?_, Fin.ext ?_⟩)
  · exact Host.clampedStart_of_le (s := S128x2x8x64x128) (t := S1x2x8x64x128) rfl (start5 j) 0 j (start5_0 j hj) (by show j + 1 ≤ 128; omega)
  · exact clamp_zero (s := S128x2x8x64x128) (t := S1x2x8x64x128) rfl (start5 j) 1 _ (start5_1 j) (by decide)
  · exact clamp_zero (s := S128x2x8x64x128) (t := S1x2x8x64x128) rfl (start5 j) 2 _ (start5_2 j) (by decide)
  · exact clamp_zero (s := S128x2x8x64x128) (t := S1x2x8x64x128) rfl (start5 j) 3 _ (start5_3 j) (by decide)
  · exact clamp_zero (s := S128x2x8x64x128) (t := S1x2x8x64x128) rfl (start5 j) 4 _ (start5_4 j) (by decide)

theorem b22_apply (hj : j < 128) : b22 j s (ix3 b h t) = s.main_v34_3 (ix4 ⟨j, hj⟩ b h t) := by
  pointwise [b22, b21]
  refine congrArg _ ((ix4_inj _ _ _ _ _ _ _ _ ).2 ⟨Fin.ext ?_, Fin.ext ?_, Fin.ext ?_, Fin.ext ?_⟩)
  · exact Host.clampedStart_of_le (s := S128x2x8x64) (t := S1x2x8x64) rfl (start4 j) 0 j (start4_0 j hj) (by show j + 1 ≤ 128; omega)
  · exact clamp_zero (s := S128x2x8x64) (t := S1x2x8x64) rfl (start4 j) 1 _ (start4_1 j) (by decide)
  · exact clamp_zero (s := S128x2x8x64) (t := S1x2x8x64) rfl (start4 j) 2 _ (start4_2 j) (by decide)
  · exact clamp_zero (s := S128x2x8x64) (t := S1x2x8x64) rfl (start4 j) 3 _ (start4_3 j) (by decide)

theorem b27_apply (hj : j < 128) : b27 j s (ix3 b h t) = s.main_v34_4 (ix4 ⟨j, hj⟩ b h t) := by
  pointwise [b27, b26]
  refine congrArg _ ((ix4_inj _ _ _ _ _ _ _ _ ).2 ⟨Fin.ext ?_, Fin.ext ?_, Fin.ext ?_, Fin.ext ?_⟩)
  · exact Host.clampedStart_of_le (s := S128x2x8x64) (t := S1x2x8x64) rfl (start4 j) 0 j (start4_0 j hj) (by show j + 1 ≤ 128; omega)
  · exact clamp_zero (s := S128x2x8x64) (t := S1x2x8x64) rfl (start4 j) 1 _ (start4_1 j) (by decide)
  · exact clamp_zero (s := S128x2x8x64) (t := S1x2x8x64) rfl (start4 j) 2 _ (start4_2 j) (by decide)
  · exact clamp_zero (s := S128x2x8x64) (t := S1x2x8x64) rfl (start4 j) 3 _ (start4_3 j) (by decide)

theorem b30_apply : b30 j s (ix3 b h t) = ∑ x : Fin 64, if x.val ≤ t.val then (b27 j s (ix3 b h x) : EReal) else 0 := by
  rw [b30]
  exact cumsum_apply _ _ (fun i => by pointwise [b29, b28]) b h t

theorem b43_apply : b43 j s (ix4 b h t x) = if x.val ≤ t.val then (b30 j s (ix3 b h t) - b30 j s (ix3 b h x) + b22 j s (ix3 b h x) : EReal) else ⊥ := by
  pointwise [b43, b42, b41, b40, b39, b38, b37, b36, b35, b34, b33, b32, b31, K_main_v19, K_main_call0_v4, K_main_v18, K_main_call0_v5, K_main_c, K_main_call0_c_0, K_main_call0_v2, K_main_call0_v3, K_main_call0_v0, K_main_call0_v1, K_main_call0_c]
  rw [IntOp.addi, BitVec.add_zero, sge_word (by omega) (by omega), WordCmp.select_ofBool, ofBits_negInf]
  by_cases hx : x.val ≤ t.val
  · rw [if_pos (decide_eq_true hx), if_pos hx]; rfl
  · rw [if_neg (by simpa using hx), if_neg hx]; rfl

theorem b111_apply (k : Fin 128) (hj : j < 128) : b111 j s (ix5 k b h x e) = if k.val = j then b75 j s (ix4 b h x e) else s.main_v34_10 (ix5 k b h x e) := by
  pointwise [b111, b106, b107, b108, b109, b110]
  have c0 : Host.clampedStart S128x2x8x64x128 S1x2x8x64x128 rfl (start5 j) 0 = j :=
    Host.clampedStart_of_le (s := S128x2x8x64x128) (t := S1x2x8x64x128) rfl (start5 j) 0 j (start5_0 j hj) (by show j + 1 ≤ 128; omega)
  have c1 : Host.clampedStart S128x2x8x64x128 S1x2x8x64x128 rfl (start5 j) 1 = 0 :=
    clamp_zero (s := S128x2x8x64x128) (t := S1x2x8x64x128) rfl (start5 j) 1 0 (start5_1 j) (by decide)
  have c2 : Host.clampedStart S128x2x8x64x128 S1x2x8x64x128 rfl (start5 j) 2 = 0 :=
    clamp_zero (s := S128x2x8x64x128) (t := S1x2x8x64x128) rfl (start5 j) 2 0 (start5_2 j) (by decide)
  have c3 : Host.clampedStart S128x2x8x64x128 S1x2x8x64x128 rfl (start5 j) 3 = 0 :=
    clamp_zero (s := S128x2x8x64x128) (t := S1x2x8x64x128) rfl (start5 j) 3 0 (start5_3 j) (by decide)
  have c4 : Host.clampedStart S128x2x8x64x128 S1x2x8x64x128 rfl (start5 j) 4 = 0 :=
    clamp_zero (s := S128x2x8x64x128) (t := S1x2x8x64x128) rfl (start5 j) 4 0 (start5_4 j) (by decide)
  by_cases hk : k.val = j
  · rw [if_pos hk, dif_pos ?_]
    · refine congrArg (b75 j s) ((ix4_inj _ _ _ _ _ _ _ _).2 ⟨Fin.ext ?_, Fin.ext ?_, Fin.ext ?_, Fin.ext ?_⟩)
      · exact (congrArg (b.val - ·) c1)
      · exact (congrArg (h.val - ·) c2)
      · exact (congrArg (x.val - ·) c3)
      · exact (congrArg (e.val - ·) c4)
    · exact ⟨⟨c0.le.trans hk.ge, hk.le.trans_lt (by show j < Host.clampedStart S128x2x8x64x128 S1x2x8x64x128 rfl (start5 j) 0 + 1; omega)⟩,
        c1.le.trans (Nat.zero_le _), c2.le.trans (Nat.zero_le _), c3.le.trans (Nat.zero_le _), c4.le.trans (Nat.zero_le _)⟩
  · rw [if_neg hk, dif_neg ?_]
    intro h'
    have h1 : Host.clampedStart S128x2x8x64x128 S1x2x8x64x128 rfl (start5 j) 0 ≤ k.val := h'.1.1
    have h2 : k.val < Host.clampedStart S128x2x8x64x128 S1x2x8x64x128 rfl (start5 j) 0 + 1 := h'.1.2
    omega

theorem b49_apply : b49 j s (ix3 b h t) = max (b46 j s (ix3 b h t)) (Finset.univ.fold max (⊥ : EReal) fun x => b43 j s (ix4 b h t x)) := by
  pointwise [b49, b48, b47]
  rw [ofBits_negInf]

theorem b46_apply : b46 j s (ix3 b h t) = (b30 j s (ix3 b h t) + s.main_v34_9 (ix2 b h) : EReal) := by
  pointwise [b46, b45, b44]

theorem b56_apply : b56 j s (ix4 b h t x) = ∑ d : Fin 64, (b5 j s (ix4 b h t d) * b11 j s (ix4 b h x d) : EReal) := by
  pointwise [b56]

theorem b75_apply : b75 j s (ix4 b h t e) = Ideal.div
      (Ideal.exp (b46 j s (ix3 b h t) - b49 j s (ix3 b h t)) * ∑ x : Fin 64, b5 j s (ix4 b h t x) * s.main_v34_7 (ix4 b h x e) +
        ∑ x : Fin 64, b56 j s (ix4 b h t x) * Ideal.exp (b43 j s (ix4 b h t x) - b49 j s (ix3 b h t)) * b17 j s (ix4 b h x e))
      (max
        (FloatOps.absf (F := Ideal) (φ := .f32)
          (Ideal.exp (b46 j s (ix3 b h t) - b49 j s (ix3 b h t)) *
              ∑ x : Fin 64, b5 j s (ix4 b h t x) * s.main_v34_8 (ix3 b h x) +
            ∑ x : Fin 64, b56 j s (ix4 b h t x) * Ideal.exp (b43 j s (ix4 b h t x) - b49 j s (ix3 b h t)) : EReal))
        (Ideal.exp (-b49 j s (ix3 b h t)))) := by
  pointwise [b75, b74, b73, b72, b71, b70, b69, b68, b67, b66, b65, b64, b63, b62, b61, b60, b59, b58, b57, b55, b54, b53, b52, b51, b50]

theorem b85_apply : b85 j s (ix2 b h) = max (b30 j s (ix3 b h 63) + s.main_v34_9 (ix2 b h) : EReal)
      (Finset.fold max (⊥ : EReal)
        (fun x => (b30 j s (ix3 b h 63) - b30 j s (ix3 b h x) + b22 j s (ix3 b h x) : EReal)) Finset.univ) := by
  pointwise [b85, b84, b83, b82, b81, b80, b79, b78, b77, b76]
  rw [ofBits_negInf]

theorem b88_apply : b88 j s (ix2 b h) = Ideal.exp (b30 j s (ix3 b h 63) + s.main_v34_9 (ix2 b h) - b85 j s (ix2 b h)) := by
  pointwise [b88, b87, b86, b77, b76]

theorem b92_apply : b92 j s (ix3 b h x) = Ideal.exp (b30 j s (ix3 b h 63) - b30 j s (ix3 b h x) + b22 j s (ix3 b h x) - b85 j s (ix2 b h)) := by
  pointwise [b92, b91, b90, b89, b81, b80, b79, b78, b77, b76]

theorem b100_apply : b100 j s (ix4 b h x e) = (b88 j s (ix2 b h) * s.main_v34_7 (ix4 b h x e)
      + ∑ y : Fin 64, b92 j s (ix3 b h y) * b11 j s (ix4 b h y x) * b17 j s (ix4 b h y e) : EReal) := by
  pointwise [b100, b99, b98, b97, b96, b95, b94, b93]

theorem b105_apply : b105 j s (ix3 b h x) = (b88 j s (ix2 b h) * s.main_v34_8 (ix3 b h x)
      + ∑ y : Fin 64, b92 j s (ix3 b h y) * b11 j s (ix4 b h y x) : EReal) := by
  pointwise [b105, b104, b103, b102, b101]

end Cert.Scan
-- ==== Proof.ScanRefStep.lean ====
module

public import proofs.«01_k».proof.Proof.ScanRefVoc
public import proofs.«01_k».proof.Proof.ScanState

/-! The reference's loop over chunks of sixty-four: before trip `j` its state holds the recurrence's closed forms at position `64 * j`. -/

@[expose] public section

set_option maxRecDepth 16384

noncomputable section

namespace Cert.Scan

open Idealize.ShloMosaic Idealize.ShloMosaic.TcCoe Idealize.SL.Sem
open Cert.ReferenceIdeal Cert.ReferenceIdeal.Gen Cert.ReferenceIdeal.Step

/-- The natural logarithm of two. -/
def l2 : ℝ := Real.log 2

theorem l2_pos : 0 < l2 := Real.log_pos (by norm_num)

theorem exp_l2 (x : ℝ) : Ideal.exp ((l2 * x : ℝ) : EReal) = ((W x : ℝ) : EReal) := rfl

/-- What the reference's state holds of one batch row and head before trip `j`. -/
structure RefAt (D : Data) (b : Fin 2) (h : Fin 8) (j : ℕ) (s : State Ideal) : Prop where
  hq : ∀ (k : Fin 128) (t d : Fin 64), s.main_v34_0 (ix5 k b h t d) = ((D.q h (64 * k.val + t.val) d : ℝ) : EReal)
  hk : ∀ (k : Fin 128) (t d : Fin 64), s.main_v34_1 (ix5 k b h t d) = ((D.k h (64 * k.val + t.val) d : ℝ) : EReal)
  hv : ∀ (k : Fin 128) (t : Fin 64) (e : Fin 128), s.main_v34_2 (ix5 k b h t e) = ((D.v h (64 * k.val + t.val) e.val : ℝ) : EReal)
  hi : ∀ (k : Fin 128) (t : Fin 64), s.main_v34_3 (ix4 k b h t) = ((l2 * D.i h (64 * k.val + t.val) : ℝ) : EReal)
  hf : ∀ (k : Fin 128) (t : Fin 64), s.main_v34_4 (ix4 k b h t) = ((l2 * D.f h (64 * k.val + t.val) : ℝ) : EReal)
  hC : ∀ (d : Fin 64) (e : Fin 128), s.main_v34_7 (ix4 b h d e) = ((S (D.f h) (D.i h) (fun s => D.k h s d * D.v h s e.val) (64 * j) : ℝ) : EReal)
  hn : ∀ d : Fin 64, s.main_v34_8 (ix3 b h d) = ((S (D.f h) (D.i h) (fun s => D.k h s d * D.v h s 128) (64 * j) : ℝ) : EReal)
  hm : s.main_v34_9 (ix2 b h) = ((l2 * (G (D.f h) (64 * j) + M (D.f h) (D.i h) (64 * j)) : ℝ) : EReal)
  hy : ∀ (k : Fin 128) (t : Fin 64) (e : Fin 128), k.val < j →
    s.main_v34_10 (ix5 k b h t e) = ((hR (D.f h) (D.i h) (D.q h) (D.k h) (D.v h) (64 * k.val + t.val) e.val : ℝ) : EReal)

section
variable {D : Data} {b : Fin 2} {h : Fin 8} {j : ℕ} {s : State Ideal} (hj : j < 128) (H : RefAt D b h j s)

include H hj

theorem RefAt.b30 (t : Fin 64) : b30 j s (ix3 b h t) = ((l2 * (G (D.f h) (64 * j + t.val + 1) - G (D.f h) (64 * j)) : ℝ) : EReal) := by
  rw [b30_apply, ← G_chunk (D.f h) (64 * j) 64 t.val t.isLt, Finset.mul_sum, coe_sum]
  refine Finset.sum_congr rfl fun x _ => ?_
  rw [b27_apply j s b h x hj, H.hf]
  by_cases hx : x.val ≤ t.val
  · rw [if_pos hx, if_pos hx]
  · rw [if_neg hx, if_neg hx, mul_zero, EReal.coe_zero]

theorem RefAt.b22 (t : Fin 64) : b22 j s (ix3 b h t) = ((l2 * D.i h (64 * j + t.val) : ℝ) : EReal) := by
  rw [b22_apply j s b h t hj, H.hi]

theorem RefAt.b43 (t x : Fin 64) : b43 j s (ix4 b h t x)
    = if x.val ≤ t.val then ((l2 * (G (D.f h) (64 * j + t.val + 1) + A (D.f h) (D.i h) (64 * j + x.val)) : ℝ) : EReal) else ⊥ := by
  rw [b43_apply, H.b30 hj, H.b30 hj, H.b22 hj, ← EReal.coe_sub, ← EReal.coe_add]
  refine if_congr Iff.rfl (congrArg _ ?_) rfl
  rw [A]; ring

theorem RefAt.b46 (t : Fin 64) : b46 j s (ix3 b h t) = ((l2 * (G (D.f h) (64 * j + t.val + 1) + M (D.f h) (D.i h) (64 * j)) : ℝ) : EReal) := by
  rw [b46_apply, H.b30 hj, H.hm, ← EReal.coe_add]
  congr 1; ring

theorem RefAt.b49 (t : Fin 64) : b49 j s (ix3 b h t) = ((l2 * (G (D.f h) (64 * j + t.val + 1) + M (D.f h) (D.i h) (64 * j + t.val + 1)) : ℝ) : EReal) := by
  rw [b49_apply, H.b46 hj]
  simp only [H.b43 hj]
  exact max_chunk (D.f h) (D.i h) (64 * j) 64 t.val t.isLt l2 l2_pos (G (D.f h) (64 * j + t.val + 1))

theorem RefAt.b56 (t x : Fin 64) : b56 j s (ix4 b h t x) = ((∑ d, D.q h (64 * j + t.val) d * D.k h (64 * j + x.val) d : ℝ) : EReal) := by
  rw [b56_apply, coe_sum]
  refine Finset.sum_congr rfl fun d _ => ?_
  rw [b5_apply j s b h t d hj, b11_apply j s b h x d hj, H.hq, H.hk, ← EReal.coe_mul]

theorem RefAt.carry (t : Fin 64) : Ideal.exp (Step.b46 j s (ix3 b h t) - Step.b49 j s (ix3 b h t))
    = ((W (M (D.f h) (D.i h) (64 * j) - M (D.f h) (D.i h) (64 * j + t.val + 1)) : ℝ) : EReal) := by
  rw [H.b46 hj, H.b49 hj, ← EReal.coe_sub, ← exp_l2]
  congr 2; ring

theorem RefAt.weight (t x : Fin 64) : Ideal.exp (Step.b43 j s (ix4 b h t x) - Step.b49 j s (ix3 b h t))
    = ((if x.val ≤ t.val then W (A (D.f h) (D.i h) (64 * j + x.val) - M (D.f h) (D.i h) (64 * j + t.val + 1)) else 0 : ℝ) : EReal) := by
  rw [H.b43 hj, H.b49 hj]
  by_cases hx : x.val ≤ t.val
  · rw [if_pos hx, if_pos hx, ← EReal.coe_sub, ← exp_l2]
    congr 2; ring
  · rw [if_neg hx, if_neg hx, EReal.bot_sub, Ideal.exp_bot, EReal.coe_zero]

/-- Numerator (and, with the vector of ones, denominator) of a trip at an entry. -/
theorem RefAt.num (t : Fin 64) (v : ℕ → ℝ) (X Y : Fin 64 → EReal)
    (hX : ∀ d, X d = ((S (D.f h) (D.i h) (fun s => D.k h s d * v s) (64 * j) : ℝ) : EReal))
    (hY : ∀ x, Y x = ((v (64 * j + x.val) : ℝ) : EReal)) :
    (Ideal.exp (Step.b46 j s (ix3 b h t) - Step.b49 j s (ix3 b h t)) * ∑ x : Fin 64, b5 j s (ix4 b h t x) * X x +
        ∑ x : Fin 64, Step.b56 j s (ix4 b h t x) * Ideal.exp (Step.b43 j s (ix4 b h t x) - Step.b49 j s (ix3 b h t)) * Y x : EReal)
      = ((N (D.f h) (D.i h) (D.q h) (D.k h) v (64 * j + t.val) : ℝ) : EReal) := by
  have h1 : (∑ x : Fin 64, b5 j s (ix4 b h t x) * X x : EReal)
      = ((∑ d, D.q h (64 * j + t.val) d * S (D.f h) (D.i h) (fun s => D.k h s d * v s) (64 * j) : ℝ) : EReal) := by
    rw [coe_sum]
    refine Finset.sum_congr rfl fun d _ => ?_
    rw [b5_apply j s b h t d hj, H.hq, hX, ← EReal.coe_mul]
  rw [N_split (D.f h) (D.i h) (D.q h) (D.k h) v (64 * j) 64 t.val t.isLt, h1, H.carry hj, EReal.coe_add, EReal.coe_mul]
  congr 1
  rw [coe_sum]
  refine Finset.sum_congr rfl fun x _ => ?_
  rw [H.b56 hj, H.weight hj, hY, ← EReal.coe_mul, ← EReal.coe_mul]
  congr 1
  by_cases hx : x.val ≤ t.val
  · rw [if_pos hx, if_pos hx]; ring
  · rw [if_neg hx, if_neg hx]; ring

/-- A trip's result. -/
theorem RefAt.b75 (t : Fin 64) (e : Fin 128) : b75 j s (ix4 b h t e) = ((hR (D.f h) (D.i h) (D.q h) (D.k h) (D.v h) (64 * j + t.val) e.val : ℝ) : EReal) := by
  have hn := H.num hj t (fun s => D.v h s e.val) (fun x => s.main_v34_7 (ix4 b h x e)) (fun x => b17 j s (ix4 b h x e))
    (fun d => H.hC d e) (fun x => by rw [b17_apply j s b h x e hj, H.hv])
  have hd := H.num hj t (fun s => D.v h s 128) (fun x => s.main_v34_8 (ix3 b h x)) (fun _ => 1)
    (fun d => H.hn d) (fun x => by rw [D.one, EReal.coe_one])
  simp only [mul_one] at hd
  rw [b75_apply, hn, hd, H.b49 hj, ← EReal.coe_neg, Ideal.absf_def, ← EReal.coe_neg, coe_max',
    show -(l2 * (G (D.f h) (64 * j + t.val + 1) + M (D.f h) (D.i h) (64 * j + t.val + 1)))
      = l2 * (-(G (D.f h) (64 * j + t.val + 1) + M (D.f h) (D.i h) (64 * j + t.val + 1))) by ring, exp_l2, coe_max', ← abs_eq_max_neg]
  have hp := W_pos (-(G (D.f h) (64 * j + t.val + 1) + M (D.f h) (D.i h) (64 * j + t.val + 1)))
  set den := max |N (D.f h) (D.i h) (D.q h) (D.k h) (fun s => D.v h s 128) (64 * j + t.val)| (W (-(G (D.f h) (64 * j + t.val + 1) + M (D.f h) (D.i h) (64 * j + t.val + 1)))) with hden
  have hd : 0 < den := lt_of_lt_of_le hp (le_max_right _ _)
  rw [Ideal.div, if_neg (by exact_mod_cast hd.ne'), ← EReal.coe_inv, ← EReal.coe_mul]
  rfl

theorem RefAt.b85 : b85 j s (ix2 b h) = ((l2 * (G (D.f h) (64 * j + 64) + M (D.f h) (D.i h) (64 * j + 64)) : ℝ) : EReal) := by
  rw [b85_apply, H.hm]
  simp only [H.b30 hj, H.b22 hj, ← EReal.coe_sub, ← EReal.coe_add]
  rw [← max_chunk_all (D.f h) (D.i h) (64 * j) 64 l2 l2_pos (G (D.f h) (64 * j + 64))]
  have e : 64 * j + (63 : Fin 64).val + 1 = 64 * j + 64 := rfl
  simp only [A, e]
  congr 2
  · ring
  · congr 1
    funext x
    congr 1; ring

theorem RefAt.b88 : b88 j s (ix2 b h) = ((W (M (D.f h) (D.i h) (64 * j) - M (D.f h) (D.i h) (64 * j + 64)) : ℝ) : EReal) := by
  have e : 64 * j + (63 : Fin 64).val + 1 = 64 * j + 64 := rfl
  rw [b88_apply, H.b85 hj, H.b30 hj, H.hm, ← EReal.coe_add, ← EReal.coe_sub, ← exp_l2, e]
  congr 2; ring

theorem RefAt.b92 (x : Fin 64) : b92 j s (ix3 b h x) = ((W (A (D.f h) (D.i h) (64 * j + x.val) - M (D.f h) (D.i h) (64 * j + 64)) : ℝ) : EReal) := by
  have e : 64 * j + (63 : Fin 64).val + 1 = 64 * j + 64 := rfl
  rw [b92_apply, H.b85 hj, H.b30 hj, H.b30 hj, H.b22 hj, ← EReal.coe_sub, ← EReal.coe_add, ← EReal.coe_sub, ← exp_l2, e, A]
  congr 2; ring

theorem RefAt.new (v : ℕ → ℝ) (d : Fin 64) (X : EReal) (Y : Fin 64 → EReal)
    (hX : X = ((S (D.f h) (D.i h) (fun s => D.k h s d * v s) (64 * j) : ℝ) : EReal))
    (hY : ∀ x, Y x = ((v (64 * j + x.val) : ℝ) : EReal)) :
    (Step.b88 j s (ix2 b h) * X + ∑ y : Fin 64, Step.b92 j s (ix3 b h y) * b11 j s (ix4 b h y d) * Y y : EReal)
      = ((S (D.f h) (D.i h) (fun s => D.k h s d * v s) (64 * (j + 1)) : ℝ) : EReal) := by
  rw [show 64 * (j + 1) = 64 * j + 64 by ring, S_step, EReal.coe_add, EReal.coe_mul, H.b88 hj, hX]
  congr 1
  rw [coe_sum]
  refine Finset.sum_congr rfl fun x _ => ?_
  rw [H.b92 hj, b11_apply j s b h x d hj, H.hk, hY, ← EReal.coe_mul, ← EReal.coe_mul, mul_assoc]

/-- A trip takes the closed forms to the next chunk. -/
theorem RefAt.next : RefAt D b h (j + 1) (step j s) where
  hq := H.hq
  hk := H.hk
  hv := H.hv
  hi := H.hi
  hf := H.hf
  hC d e := by
    rw [step_main_v34_7, b100_apply]
    exact H.new hj (fun s => D.v h s e.val) d _ (fun x => b17 j s (ix4 b h x e)) (H.hC d e) (fun x => by rw [b17_apply j s b h x e hj, H.hv])
  hn d := by
    have h1 := H.new hj (fun s => D.v h s 128) d _ (fun _ => 1) (H.hn d) (fun x => by rw [D.one, EReal.coe_one])
    simp only [mul_one] at h1
    rw [step_main_v34_8, b105_apply, h1]
  hm := by
    rw [step_main_v34_9, H.b85 hj, show 64 * (j + 1) = 64 * j + 64 by ring]
  hy k t e hk := by
    rw [step_main_v34_10, b111_apply j s b h t e k hj]
    by_cases h' : k.val = j
    · rw [if_pos h', H.b75 hj, h']
    · rw [if_neg h', H.hy k t e (by omega)]

end

end Cert.Scan
-- ==== Proof.ScanRefValue.lean ====
module

public import proofs.«01_k».proof.Proof.ScanRefStep
public import proofs.«01_k».proof.Proof.ScanData

/-! The reference's arguments cut into chunks, and its last lines, each read at an index. -/

@[expose] public section

set_option maxRecDepth 16384

noncomputable section

namespace Cert.Scan

open Idealize.ShloMosaic Idealize.ShloMosaic.TcCoe Idealize.SL.Sem
open Cert.ReferenceIdeal Cert.ReferenceIdeal.Gen Cert.ReferenceIdeal.Step

variable (Q : S2x512x8192.Idx → EReal) (K : S2x8192x512.Idx → EReal) (V : S2x1024x8192.Idx → EReal) (g : S2x8192x128.Idx → EReal)
  (k : Fin 128) (b : Fin 2) (h : Fin 8) (t d : Fin 64) (e : Fin 128)

theorem A24_apply : A_main_v24 (F := Ideal) Q K V g (ix5 k b h t d) = Q (ix3 b ⟨64 * h.val + d.val, by omega⟩ ⟨64 * k.val + t.val, by omega⟩) := by
  pointwise [A_main_v24, A_main_v23, A_main_v3, A_main_v2, A_main_v1]
  simp only [Nat.mul_comm]

theorem A26_apply : A_main_v26 (F := Ideal) Q K V g (ix5 k b h t d) = K (ix3 b ⟨64 * k.val + t.val, by omega⟩ ⟨64 * h.val + d.val, by omega⟩) := by
  pointwise [A_main_v26, A_main_v25, A_main_v6, A_main_v5, A_main_v4]
  simp only [Nat.mul_comm]

theorem A28_apply : A_main_v28 (F := Ideal) Q K V g (ix5 k b h t e) = V (ix3 b ⟨128 * h.val + e.val, by omega⟩ ⟨64 * k.val + t.val, by omega⟩) := by
  pointwise [A_main_v28, A_main_v27, A_main_v9, A_main_v8, A_main_v7]
  simp only [Nat.mul_comm]

/-- The pattern of two. -/
theorem ofBits_two : Ideal.ofBits .f32 0x40000000#32 = ((2 : ℝ) : EReal) := by
  simp [Ideal.ofBits, Ideal.ieee]
  rw [← EReal.coe_mul]
  congr 1
  norm_num

theorem log_two : Ideal.log (Ideal.ofBits .f32 0x40000000#32) = ((l2 : ℝ) : EReal) := by
  rw [ofBits_two, Ideal.log_coe, if_neg (by norm_num), l2]

theorem A30_apply : A_main_v30 (F := Ideal) Q K V g (ix4 k b h t) = (g (ix3 b ⟨64 * k.val + t.val, by omega⟩ ⟨h.val, by omega⟩) * ((l2 : ℝ) : EReal) : EReal) := by
  pointwise [A_main_v30, A_main_v29, A_main_v13, A_main_v12, A_main_v10, K_main_v11, K_main_v0, K_main_cst]
  rw [log_two]
  simp only [Nat.mul_comm]

theorem A32_apply : A_main_v32 (F := Ideal) Q K V g (ix4 k b h t) = (g (ix3 b ⟨64 * k.val + t.val, by omega⟩ ⟨8 + h.val, by omega⟩) * ((l2 : ℝ) : EReal) : EReal) := by
  pointwise [A_main_v32, A_main_v31, A_main_v17, A_main_v16, A_main_v14, K_main_v15, K_main_v0, K_main_cst]
  rw [log_two]
  simp only [Nat.mul_comm]

theorem final_apply (s : State Ideal) (o : S2x8192x1024.Idx → EReal) (n : S1024.Idx → EReal) (t : Fin 8192) (l : Fin 1024) :
    R_main_v60 (F := Ideal) s o n (ix3 b t l)
      = outOf (fun e => s.main_v34_10 (ix5 ⟨t.val / 64, by omega⟩ b ⟨l.val / 128, by omega⟩ ⟨t.val % 64, by omega⟩ e)) (o (ix3 b t l)) (n (ix1 l)) ⟨l.val % 128, by omega⟩ := by
  pointwise [R_main_v60]
  rfl

/-- The reference's states, trip by trip. -/
def refIter : ℕ → State Ideal
  | 0 => init Q K V g
  | n + 1 => step n (refIter n)

variable {Q K V g} (hQ : AllReal Q) (hK : AllReal K) (hV : AllReal V)
  (hG : ∀ (b : Fin 2) (s : Fin 8192) (l : Fin 128), l.val < 16 → ((g (ix3 b s l)).toReal : EReal) = g (ix3 b s l))

include hQ hK hV hG

/-- Before the first trip. -/
theorem refAt_zero : RefAt (dat Q K V g b) b h 0 (init Q K V g) where
  hq k t d := by
    show A_main_v24 (F := Ideal) Q K V g _ = _
    rw [A24_apply, show (dat Q K V g b).q h (64 * k.val + t.val) d = _ from dif_pos (by omega)]
    exact (hQ _).symm
  hk k t d := by
    show A_main_v26 (F := Ideal) Q K V g _ = _
    rw [A26_apply, show (dat Q K V g b).k h (64 * k.val + t.val) d = _ from dif_pos (by omega)]
    exact (hK _).symm
  hv k t e := by
    show A_main_v28 (F := Ideal) Q K V g _ = _
    rw [A28_apply, show (dat Q K V g b).v h (64 * k.val + t.val) e.val = _ from (dif_pos e.isLt).trans (dif_pos (by omega))]
    exact (hV _).symm
  hi k t := by
    show A_main_v30 (F := Ideal) Q K V g _ = _
    rw [A30_apply, show (dat Q K V g b).i h (64 * k.val + t.val) = _ from dif_pos (by omega), mul_comm, EReal.coe_mul]
    exact congrArg _ (hG _ _ _ (by show h.val < 16; omega)).symm
  hf k t := by
    show A_main_v32 (F := Ideal) Q K V g _ = _
    rw [A32_apply, show (dat Q K V g b).f h (64 * k.val + t.val) = _ from dif_pos (by omega), mul_comm, EReal.coe_mul]
    exact congrArg _ (hG _ _ _ (by show 8 + h.val < 16; omega)).symm
  hC d e := by
    show (K_main_v20 (F := Ideal) : S2x8x64x128.Idx → EReal) (ix4 b h d e) = _
    pointwise [K_main_v20, K_main_cst_0]
    exact EReal.coe_zero.symm
  hn d := by
    show (K_main_v21 (F := Ideal) : S2x8x64.Idx → EReal) (ix3 b h d) = _
    pointwise [K_main_v21, K_main_cst_1]
    exact EReal.coe_zero.symm
  hm := by
    show (K_main_v22 (F := Ideal) : S2x8.Idx → EReal) (ix2 b h) = _
    pointwise [K_main_v22, K_main_cst_2]
    rw [G_zero, M, add_zero, mul_zero, EReal.coe_zero]
  hy k t e hk := absurd hk (Nat.not_lt_zero _)

/-- Before every trip, and after the last. -/
theorem refAt_all (n : ℕ) (hn : n ≤ 128) : RefAt (dat Q K V g b) b h n (refIter Q K V g n) := by
  induction n with
  | zero => exact refAt_zero b h hQ hK hV hG
  | succ n ih => exact RefAt.next hn (ih (by omega))

/-- The reference's result at an index. -/
theorem ref_value (o : S2x8192x1024.Idx → EReal) (n : S1024.Idx → EReal) (t : Fin 8192) (l : Fin 1024) :
    R_main_v60 (F := Ideal) (refIter Q K V g 128) o n (ix3 b t l)
      = outOf (fun e => ((hR ((dat Q K V g b).f ⟨l.val / 128, by omega⟩) ((dat Q K V g b).i ⟨l.val / 128, by omega⟩) ((dat Q K V g b).q ⟨l.val / 128, by omega⟩)
          ((dat Q K V g b).k ⟨l.val / 128, by omega⟩) ((dat Q K V g b).v ⟨l.val / 128, by omega⟩) t.val e.val : ℝ) : EReal))
        (o (ix3 b t l)) (n (ix1 l)) ⟨l.val % 128, by omega⟩ := by
  rw [final_apply]
  congr 1
  funext e
  have h1 := (refAt_all b ⟨l.val / 128, by omega⟩ hQ hK hV hG 128 (le_refl _)).hy ⟨t.val / 64, by omega⟩ ⟨t.val % 64, by omega⟩ e (by show t.val / 64 < 128; omega)
  rw [h1, show 64 * (⟨t.val / 64, by omega⟩ : Fin 128).val + (⟨t.val % 64, by omega⟩ : Fin 64).val = t.val from Nat.div_add_mod _ _]

end Cert.Scan
-- ==== Proof.ScanRefRun.lean ====
module

public import proofs.«01_k».proof.Proof.Gen.ReferenceIdeal.Run
public import proofs.«01_k».proof.Proof.ScanRefValue

/-! The reference's run: what its loop leaves is the trips of `ScanRefVoc` iterated. -/

@[expose] public section

set_option maxRecDepth 16384

noncomputable section

namespace Cert.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step)

/-- The loop's state, read off the buffers. -/
def held (V0 : Valuation τ sig (Elt Ideal)) : State Ideal where
  main_v34_7 := V0 (Proc.devRef .tc main_v34_7)
  main_v34_8 := V0 (Proc.devRef .tc main_v34_8)
  main_v34_9 := V0 (Proc.devRef .tc main_v34_9)
  main_v34_10 := V0 (Proc.devRef .tc main_v34_10)
  main_v34_0 := V0 (Proc.devRef .tc main_v34_0)
  main_v34_1 := V0 (Proc.devRef .tc main_v34_1)
  main_v34_2 := V0 (Proc.devRef .tc main_v34_2)
  main_v34_3 := V0 (Proc.devRef .tc main_v34_3)
  main_v34_4 := V0 (Proc.devRef .tc main_v34_4)

variable (V0 : Valuation τ sig (Elt Ideal)) (j : ℕ)

/-- The buffers hold trip `j`'s number and the causal mask. -/
structure AtTrip : Prop where
  num : V0 (Proc.devRef .tc main_v34_6) = constantI S_ 32 (BitVec.ofNat 32 j)
  mask : V0 (Proc.devRef .tc main_v34_5) = Step.K_main_v19 (F := Ideal)

variable {V0 j} (H : AtTrip V0 j)

include H

theorem res_61 : res_main_while0b_v61 V0 = Step.b5 j (held V0) := by
  unfold res_main_while0b_v61
  rw [H.num]
  rfl

theorem res_62 : res_main_while0b_v62 V0 = Step.b11 j (held V0) := by
  unfold res_main_while0b_v62
  rw [H.num]
  rfl

theorem res_63 : res_main_while0b_v63 V0 = Step.b17 j (held V0) := by
  unfold res_main_while0b_v63
  rw [H.num]
  rfl

theorem res_64 : res_main_while0b_v64 V0 = Step.b22 j (held V0) := by
  unfold res_main_while0b_v64
  rw [H.num]
  rfl

theorem res_66 : res_main_while0b_v66 V0 = Step.b30 j (held V0) := by
  unfold res_main_while0b_v66
  simp only [H.num]
  rfl

theorem res_75 : res_main_while0b_v75 V0 = Step.b43 j (held V0) := by
  unfold res_main_while0b_v75
  simp only [H.mask, res_66 H, res_64 H]
  rfl

theorem res_78 : res_main_while0b_v78 V0 = Step.b46 j (held V0) := by
  unfold res_main_while0b_v78
  simp only [res_61 H, res_62 H, res_63 H, res_64 H, res_66 H, res_75 H]
  rfl

theorem res_80 : res_main_while0b_v80 V0 = Step.b49 j (held V0) := by
  unfold res_main_while0b_v80
  simp only [res_61 H, res_62 H, res_63 H, res_64 H, res_66 H, res_75 H, res_78 H]
  rfl

theorem res_86 : res_main_while0b_v86 V0 = Step.b55 j (held V0) := by
  unfold res_main_while0b_v86
  simp only [res_61 H, res_62 H, res_63 H, res_64 H, res_66 H, res_75 H, res_78 H, res_80 H]
  rfl

theorem res_88 : res_main_while0b_v88 V0 = Step.b57 j (held V0) := by
  unfold res_main_while0b_v88
  simp only [res_61 H, res_62 H, res_63 H, res_64 H, res_66 H, res_75 H, res_78 H, res_80 H, res_86 H]
  rfl

theorem res_107 : res_main_while0b_v107 V0 = Step.b77 j (held V0) := by
  unfold res_main_while0b_v107
  simp only [res_61 H, res_62 H, res_63 H, res_64 H, res_66 H, res_75 H, res_78 H, res_80 H, res_86 H, res_88 H]
  rfl

theorem res_111 : res_main_while0b_v111 V0 = Step.b81 j (held V0) := by
  unfold res_main_while0b_v111
  simp only [res_61 H, res_62 H, res_63 H, res_64 H, res_66 H, res_75 H, res_78 H, res_80 H, res_86 H, res_88 H, res_107 H]
  rfl

theorem res_114 : res_main_while0b_v114 V0 = Step.b85 j (held V0) := by
  unfold res_main_while0b_v114
  simp only [res_61 H, res_62 H, res_63 H, res_64 H, res_66 H, res_75 H, res_78 H, res_80 H, res_86 H, res_88 H, res_107 H, res_111 H]
  rfl

theorem res_117 : res_main_while0b_v117 V0 = Step.b88 j (held V0) := by
  unfold res_main_while0b_v117
  simp only [res_61 H, res_62 H, res_63 H, res_64 H, res_66 H, res_75 H, res_78 H, res_80 H, res_86 H, res_88 H, res_107 H, res_111 H, res_114 H]
  rfl

theorem res_121 : res_main_while0b_v121 V0 = Step.b92 j (held V0) := by
  unfold res_main_while0b_v121
  simp only [res_61 H, res_62 H, res_63 H, res_64 H, res_66 H, res_75 H, res_78 H, res_80 H, res_86 H, res_88 H, res_107 H, res_111 H, res_114 H, res_117 H]
  rfl

theorem next_7 : STEP V0 (Proc.devRef .tc main_v34_7) = Step.b100 j (held V0) := by
  rw [STEP_main_v34_7]
  unfold step_main_v34_7
  simp only [res_61 H, res_62 H, res_63 H, res_64 H, res_66 H, res_75 H, res_78 H, res_80 H, res_86 H, res_88 H, res_107 H, res_111 H, res_114 H, res_117 H, res_121 H]
  rfl

theorem next_8 : STEP V0 (Proc.devRef .tc main_v34_8) = Step.b105 j (held V0) := by
  rw [STEP_main_v34_8]
  unfold step_main_v34_8
  simp only [res_61 H, res_62 H, res_63 H, res_64 H, res_66 H, res_75 H, res_78 H, res_80 H, res_86 H, res_88 H, res_107 H, res_111 H, res_114 H, res_117 H, res_121 H]
  rfl

theorem next_9 : STEP V0 (Proc.devRef .tc main_v34_9) = Step.b85 j (held V0) := by
  rw [STEP_main_v34_9]
  unfold step_main_v34_9
  simp only [res_61 H, res_62 H, res_63 H, res_64 H, res_66 H, res_75 H, res_78 H, res_80 H, res_86 H, res_88 H, res_107 H, res_111 H, res_114 H, res_117 H, res_121 H]
  rfl

theorem next_10 : STEP V0 (Proc.devRef .tc main_v34_10) = Step.b111 j (held V0) := by
  rw [STEP_main_v34_10]
  unfold step_main_v34_10
  simp only [res_61 H, res_62 H, res_63 H, res_64 H, res_66 H, res_75 H, res_78 H, res_80 H, res_86 H, res_88 H, res_107 H, res_111 H, res_114 H, res_117 H, res_121 H, H.num]
  rfl

/-- One trip over the buffers is one step of the state. -/
theorem held_trip : held (STEP V0) = step j (held V0) := by
  unfold held step
  rw [next_7 H, next_8 H, next_9 H, next_10 H, STEP_main_v34_0, STEP_main_v34_1, STEP_main_v34_2,
    STEP_main_v34_3, STEP_main_v34_4]
  rfl

/-- After a trip the buffers stand at the next one. -/
theorem AtTrip.next : AtTrip (STEP V0) (j + 1) where
  num := by
    rw [STEP_main_v34_6]
    unfold step_main_v34_6
    rw [H.num]
    funext i
    show BitVec.ofNat 32 j + 1#32 = BitVec.ofNat 32 (j + 1)
    rw [BitVec.ofNat_add]
  mask := by rw [STEP_main_v34_5, H.mask]

omit H

variable (m : (ℓ : Loc nD τ sig) → Buf (Elt Ideal) ℓ) (c : Dev nD)

/-- The state before the first trip, of the memory's arguments. -/
abbrev firstState : State Ideal :=
  Step.init (m ((c.tc : Thread nD τ).loc main_arg0)) (m ((c.tc : Thread nD τ).loc main_arg1))
    (m ((c.tc : Thread nD τ).loc main_arg2)) (m ((c.tc : Thread nD τ).loc main_arg4))

set_option maxRecDepth 65536 in
set_option maxHeartbeats 500000 in
/-- Before the loop the buffers stand at trip 0. -/
theorem entry_trip : AtTrip (entryContents preI m c) 0 := by
  refine ⟨?_, ?_⟩ <;> (simp only [entryContents, afterL_cons, afterL_nil]; after_reads_simp) <;> rfl

set_option maxRecDepth 65536 in
set_option maxHeartbeats 1000000 in
/-- Before the loop the buffers hold the first state. -/
theorem held_entry : held (entryContents preI m c) = firstState m c := by
  unfold held firstState Step.init
  rw [State.mk.injEq]
  refine ⟨?_, ?_, ?_, ?_, ?_, ?_, ?_, ?_, ?_⟩ <;>
    (simp only [entryContents, afterL_cons, afterL_nil]; after_reads_simp) <;> rfl

/-- After `k` trips the buffers stand at trip `k` and hold the `k`-th state. -/
theorem held_iterate (it : ℕ → State Ideal) (h0 : it 0 = firstState m c) (hs : ∀ n, it (n + 1) = step n (it n)) (k : ℕ) :
    AtTrip (STEP^[k] (entryContents preI m c)) k ∧ held (STEP^[k] (entryContents preI m c)) = it k := by
  induction k with
  | zero => exact ⟨entry_trip m c, (held_entry m c).trans h0.symm⟩
  | succ k ih =>
    rw [Function.iterate_succ_apply', hs k, ← ih.2]
    exact ⟨ih.1.next, held_trip ih.1⟩

/-- What the operations after the loop make of the buffers, of the state they hold. -/
theorem out_held (V0 : Valuation τ sig (Elt Ideal)) : out_main_v60 V0
    = Step.R_main_v60 (held V0) (V0 (Proc.devRef .tc main_arg3)) (V0 (Proc.devRef .tc main_arg5)) := by
  unfold out_main_v60 Step.R_main_v60
  rfl

/-- The loop's result, of any sequence of states going by `step` from the first. -/
theorem out_iterate (it : ℕ → State Ideal) (h0 : it 0 = firstState m c) (hs : ∀ n, it (n + 1) = step n (it n)) :
    out_main_v60 (STEP^[128] (entryContents preI m c)) = Step.R_main_v60 (it 128)
      (m ((c.tc : Thread nD τ).loc main_arg3)) (m ((c.tc : Thread nD τ).loc main_arg5)) := by
  rw [out_held, (held_iterate m c it h0 hs 128).2, iter_main_arg3, iter_main_arg5]

end Cert.Scan
-- ==== Proof.ScanPre.lean ====
module

public import proofs.«01_k».proof.Proof.ScanData
public import proofs.«01_k».proof.Proof.Gen.Pre_finite
public import Idealize.ShloMosaic.Lib.ReduceAll
public import Idealize.ShloMosaic.Lib.Pointwise

/-! The precondition says what it is meant to: the operands it names hold real numbers. -/

@[expose] public section

set_option maxRecDepth 16384

noncomputable section

namespace Cert.Scan

open Idealize.ShloMosaic Idealize.ShloMosaic.TcCoe Idealize.SL.Sem
open Cert.Pre_finite Cert.Pre_finite.Gen

/-- The pattern of plus infinity. -/
theorem ofBits_inf : Ideal.ofBits .f32 0x7F800000#32 = (⊤ : EReal) := by
  simp [Ideal.ofBits, Ideal.ieee]

/-- A magnitude below plus infinity is a real number's. -/
theorem real_of_abs_lt (a : EReal) (h : Ideal.cmp .olt (max a (-a)) (Ideal.ofBits .f32 0x7F800000#32) = 1#1) : ((a.toReal : ℝ) : EReal) = a := by
  rw [ofBits_inf] at h
  have h' : max a (-a) < ⊤ := by
    by_contra hn
    simp [Ideal.cmp, hn] at h
  refine EReal.coe_toReal (fun e => ?_) (fun e => ?_)
  · rw [e] at h'; simp at h'
  · rw [e] at h'; simp at h'

/-- Four conjuncts of words at an index. -/
theorem four_and {s : Shape} (A B C D : IVec s 1) (i : s.Idx) (h : andi (andi (andi A B) C) D i = 1#1) : A i = 1#1 ∧ B i = 1#1 ∧ C i = 1#1 ∧ D i = 1#1 := by
  obtain ⟨h2, hD⟩ := IntOp.andi_eq_one.1 h
  obtain ⟨h3, hC⟩ := IntOp.andi_eq_one.1 h2
  obtain ⟨hA, hB⟩ := IntOp.andi_eq_one.1 h3
  exact ⟨hA, hB, hC, hD⟩

/-- Every entry's magnitude is below plus infinity, as the host says it. -/
def allFinite {s : Shape} (axes : List (Fin s.rank)) (x : FVec Ideal s .f32) (hb : S_.BroadcastsInDim s (![] : Fin 0 → Fin s.rank)) (hr : s.ReducesTo axes S_) : IVec S_ 1 :=
  Host.reduce IntOp.andi (cmpf .olt (Host.absf x) (broadcastInDim s ![] hb (constant S_ .f32 0x7F800000#32))) (constantI S_ 1 1#1) hr h_S_

theorem allFinite_real {s : Shape} (axes : List (Fin s.rank)) (x : FVec Ideal s .f32) (hb : S_.BroadcastsInDim s (![] : Fin 0 → Fin s.rank)) (hr : s.ReducesTo axes S_)
    (j : S_.Idx) (e : allFinite axes x hb hr j = 1#1) : AllReal (s := s) x := fun i => by
  haveI : Subsingleton S_.Idx := ⟨fun a b => funext fun x => x.elim0⟩
  have h := Host.reduce_andi_all _ _ _ _ _ e i
  exact real_of_abs_lt _ h

theorem fn_eq (Q : S2x512x8192.Idx → EReal) (K : S2x8192x512.Idx → EReal) (V : S2x1024x8192.Idx → EReal) (o : S2x8192x1024.Idx → EReal)
    (g : S2x8192x128.Idx → EReal) (n : S1024.Idx → EReal) :
    fn (F := Ideal) Q K V o g n = andi (andi (andi (allFinite [0, 1, 2] (extf .f32 (Q : FVec Ideal _ .bf16) bitsLt_bf16_f32) bcast_S_S2x512x8192 reducesTo_S2x512x8192_S_d0_1_2)
      (allFinite [0, 1, 2] (extf .f32 (K : FVec Ideal _ .bf16) bitsLt_bf16_f32) bcast_S_S2x8192x512 reducesTo_S2x8192x512_S_d0_1_2))
      (allFinite [0, 1, 2] (extf .f32 (V : FVec Ideal _ .bf16) bitsLt_bf16_f32) bcast_S_S2x1024x8192 reducesTo_S2x1024x8192_S_d0_1_2))
      (allFinite [0, 1, 2] (extractStridedSlice S2x8192x16 ![0, 0, 0] (g : FVec Ideal _ .f32) slices_S2x8192x128_S2x8192x16_0_0_0) bcast_S_S2x8192x16 reducesTo_S2x8192x16_S_d0_1_2) := by
  unfold fn fn_part1 allFinite
  rfl

theorem slice16 (g : S2x8192x128.Idx → EReal) (b : Fin 2) (s : Fin 8192) (l : Fin 16) :
    extractStridedSlice S2x8192x16 ![0, 0, 0] g slices_S2x8192x128_S2x8192x16_0_0_0 (ix3 b s l) = g (ix3 b s ⟨l.val, by omega⟩) := by
  pointwise []

/-- The precondition's four conjuncts. -/
theorem finite_fn (Q : S2x512x8192.Idx → EReal) (K : S2x8192x512.Idx → EReal) (V : S2x1024x8192.Idx → EReal) (o : S2x8192x1024.Idx → EReal)
    (g : S2x8192x128.Idx → EReal) (n : S1024.Idx → EReal)
    (h : fn (F := Ideal) Q K V o g n = fun _ => 1#1) :
    AllReal Q ∧ AllReal K ∧ AllReal V
      ∧ ∀ (b : Fin 2) (s : Fin 8192) (l : Fin 128), l.val < 16 → ((g (ix3 b s l)).toReal : EReal) = g (ix3 b s l) := by
  rw [fn_eq] at h
  have h1 := congrFun h (Shape.Idx.first h_S_)
  obtain ⟨hq, hk, hv, hg⟩ := four_and _ _ _ _ _ h1
  have h5 := allFinite_real _ _ _ _ _ hg
  refine ⟨allFinite_real _ _ _ _ _ hq, allFinite_real _ _ _ _ _ hk, allFinite_real _ _ _ _ _ hv, fun b s l hl => ?_⟩
  have h6 := h5 (ix3 b s (⟨l.val, hl⟩ : Fin 16))
  rw [slice16] at h6
  exact h6

end Cert.Scan
-- ==== Proof.MlpVocab.lean ====
module

public import proofs.«01_k».proof.Proof.Gen.Kernel2Ideal.Frame
public import Idealize.ShloMosaic.Lib.VecWindow
public import Idealize.ShloMosaic.Lib.WholeRead
public import Idealize.ShloMosaic.Lib.Pipeline.Value

/-! The projection and MLP kernel's work at one grid point, in one vocabulary: functions of the blocks fetched and of
    the arrays kept in the scratches. -/

@[expose] public section

set_option maxRecDepth 16384

noncomputable section

namespace Cert.Mlp

open Idealize.ShloMosaic Idealize.ShloMosaic.TcCoe Idealize.ShloMosaic.Tactic Idealize.SL.Sem
open Cert.Kernel2Ideal Cert.Kernel2Ideal.Gen

variable {F : FTy → Type} [FloatOps F]

/-- A block of rows, each divided by the root of its mean square and multiplied by the gain. -/
def rms (x : FVec F S512x1024 .f32) (g : Vec F S1x1024 .f32) : FVec F S512x1024 .f32 :=
  mulf (mulf x (broadcastTo S512x1024
      (rsqrt (addf (divf (shapeCast S512x1 (multiReduction .add [1] S512 (mulf x x) 0x00000000#32 reduces_S512x1024_S512 (.inl rfl) rfl) shapeCasts_S512_S512x1)
          (broadcast S512x1 (Scalar.ofBits .f32 0x44800000#32))) (broadcast S512x1 (Scalar.ofBits .f32 0x358637BD#32))))
      broadcasts_S512x1_S512x1024))
    (broadcastTo S512x1024 (shapeCast S1x1024 g shapeCasts_S1x1024_S1x1024) broadcasts_S1x1024_S512x1024)

/-- The mixer's output through its projection. -/
def projOf (a : Vec F S512x1024 .bf16) (wo : Vec F S1024x1024 .f32) : FVec F S512x1024 .f32 :=
  matmul dot_S512x1024_S1024x1024_S512x1024_1_0_0_1_n_n none (shapeCast S512x1024 a shapeCasts_S512x1024_S512x1024)
    (truncf .bf16 (shapeCast S1024x1024 wo shapeCasts_S1024x1024_S1024x1024) bitsLt_bf16_f32) (constant S512x1024 .f32 0x00000000#32)

/-- The residual stream after the mixer. -/
def streamOf (a : Vec F S512x1024 .bf16) (h : Vec F S512x1024 .f32) (wo : Vec F S1024x1024 .f32) (gm : Vec F S1x1024 .f32) : FVec F S512x1024 .f32 :=
  addf h (rms (projOf a wo) gm)

/-- The MLP's input: the stream normalised and narrowed. -/
def normOf (h1 : FVec F S512x1024 .f32) (g : Vec F S1x1024 .f32) : FVec F S512x1024 .bf16 :=
  truncf .bf16 (rms h1 g) bitsLt_bf16_f32

/-- 512 columns of the first weight, narrowed. -/
def upPart (w : Vec F S1x1024x512 .f32) : FVec F S1024x512 .bf16 :=
  truncf .bf16 (shapeCast S1024x512 w shapeCasts_S1x1024x512_S1024x512) bitsLt_bf16_f32

/-- 512 rows of the second weight, narrowed. -/
def downPart (w : Vec F S1x512x1024 .f32) : FVec F S512x1024 .bf16 :=
  truncf .bf16 (shapeCast S512x1024 w shapeCasts_S1x512x1024_S512x1024) bitsLt_bf16_f32

/-- 512 hidden units' share of the MLP. -/
def narrow (xn : Vec F S512x1024 .bf16) (wu : FVec F S1024x512 .bf16) (wd : FVec F S512x1024 .bf16) : FVec F S512x1024 .f32 :=
  matmul dot_S512x512_S512x1024_S512x1024_1_0_0_1_n_n none
    (truncf .bf16 (mulf (maximumf (matmul dot_S512x1024_S1024x512_S512x512_1_0_0_1_n_n none xn wu (constant S512x512 .f32 0x00000000#32)) (broadcast S512x512 (Scalar.ofBits .f32 0x00000000#32)))
      (maximumf (matmul dot_S512x1024_S1024x512_S512x512_1_0_0_1_n_n none xn wu (constant S512x512 .f32 0x00000000#32)) (broadcast S512x512 (Scalar.ofBits .f32 0x00000000#32)))) bitsLt_bf16_f32)
    wd (constant S512x1024 .f32 0x00000000#32)

/-- 1024 hidden units' share of the MLP. -/
def wide (xn : FVec F S512x1024 .bf16) (wu : Vec F S1024x1024 .bf16) (wd : Vec F S1024x1024 .bf16) : FVec F S512x1024 .f32 :=
  matmul dot_S512x1024_S1024x1024_S512x1024_1_0_0_1_n_n none
    (truncf .bf16 (mulf (maximumf (matmul dot_S512x1024_S1024x1024_S512x1024_1_0_0_1_n_n none xn wu (constant S512x1024 .f32 0x00000000#32)) (broadcast S512x1024 (Scalar.ofBits .f32 0x00000000#32)))
      (maximumf (matmul dot_S512x1024_S1024x1024_S512x1024_1_0_0_1_n_n none xn wu (constant S512x1024 .f32 0x00000000#32)) (broadcast S512x1024 (Scalar.ofBits .f32 0x00000000#32)))) bitsLt_bf16_f32)
    wd (constant S512x1024 .f32 0x00000000#32)

/-- The result's block: the stream and the MLP's output normalised. -/
def outOf (h1 : FVec F S512x1024 .f32) (u : FVec F S512x1024 .f32) (g : Vec F S1x1024 .f32) : FVec F S512x1024 .f32 :=
  addf h1 (rms u g)

/-- Columns `o … o + 1023` of the first weight kept whole. -/
def colsAt (W : Vec F S1024x4096 .bf16) (o : ℕ) (ho : ∀ a, (![0, o] : Fin 2 → ℕ) a + S1024x1024.size a ≤ S1024x4096.size a) : Vec F S1024x1024 .bf16 :=
  fun x => W ((Rect.unit (s := S1024x4096) ![0, o] S1024x1024.size ho).emb x)

/-- Rows `o … o + 1023` of the second weight kept whole. -/
def rowsAt (W : Vec F S4096x1024 .bf16) (o : ℕ) (ho : ∀ a, (![o, 0] : Fin 2 → ℕ) a + S1024x1024.size a ≤ S4096x1024.size a) : Vec F S1024x1024 .bf16 :=
  fun x => W ((Rect.unit (s := S4096x1024) ![o, 0] S1024x1024.size ho).emb x)

/-- The MLP of a block from the two weights kept whole: four shares. -/
def wideSum (xn : FVec F S512x1024 .bf16) (U : Vec F S1024x4096 .bf16) (D : Vec F S4096x1024 .bf16) : FVec F S512x1024 .f32 :=
  addf (addf (addf (wide xn (colsAt U 0 inb_S1024x4096_S1024x1024_0_0) (rowsAt D 0 inb_S4096x1024_S1024x1024_0_0))
      (wide xn (colsAt U 1024 inb_S1024x4096_S1024x1024_0_1024) (rowsAt D 1024 inb_S4096x1024_S1024x1024_1024_0)))
      (wide xn (colsAt U 2048 inb_S1024x4096_S1024x1024_0_2048) (rowsAt D 2048 inb_S4096x1024_S1024x1024_2048_0)))
    (wide xn (colsAt U 3072 inb_S1024x4096_S1024x1024_0_3072) (rowsAt D 3072 inb_S4096x1024_S1024x1024_3072_0))

/-- The first weight's scratch with one block of columns stored over it. -/
def putUp (i : grid0.Coords) (W : Vec F S1024x4096 .bf16) (w : Vec F S1x1024x512 .f32) : Vec F S1024x4096 .bf16 :=
  VecWindow.put (s := S1024x4096) W (k0_off1 i) S1024x512.size (upPart w)

/-- The second weight's scratch with one block of rows stored over it. -/
def putDown (i : grid0.Coords) (W : Vec F S4096x1024 .bf16) (w : Vec F S1x512x1024 .f32) : Vec F S4096x1024 .bf16 :=
  VecWindow.put (s := S4096x1024) W (k0_off2 i) S512x1024.size (downPart w)

/-- The accumulator's start. -/
def zeros : FVec F S512x1024 .f32 := broadcast S512x1024 (Scalar.ofBits .f32 0x00000000#32)

end Cert.Mlp

end
-- ==== Proof.MlpHeld.lean ====
module

public import proofs.«01_k».proof.Proof.MlpVocab
public import Idealize.ShloMosaic.Lib.Tactic.Stretches

/-! What a grid point's work holds, and which of its four branches it takes. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The point is the first. -/
abbrev cond0_0 (i : grid0.Coords) : Prop := (Scalar.cmpi .ne (Scalar.extui (Scalar.cmpi .eq (BitVec.ofNat 32 (i 0).val) 0#32)) 0#32) = 1#1
/-- The point is one of the first eight. -/
abbrev cond0_1 (i : grid0.Coords) : Prop := k0_cond2 i = 1#1
/-- The point is the eighth. -/
abbrev cond0_2 (i : grid0.Coords) : Prop := k0_cond3 i = 1#1
/-- The point is past the eighth. -/
abbrev cond0_3 (i : grid0.Coords) : Prop := k0_cond4 i = 1#1

/-- The buffers a grid point's work touches, each at its contents: the eight blocks fetched, the result's block, the
    five scratches. -/
def Held (c : Dev nD) (arg1 : Memref sig .tc .vmem S512x1024 .bf16) (arg2 : Memref sig .tc .vmem S512x1024 .f32) (arg3 : Memref sig .tc .vmem S1024x1024 .f32) (arg4 : Memref sig .tc .vmem S1x1024 .f32) (arg5 : Memref sig .tc .vmem S1x1024 .f32) (arg6 : Memref sig .tc .vmem S1x1024x512 .f32) (arg7 : Memref sig .tc .vmem S1x512x1024 .f32) (arg8 : Memref sig .tc .vmem S1x1024 .f32) (arg9 : Memref sig .tc .vmem S512x1024 .f32) (arg10 : Memref sig .tc .vmem S1024x4096 .bf16) (arg11 : Memref sig .tc .vmem S4096x1024 .bf16) (arg12 : Memref sig .tc .vmem S512x1024 .f32) (arg13 : Memref sig .tc .vmem S512x1024 .bf16) (arg14 : Memref sig .tc .vmem S512x1024 .f32)
    (x0 : Vec F S512x1024 .bf16) (x1 : Vec F S512x1024 .f32) (x2 : Vec F S1024x1024 .f32) (x3 : Vec F S1x1024 .f32) (x4 : Vec F S1x1024 .f32) (x5 : Vec F S1x1024x512 .f32) (x6 : Vec F S1x512x1024 .f32) (x7 : Vec F S1x1024 .f32)
    (d : Vec F S512x1024 .f32) (W : Vec F S1024x4096 .bf16) (D : Vec F S4096x1024 .bf16) (h1 : Vec F S512x1024 .f32) (xn : Vec F S512x1024 .bf16) (acc : Vec F S512x1024 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d ∗ owns (c : Thread nD τ) arg10 fullShare W ∗ owns (c : Thread nD τ) arg11 fullShare D ∗ owns (c : Thread nD τ) arg12 fullShare h1 ∗ owns (c : Thread nD τ) arg13 fullShare xn ∗ owns (c : Thread nD τ) arg14 fullShare acc)

/-- A load of a whole buffer reads its contents. -/
theorem load_whole {s : Shape} {e : EltTy} {m : Memref sig .tc .vmem s e} (h : m.IsWhole) (x : Vec F s e) {off : Fin s.rank → ℕ}
    (inb : ∀ a, off a + s.size a ≤ s.size a) : m.view.readAt (Elt F) (Rect.unit off s.size inb).toLoadRect (h.unread x) = x :=
  (View.readAt_full m.view (h.unread x) inb).trans (h.read_unread x)

/-- A load of 1024 columns of the first weight's scratch. -/
theorem load_cols {m : Memref sig .tc .vmem S1024x4096 .bf16} (h : m.IsWhole) (W : Vec F S1024x4096 .bf16) (o : ℕ)
    (ho : ∀ a, (![0, o] : Fin 2 → ℕ) a + S1024x1024.size a ≤ S1024x4096.size a) :
    m.view.readAt (Elt F) (Rect.unit (s := S1024x4096) ![0, o] S1024x1024.size ho).toLoadRect (h.unread W) = colsAt W o ho :=
  funext fun x => h.readAt_unread W _ x

/-- A load of 1024 rows of the second weight's scratch. -/
theorem load_rows {m : Memref sig .tc .vmem S4096x1024 .bf16} (h : m.IsWhole) (W : Vec F S4096x1024 .bf16) (o : ℕ)
    (ho : ∀ a, (![o, 0] : Fin 2 → ℕ) a + S1024x1024.size a ≤ S4096x1024.size a) :
    m.view.readAt (Elt F) (Rect.unit (s := S4096x1024) ![o, 0] S1024x1024.size ho).toLoadRect (h.unread W) = rowsAt W o ho :=
  funext fun x => h.readAt_unread W _ x

end Cert.Mlp

end
-- ==== Proof.MlpState.lean ====
module

public import proofs.«01_k».proof.Proof.MlpHeld
public import Idealize.ShloMosaic.Lib.Pointwise

/-! What the kernel keeps from point to point, and what it stores. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ)

/-- The grid point numbered `k`. -/
def pt (k : ℕ) (h : k < 39) : Fin cfg0.N := ⟨k, lt_of_lt_of_eq h N_0.symm⟩

/-- The first weight as the kernel comes to keep it: column block by column block, narrowed. -/
def upKept (c : Dev nD) : Vec F S1024x4096 .bf16 := fun y =>
  upPart (iblk m c 5 (pt ((y 1).val / 512) (by have : (y 1).val < 4096 := (y 1).isLt; omega)))
    (ix2 ⟨(y 0).val, (y 0).isLt⟩ ⟨(y 1).val % 512, Nat.mod_lt _ (by decide)⟩)

/-- The second weight as the kernel comes to keep it: row block by row block, narrowed. -/
def downKept (c : Dev nD) : Vec F S4096x1024 .bf16 := fun y =>
  downPart (iblk m c 6 (pt ((y 0).val / 512) (by have : (y 0).val < 4096 := (y 0).isLt; omega)))
    (ix2 ⟨(y 0).val % 512, Nat.mod_lt _ (by decide)⟩ ⟨(y 1).val, (y 1).isLt⟩)

/-- The stream after the mixer at the block of point `t`. -/
def streamAt (c : Dev nD) (t : Fin cfg0.N) : FVec F S512x1024 .f32 := streamOf (iblk m c 0 t) (iblk m c 1 t) (iblk m c 2 t) (iblk m c 3 t)

/-- The MLP's input at the block of point `t`. -/
def normAt (c : Dev nD) (t : Fin cfg0.N) : FVec F S512x1024 .bf16 := normOf (streamAt m c t) (iblk m c 4 t)

/-- The accumulator of the first block after `k` shares. -/
def accAt (c : Dev nD) : (k : ℕ) → k ≤ 39 → FVec F S512x1024 .f32
  | 0, _ => zeros
  | k + 1, h => addf (accAt c k (by omega)) (narrow (normAt m c (pt 0 (by omega))) (upPart (iblk m c 5 (pt k (by omega)))) (downPart (iblk m c 6 (pt k (by omega)))))

/-- The block of the result stored at point `t`. -/
def outAt (c : Dev nD) (t : Fin cfg0.N) : FVec F S512x1024 .f32 :=
  if t.val ≤ 7 then outOf (streamAt m c (pt 0 (by decide))) (accAt m c 8 (by decide)) (iblk m c 7 t)
  else outOf (streamAt m c t) (wideSum (normAt m c t) (upKept m c) (downKept m c)) (iblk m c 7 t)

/-- What the five scratches hold after `n` points. -/
structure Kept (c : Dev nD) (n : ℕ) (W : Vec F S1024x4096 .bf16) (D : Vec F S4096x1024 .bf16) (h1 : Vec F S512x1024 .f32)
    (xn : Vec F S512x1024 .bf16) (acc : Vec F S512x1024 .f32) : Prop where
  up : ∀ y, (y 1).val < 512 * n → W y = upKept m c y
  down : ∀ y, (y 0).val < 512 * n → D y = downKept m c y
  stream : 1 ≤ n → n ≤ 8 → h1 = streamAt m c (pt 0 (by decide))
  norm : 1 ≤ n → n ≤ 8 → xn = normAt m c (pt 0 (by decide))
  sum : (_ : 1 ≤ n) → (h : n ≤ 8) → acc = accAt m c n (by omega)

/-- Before the first point nothing is asked of them. -/
theorem Kept.start (c : Dev nD) (W : Vec F S1024x4096 .bf16) (D : Vec F S4096x1024 .bf16) (h1 : Vec F S512x1024 .f32)
    (xn : Vec F S512x1024 .bf16) (acc : Vec F S512x1024 .f32) : Kept m c 0 W D h1 xn acc :=
  ⟨fun _ h => absurd h (Nat.not_lt_zero _), fun _ h => absurd h (Nat.not_lt_zero _), fun h => by omega, fun h => by omega, fun h => by omega⟩

/-- Where the first weight's block of point `t` is stored. -/
theorem off1_eq : ∀ t : Fin cfg0.N, t.val < 8 → k0_off1 (grid0.coords t) = ![0, 512 * t.val] :=
  (by decide +kernel : ∀ t : Fin grid0.N, t.val < 8 → k0_off1 (grid0.coords t) = ![0, 512 * t.val])

/-- Where the second weight's block of point `t` is stored. -/
theorem off2_eq : ∀ t : Fin cfg0.N, t.val < 8 → k0_off2 (grid0.coords t) = ![512 * t.val, 0] :=
  (by decide +kernel : ∀ t : Fin grid0.N, t.val < 8 → k0_off2 (grid0.coords t) = ![512 * t.val, 0])

/-- Storing one more block of the first weight. -/
theorem up_step (c : Dev nD) (t : Fin cfg0.N) (ht : t.val < 8) (W : Vec F S1024x4096 .bf16)
    (h : ∀ y, (y 1).val < 512 * t.val → W y = upKept m c y) :
    ∀ y, (y 1).val < 512 * (t.val + 1) → putUp (grid0.coords t) W (iblk m c 5 t) y = upKept m c y := by
  intro y hy
  unfold putUp
  rw [off1_eq t ht]
  unfold VecWindow.put
  by_cases hin : 512 * t.val ≤ (y 1).val
  · have hall : ∀ a, (![0, 512 * t.val] : Fin 2 → ℕ) a ≤ (y a).val ∧ (y a).val < (![0, 512 * t.val] : Fin 2 → ℕ) a + S1024x512.size a := by
      refine Fin.forall_fin_two.mpr ⟨⟨Nat.zero_le _, ?_⟩, ⟨hin, ?_⟩⟩
      · have : (y 0).val < 1024 := (y 0).isLt
        show (y 0).val < 0 + 1024; omega
      · show (y 1).val < 512 * t.val + 512; omega
    rw [dif_pos hall]
    unfold upKept
    have hk : (y 1).val / 512 = t.val := by omega
    have hp : pt ((y 1).val / 512) (by have : (y 1).val < 4096 := (y 1).isLt; omega) = t := Fin.ext hk
    rw [hp]
    refine congrArg (upPart (iblk m c 5 t)) (funext (Fin.forall_fin_two.mpr ⟨Fin.ext ?_, Fin.ext ?_⟩))
    · show (y 0).val - 0 = (y 0).val; omega
    · show (y 1).val - 512 * t.val = (y 1).val % 512; omega
  · rw [dif_neg (fun hall => hin (hall 1).1)]
    exact h y (by omega)

/-- Storing one more block of the second weight. -/
theorem down_step (c : Dev nD) (t : Fin cfg0.N) (ht : t.val < 8) (D : Vec F S4096x1024 .bf16)
    (h : ∀ y, (y 0).val < 512 * t.val → D y = downKept m c y) :
    ∀ y, (y 0).val < 512 * (t.val + 1) → putDown (grid0.coords t) D (iblk m c 6 t) y = downKept m c y := by
  intro y hy
  unfold putDown
  rw [off2_eq t ht]
  unfold VecWindow.put
  by_cases hin : 512 * t.val ≤ (y 0).val
  · have hall : ∀ a, (![512 * t.val, 0] : Fin 2 → ℕ) a ≤ (y a).val ∧ (y a).val < (![512 * t.val, 0] : Fin 2 → ℕ) a + S512x1024.size a := by
      refine Fin.forall_fin_two.mpr ⟨⟨hin, ?_⟩, ⟨Nat.zero_le _, ?_⟩⟩
      · show (y 0).val < 512 * t.val + 512; omega
      · have : (y 1).val < 1024 := (y 1).isLt
        show (y 1).val < 0 + 1024; omega
    rw [dif_pos hall]
    unfold downKept
    have hk : (y 0).val / 512 = t.val := by omega
    have hp : pt ((y 0).val / 512) (by have : (y 0).val < 4096 := (y 0).isLt; omega) = t := Fin.ext hk
    rw [hp]
    refine congrArg (downPart (iblk m c 6 t)) (funext (Fin.forall_fin_two.mpr ⟨Fin.ext ?_, Fin.ext ?_⟩))
    · show (y 0).val - 512 * t.val = (y 0).val % 512; omega
    · show (y 1).val - 0 = (y 1).val; omega
  · rw [dif_neg (fun hall => hin (hall 0).1)]
    exact h y (by omega)

/-- The scratches after the first point. -/
theorem Kept.first (c : Dev nD) (t : Fin cfg0.N) (ht : t.val = 0) {W D h1 xn acc} (h : Kept m c t.val W D h1 xn acc) :
    Kept m c (t.val + 1) (putUp (grid0.coords t) W (iblk m c 5 t)) (putDown (grid0.coords t) D (iblk m c 6 t)) (streamAt m c t) (normAt m c t)
      (addf zeros (narrow (normAt m c t) (upPart (iblk m c 5 t)) (downPart (iblk m c 6 t)))) := by
  obtain rfl : t = pt 0 (by decide) := Fin.ext ht
  exact ⟨up_step m c _ (by rw [ht]; decide) W h.up, down_step m c _ (by rw [ht]; decide) D h.down, fun _ _ => rfl, fun _ _ => rfl, fun _ _ => rfl⟩

/-- The scratches after one of the next seven points. -/
theorem Kept.next (c : Dev nD) (t : Fin cfg0.N) (h1 : 1 ≤ t.val) (h8 : t.val < 8) {W D h xn acc} (k : Kept m c t.val W D h xn acc) :
    Kept m c (t.val + 1) (putUp (grid0.coords t) W (iblk m c 5 t)) (putDown (grid0.coords t) D (iblk m c 6 t)) h xn
      (addf acc (narrow xn (upPart (iblk m c 5 t)) (downPart (iblk m c 6 t)))) := by
  refine ⟨up_step m c _ h8 W k.up, down_step m c _ h8 D k.down, fun _ _ => k.stream h1 (by omega), fun _ _ => k.norm h1 (by omega), fun _ _ => ?_⟩
  rw [k.sum h1 (by omega), k.norm h1 (by omega)]
  rfl

/-- Past the eighth point the two weights are kept whole. -/
theorem Kept.whole (c : Dev nD) {n : ℕ} (hn : 8 ≤ n) {W D h1 xn acc} (k : Kept m c n W D h1 xn acc) : W = upKept m c ∧ D = downKept m c :=
  ⟨funext fun y => k.up y (by have : (y 1).val < 4096 := (y 1).isLt; omega), funext fun y => k.down y (by have : (y 0).val < 4096 := (y 0).isLt; omega)⟩

/-- A point past the eighth leaves the scratches as they are. -/
theorem Kept.late (c : Dev nD) {n : ℕ} (hn : 8 ≤ n) {W D h1 xn acc} (k : Kept m c n W D h1 xn acc) : Kept m c (n + 1) W D h1 xn acc :=
  ⟨fun y _ => congrFun (k.whole m c hn).1 y, fun y _ => congrFun (k.whole m c hn).2 y, fun _ h => by omega, fun _ h => by omega, fun _ h => by omega⟩

/-- The result's block at the eighth point. -/
theorem Kept.out_eighth (c : Dev nD) (t : Fin cfg0.N) (ht : t.val = 7) {W D h1 xn acc} (k : Kept m c t.val W D h1 xn acc) :
    outOf h1 (addf acc (narrow xn (upPart (iblk m c 5 t)) (downPart (iblk m c 6 t)))) (iblk m c 7 t) = outAt m c t := by
  obtain rfl : t = pt 7 (by decide) := Fin.ext ht
  unfold outAt
  rw [if_pos (by rw [ht]), k.sum (by rw [ht]; decide) (by rw [ht]; decide), k.norm (by rw [ht]; decide) (by rw [ht]; decide), k.stream (by rw [ht]; decide) (by rw [ht]; decide)]
  rfl

/-- The result's block at a point past the eighth. -/
theorem Kept.out_late (c : Dev nD) (t : Fin cfg0.N) (ht : 8 ≤ t.val) {W D h1 xn acc} (k : Kept m c t.val W D h1 xn acc) :
    outOf (streamAt m c t) (wideSum (normAt m c t) W D) (iblk m c 7 t) = outAt m c t := by
  unfold outAt
  rw [if_neg (by omega), (k.whole m c ht).1, (k.whole m c ht).2]

end Cert.Mlp

end
-- ==== Proof.MlpRunA.lean ====
module

public import proofs.«01_k».proof.Proof.MlpHeld

/-! The first grid point. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (arg1 : Memref sig .tc .vmem S512x1024 .bf16) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1024x4096 .bf16) (harg10 : arg10.IsWhole) (arg11 : Memref sig .tc .vmem S4096x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x1024 .f32) (harg14 : arg14.IsWhole)
variable (x0 : Vec F S512x1024 .bf16) (x1 : Vec F S512x1024 .f32) (x2 : Vec F S1024x1024 .f32) (x3 : Vec F S1x1024 .f32) (x4 : Vec F S1x1024 .f32) (x5 : Vec F S1x1024x512 .f32) (x6 : Vec F S1x512x1024 .f32) (x7 : Vec F S1x1024 .f32)

set_option maxHeartbeats 2000000 in
/-- The first point: the stream and the MLP's input of the first block are kept, the accumulator starts from zero, and the first shares are kept and added. -/
theorem run_first (c : Dev nD) (i : grid0.Coords) (hc0 : cond0_0 i) (hc1 : cond0_1 i) (hc2 : ¬cond0_2 i) (hc3 : ¬cond0_3 i) (d : Vec F S512x1024 .f32) (W : Vec F S1024x4096 .bf16) (D : Vec F S4096x1024 .bf16) (h1 : Vec F S512x1024 .f32) (xn : Vec F S512x1024 .bf16) (acc : Vec F S512x1024 .f32) (E : Set ℕ) (K : PUnit → sProp 𝕄) :
    iprop(Held c arg1 arg2 arg3 arg4 arg5 arg6 arg7 arg8 arg9 arg10 arg11 arg12 arg13 arg14 x0 x1 x2 x3 x4 x5 x6 x7 d W D h1 xn acc
        ∗ (Held c arg1 arg2 arg3 arg4 arg5 arg6 arg7 arg8 arg9 arg10 arg11 arg12 arg13 arg14 x0 x1 x2 x3 x4 x5 x6 x7 d (putUp i W x5) (putDown i D x6) (streamOf x0 x1 x2 x3) (normOf (streamOf x0 x1 x2 x3) x4) (addf zeros (narrow (normOf (streamOf x0 x1 x2 x3) x4) (upPart x5) (downPart x6))) -∗ K ⟨⟩))
      ⊢ wp frame (wpE (defs₀ (F := F)) Variants.none c none) E (cc0_proj_mlp i arg1 harg1 arg2 harg2 arg3 harg3 arg4 harg4 arg5 harg5 arg6 harg6 arg7 harg7 arg8 harg8 arg9 harg9 arg10 harg10 arg11 harg11 arg12 harg12 arg13 harg13 arg14 harg14) K := by
  unfold cc0_proj_mlp k0_part1 k0_part2 k0_part3 Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  clear hf0 hf1 hf2 hf3 hf4 hf5 hf6 hf7 hf8 hf9 hf10 hf11 hf12 hf13
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; sl_unfold_run_names; rw [View.read_writes_cons_put _ _ _ _ _ rfl, View.writes_nil, harg10.read_unread, load_whole harg6 x5]; simp only [shapeCast_self, outOf, streamOf, normOf, projOf, rms, zeros, wideSum, wide, narrow] <;> rfl
  isplitl [H10]
  · iexists _; isplitr; swap; · iexact H10
    ipureintro; sl_unfold_run_names; rw [View.read_writes_cons_put _ _ _ _ _ rfl, View.writes_nil, harg11.read_unread, load_whole harg7 x6]; simp only [shapeCast_self, outOf, streamOf, normOf, projOf, rms, zeros, wideSum, wide, narrow] <;> rfl
  isplitl [H11]
  · iexists _; isplitr; swap; · iexact H11
    ipureintro; sl_unfold_run_names; rw [View.read_writes_full]; (try rw [View.readCov_full]); (try rw [View.readCov_full]); (try rw [load_whole harg1 x0]); (try rw [load_whole harg2 x1]); (try rw [load_whole harg3 x2]); (try rw [load_whole harg4 x3]); (try rw [load_whole harg5 x4]); (try rw [load_whole harg6 x5]); (try rw [load_whole harg7 x6]); (try rw [load_whole harg8 x7]); (try rw [load_whole harg12 h1]); (try rw [load_whole harg13 xn]); (try rw [load_whole harg14 acc]); simp only [shapeCast_self, outOf, streamOf, normOf, projOf, rms, zeros, wideSum, wide, narrow] <;> rfl
  isplitl [H12]
  · iexists _; isplitr; swap; · iexact H12
    ipureintro; sl_unfold_run_names; rw [View.read_writes_full]; (try rw [View.readCov_full]); (try rw [View.readCov_full]); (try rw [load_whole harg1 x0]); (try rw [load_whole harg2 x1]); (try rw [load_whole harg3 x2]); (try rw [load_whole harg4 x3]); (try rw [load_whole harg5 x4]); (try rw [load_whole harg6 x5]); (try rw [load_whole harg7 x6]); (try rw [load_whole harg8 x7]); (try rw [load_whole harg12 h1]); (try rw [load_whole harg13 xn]); (try rw [load_whole harg14 acc]); simp only [shapeCast_self, outOf, streamOf, normOf, projOf, rms, zeros, wideSum, wide, narrow] <;> rfl
  iexists _; isplitr; swap; · iexact H13
  ipureintro; sl_unfold_run_names; rw [View.read_writes_full]; (try rw [View.readCov_full]); (try rw [View.readCov_full]); (try rw [load_whole harg1 x0]); (try rw [load_whole harg2 x1]); (try rw [load_whole harg3 x2]); (try rw [load_whole harg4 x3]); (try rw [load_whole harg5 x4]); (try rw [load_whole harg6 x5]); (try rw [load_whole harg7 x6]); (try rw [load_whole harg8 x7]); (try rw [load_whole harg12 h1]); (try rw [load_whole harg13 xn]); (try rw [load_whole harg14 acc]); simp only [shapeCast_self, outOf, streamOf, normOf, projOf, rms, zeros, wideSum, wide, narrow] <;> rfl

end Cert.Mlp

end
-- ==== Proof.MlpRunB.lean ====
module

public import proofs.«01_k».proof.Proof.MlpHeld

/-! A grid point between the first and the eighth. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (arg1 : Memref sig .tc .vmem S512x1024 .bf16) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1024x4096 .bf16) (harg10 : arg10.IsWhole) (arg11 : Memref sig .tc .vmem S4096x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x1024 .f32) (harg14 : arg14.IsWhole)
variable (x0 : Vec F S512x1024 .bf16) (x1 : Vec F S512x1024 .f32) (x2 : Vec F S1024x1024 .f32) (x3 : Vec F S1x1024 .f32) (x4 : Vec F S1x1024 .f32) (x5 : Vec F S1x1024x512 .f32) (x6 : Vec F S1x512x1024 .f32) (x7 : Vec F S1x1024 .f32)

set_option maxHeartbeats 2000000 in
/-- A point between the first and the eighth: one block of each weight is kept, and its share of the MLP joins the accumulator. -/
theorem run_mid (c : Dev nD) (i : grid0.Coords) (hc0 : ¬cond0_0 i) (hc1 : cond0_1 i) (hc2 : ¬cond0_2 i) (hc3 : ¬cond0_3 i) (d : Vec F S512x1024 .f32) (W : Vec F S1024x4096 .bf16) (D : Vec F S4096x1024 .bf16) (h1 : Vec F S512x1024 .f32) (xn : Vec F S512x1024 .bf16) (acc : Vec F S512x1024 .f32) (E : Set ℕ) (K : PUnit → sProp 𝕄) :
    iprop(Held c arg1 arg2 arg3 arg4 arg5 arg6 arg7 arg8 arg9 arg10 arg11 arg12 arg13 arg14 x0 x1 x2 x3 x4 x5 x6 x7 d W D h1 xn acc
        ∗ (Held c arg1 arg2 arg3 arg4 arg5 arg6 arg7 arg8 arg9 arg10 arg11 arg12 arg13 arg14 x0 x1 x2 x3 x4 x5 x6 x7 d (putUp i W x5) (putDown i D x6) h1 xn (addf acc (narrow xn (upPart x5) (downPart x6))) -∗ K ⟨⟩))
      ⊢ wp frame (wpE (defs₀ (F := F)) Variants.none c none) E (cc0_proj_mlp i arg1 harg1 arg2 harg2 arg3 harg3 arg4 harg4 arg5 harg5 arg6 harg6 arg7 harg7 arg8 harg8 arg9 harg9 arg10 harg10 arg11 harg11 arg12 harg12 arg13 harg13 arg14 harg14) K := by
  unfold cc0_proj_mlp k0_part1 k0_part2 k0_part3 Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  clear hf0 hf1 hf2 hf3 hf4 hf5 hf6 hf7 hf8 hf9 hf10 hf11 hf12 hf13
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; sl_unfold_run_names; rw [View.read_writes_cons_put _ _ _ _ _ rfl, View.writes_nil, harg10.read_unread, load_whole harg6 x5]; simp only [shapeCast_self, outOf, streamOf, normOf, projOf, rms, zeros, wideSum, wide, narrow] <;> rfl
  isplitl [H10]
  · iexists _; isplitr; swap; · iexact H10
    ipureintro; sl_unfold_run_names; rw [View.read_writes_cons_put _ _ _ _ _ rfl, View.writes_nil, harg11.read_unread, load_whole harg7 x6]; simp only [shapeCast_self, outOf, streamOf, normOf, projOf, rms, zeros, wideSum, wide, narrow] <;> rfl
  isplitl [H11]
  · iexists _; isplitr; swap; · iexact H11
    ipureintro; exact harg12.read_unread _
  isplitl [H12]
  · iexists _; isplitr; swap; · iexact H12
    ipureintro; exact harg13.read_unread _
  iexists _; isplitr; swap; · iexact H13
  ipureintro; sl_unfold_run_names; rw [View.read_writes_full]; (try rw [View.readCov_full]); (try rw [View.readCov_full]); (try rw [load_whole harg1 x0]); (try rw [load_whole harg2 x1]); (try rw [load_whole harg3 x2]); (try rw [load_whole harg4 x3]); (try rw [load_whole harg5 x4]); (try rw [load_whole harg6 x5]); (try rw [load_whole harg7 x6]); (try rw [load_whole harg8 x7]); (try rw [load_whole harg12 h1]); (try rw [load_whole harg13 xn]); (try rw [load_whole harg14 acc]); simp only [shapeCast_self, outOf, streamOf, normOf, projOf, rms, zeros, wideSum, wide, narrow] <;> rfl

end Cert.Mlp

end
-- ==== Proof.MlpRunC.lean ====
module

public import proofs.«01_k».proof.Proof.MlpHeld

/-! The eighth grid point. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (arg1 : Memref sig .tc .vmem S512x1024 .bf16) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1024x4096 .bf16) (harg10 : arg10.IsWhole) (arg11 : Memref sig .tc .vmem S4096x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x1024 .f32) (harg14 : arg14.IsWhole)
variable (x0 : Vec F S512x1024 .bf16) (x1 : Vec F S512x1024 .f32) (x2 : Vec F S1024x1024 .f32) (x3 : Vec F S1x1024 .f32) (x4 : Vec F S1x1024 .f32) (x5 : Vec F S1x1024x512 .f32) (x6 : Vec F S1x512x1024 .f32) (x7 : Vec F S1x1024 .f32)

set_option maxHeartbeats 2000000 in
/-- The eighth point: the last shares are kept and added, and the first block's result is stored. -/
theorem run_eighth (c : Dev nD) (i : grid0.Coords) (hc0 : ¬cond0_0 i) (hc1 : cond0_1 i) (hc2 : cond0_2 i) (hc3 : ¬cond0_3 i) (d : Vec F S512x1024 .f32) (W : Vec F S1024x4096 .bf16) (D : Vec F S4096x1024 .bf16) (h1 : Vec F S512x1024 .f32) (xn : Vec F S512x1024 .bf16) (acc : Vec F S512x1024 .f32) (E : Set ℕ) (K : PUnit → sProp 𝕄) :
    iprop(Held c arg1 arg2 arg3 arg4 arg5 arg6 arg7 arg8 arg9 arg10 arg11 arg12 arg13 arg14 x0 x1 x2 x3 x4 x5 x6 x7 d W D h1 xn acc
        ∗ (Held c arg1 arg2 arg3 arg4 arg5 arg6 arg7 arg8 arg9 arg10 arg11 arg12 arg13 arg14 x0 x1 x2 x3 x4 x5 x6 x7 (outOf h1 (addf acc (narrow xn (upPart x5) (downPart x6))) x7) (putUp i W x5) (putDown i D x6) h1 xn (addf acc (narrow xn (upPart x5) (downPart x6))) -∗ K ⟨⟩))
      ⊢ wp frame (wpE (defs₀ (F := F)) Variants.none c none) E (cc0_proj_mlp i arg1 harg1 arg2 harg2 arg3 harg3 arg4 harg4 arg5 harg5 arg6 harg6 arg7 harg7 arg8 harg8 arg9 harg9 arg10 harg10 arg11 harg11 arg12 harg12 arg13 harg13 arg14 harg14) K := by
  unfold cc0_proj_mlp k0_part1 k0_part2 k0_part3 Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  clear hf0 hf1 hf2 hf3 hf4 hf5 hf6 hf7 hf8 hf9 hf10 hf11 hf12 hf13
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; sl_unfold_run_names; rw [View.read_writes_full]; (try rw [View.readCov_full]); (try rw [View.readCov_full]); (try rw [load_whole harg1 x0]); (try rw [load_whole harg2 x1]); (try rw [load_whole harg3 x2]); (try rw [load_whole harg4 x3]); (try rw [load_whole harg5 x4]); (try rw [load_whole harg6 x5]); (try rw [load_whole harg7 x6]); (try rw [load_whole harg8 x7]); (try rw [load_whole harg12 h1]); (try rw [load_whole harg13 xn]); (try rw [load_whole harg14 acc]); simp only [shapeCast_self, outOf, streamOf, normOf, projOf, rms, zeros, wideSum, wide, narrow] <;> rfl
  isplitl [H9]
  · iexists _; isplitr; swap; · iexact H9
    ipureintro; sl_unfold_run_names; rw [View.read_writes_cons_put _ _ _ _ _ rfl, View.writes_nil, harg10.read_unread, load_whole harg6 x5]; simp only [shapeCast_self, outOf, streamOf, normOf, projOf, rms, zeros, wideSum, wide, narrow] <;> rfl
  isplitl [H10]
  · iexists _; isplitr; swap; · iexact H10
    ipureintro; sl_unfold_run_names; rw [View.read_writes_cons_put _ _ _ _ _ rfl, View.writes_nil, harg11.read_unread, load_whole harg7 x6]; simp only [shapeCast_self, outOf, streamOf, normOf, projOf, rms, zeros, wideSum, wide, narrow] <;> rfl
  isplitl [H11]
  · iexists _; isplitr; swap; · iexact H11
    ipureintro; exact harg12.read_unread _
  isplitl [H12]
  · iexists _; isplitr; swap; · iexact H12
    ipureintro; exact harg13.read_unread _
  iexists _; isplitr; swap; · iexact H13
  ipureintro; sl_unfold_run_names; rw [View.read_writes_full]; (try rw [View.readCov_full]); (try rw [View.readCov_full]); (try rw [load_whole harg1 x0]); (try rw [load_whole harg2 x1]); (try rw [load_whole harg3 x2]); (try rw [load_whole harg4 x3]); (try rw [load_whole harg5 x4]); (try rw [load_whole harg6 x5]); (try rw [load_whole harg7 x6]); (try rw [load_whole harg8 x7]); (try rw [load_whole harg12 h1]); (try rw [load_whole harg13 xn]); (try rw [load_whole harg14 acc]); simp only [shapeCast_self, outOf, streamOf, normOf, projOf, rms, zeros, wideSum, wide, narrow] <;> rfl

end Cert.Mlp

end
-- ==== Proof.MlpRunD.lean ====
module

public import proofs.«01_k».proof.Proof.MlpHeld

/-! A grid point past the eighth. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (arg1 : Memref sig .tc .vmem S512x1024 .bf16) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1024x4096 .bf16) (harg10 : arg10.IsWhole) (arg11 : Memref sig .tc .vmem S4096x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x1024 .f32) (harg14 : arg14.IsWhole)
variable (x0 : Vec F S512x1024 .bf16) (x1 : Vec F S512x1024 .f32) (x2 : Vec F S1024x1024 .f32) (x3 : Vec F S1x1024 .f32) (x4 : Vec F S1x1024 .f32) (x5 : Vec F S1x1024x512 .f32) (x6 : Vec F S1x512x1024 .f32) (x7 : Vec F S1x1024 .f32)

set_option maxHeartbeats 2000000 in
/-- A point past the eighth: a whole block's result from the two weights kept. -/
theorem run_late (c : Dev nD) (i : grid0.Coords) (hc0 : ¬cond0_0 i) (hc1 : ¬cond0_1 i) (hc2 : ¬cond0_2 i) (hc3 : cond0_3 i) (d : Vec F S512x1024 .f32) (W : Vec F S1024x4096 .bf16) (D : Vec F S4096x1024 .bf16) (h1 : Vec F S512x1024 .f32) (xn : Vec F S512x1024 .bf16) (acc : Vec F S512x1024 .f32) (E : Set ℕ) (K : PUnit → sProp 𝕄) :
    iprop(Held c arg1 arg2 arg3 arg4 arg5 arg6 arg7 arg8 arg9 arg10 arg11 arg12 arg13 arg14 x0 x1 x2 x3 x4 x5 x6 x7 d W D h1 xn acc
        ∗ (Held c arg1 arg2 arg3 arg4 arg5 arg6 arg7 arg8 arg9 arg10 arg11 arg12 arg13 arg14 x0 x1 x2 x3 x4 x5 x6 x7 (outOf (streamOf x0 x1 x2 x3) (wideSum (normOf (streamOf x0 x1 x2 x3) x4) W D) x7) W D h1 xn acc -∗ K ⟨⟩))
      ⊢ wp frame (wpE (defs₀ (F := F)) Variants.none c none) E (cc0_proj_mlp i arg1 harg1 arg2 harg2 arg3 harg3 arg4 harg4 arg5 harg5 arg6 harg6 arg7 harg7 arg8 harg8 arg9 harg9 arg10 harg10 arg11 harg11 arg12 harg12 arg13 harg13 arg14 harg14) K := by
  unfold cc0_proj_mlp k0_part1 k0_part2 k0_part3 Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  clear hf0 hf1 hf2 hf3 hf4 hf5 hf6 hf7 hf8 hf9 hf10 hf11 hf12 hf13
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; rw [View.read_writes_full]; sl_unfold_run_names; (try rw [View.readCov_full]); (try rw [View.readCov_full]); (try rw [load_whole harg1 x0]); (try rw [load_whole harg2 x1]); (try rw [load_whole harg3 x2]); (try rw [load_whole harg4 x3]); (try rw [load_whole harg5 x4]); (try rw [load_whole harg6 x5]); (try rw [load_whole harg7 x6]); (try rw [load_whole harg8 x7]); (try rw [load_whole harg12 h1]); (try rw [load_whole harg13 xn]); (try rw [load_whole harg14 acc]); rw [load_cols harg10 W 0, load_cols harg10 W 1024, load_cols harg10 W 2048, load_cols harg10 W 3072, load_rows harg11 D 0, load_rows harg11 D 1024, load_rows harg11 D 2048, load_rows harg11 D 3072]; simp only [shapeCast_self, outOf, streamOf, normOf, projOf, rms, zeros, wideSum, wide, narrow] <;> rfl
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  iexists _; isplitr; swap; · iexact H13
  ipureintro; exact harg14.read_unread _

end Cert.Mlp

end
-- ==== Proof.MlpPoint.lean ====
module

public import proofs.«01_k».proof.Proof.MlpState
public import proofs.«01_k».proof.Proof.MlpRunA
public import proofs.«01_k».proof.Proof.MlpRunB
public import proofs.«01_k».proof.Proof.MlpRunC
public import proofs.«01_k».proof.Proof.MlpRunD

/-! One grid point's work against what is kept between points. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 1000000

variable (m : (ℓ : Loc nD τ sig) → Buf (Elt F) ℓ) (ρ : Dev nD → PrngReg)

/-- Window 0's staging memref at point `t`. -/
abbrev ms0 (t : Fin cfg0.N) : Memref sig .tc .vmem S512x1024 .bf16 := win0_0.stage (cfg0.slots t 0)
/-- It is whole. -/
abbrev hs0 (t : Fin cfg0.N) : (ms0 t).IsWhole := hstage0_0 ((cfg0.slots t 0).cast nbuf0_0)
/-- Window 1's staging memref at point `t`. -/
abbrev ms1 (t : Fin cfg0.N) : Memref sig .tc .vmem S512x1024 .f32 := win0_1.stage (cfg0.slots t 1)
/-- It is whole. -/
abbrev hs1 (t : Fin cfg0.N) : (ms1 t).IsWhole := hstage0_1 ((cfg0.slots t 1).cast nbuf0_1)
/-- Window 2's staging memref at point `t`. -/
abbrev ms2 (t : Fin cfg0.N) : Memref sig .tc .vmem S1024x1024 .f32 := win0_2.stage (cfg0.slots t 2)
/-- It is whole. -/
abbrev hs2 (t : Fin cfg0.N) : (ms2 t).IsWhole := hstage0_2 ((cfg0.slots t 2).cast nbuf0_2)
/-- Window 3's staging memref at point `t`. -/
abbrev ms3 (t : Fin cfg0.N) : Memref sig .tc .vmem S1x1024 .f32 := win0_3.stage (cfg0.slots t 3)
/-- It is whole. -/
abbrev hs3 (t : Fin cfg0.N) : (ms3 t).IsWhole := hstage0_3 ((cfg0.slots t 3).cast nbuf0_3)
/-- Window 4's staging memref at point `t`. -/
abbrev ms4 (t : Fin cfg0.N) : Memref sig .tc .vmem S1x1024 .f32 := win0_4.stage (cfg0.slots t 4)
/-- It is whole. -/
abbrev hs4 (t : Fin cfg0.N) : (ms4 t).IsWhole := hstage0_4 ((cfg0.slots t 4).cast nbuf0_4)
/-- Window 5's staging memref at point `t`. -/
abbrev ms5 (t : Fin cfg0.N) : Memref sig .tc .vmem S1x1024x512 .f32 := win0_5.stage (cfg0.slots t 5)
/-- It is whole. -/
abbrev hs5 (t : Fin cfg0.N) : (ms5 t).IsWhole := hstage0_5 ((cfg0.slots t 5).cast nbuf0_5)
/-- Window 6's staging memref at point `t`. -/
abbrev ms6 (t : Fin cfg0.N) : Memref sig .tc .vmem S1x512x1024 .f32 := win0_6.stage (cfg0.slots t 6)
/-- It is whole. -/
abbrev hs6 (t : Fin cfg0.N) : (ms6 t).IsWhole := hstage0_6 ((cfg0.slots t 6).cast nbuf0_6)
/-- Window 7's staging memref at point `t`. -/
abbrev ms7 (t : Fin cfg0.N) : Memref sig .tc .vmem S1x1024 .f32 := win0_7.stage (cfg0.slots t 7)
/-- It is whole. -/
abbrev hs7 (t : Fin cfg0.N) : (ms7 t).IsWhole := hstage0_7 ((cfg0.slots t 7).cast nbuf0_7)
/-- Window 8's staging memref at point `t`. -/
abbrev ms8 (t : Fin cfg0.N) : Memref sig .tc .vmem S512x1024 .f32 := win0_8.stage (cfg0.slots t 8)
/-- It is whole. -/
abbrev hs8 (t : Fin cfg0.N) : (ms8 t).IsWhole := hstage0_8 ((cfg0.slots t 8).cast nbuf0_8)
/-- Scratch 0. -/
abbrev sc0 : Memref sig .tc .vmem S1024x4096 .bf16 := Memref.whole cc0_scratch0
/-- It is whole. -/
abbrev hw0 : (sc0).IsWhole := Memref.isWhole_whole _
/-- Scratch 1. -/
abbrev sc1 : Memref sig .tc .vmem S4096x1024 .bf16 := Memref.whole cc0_scratch1
/-- It is whole. -/
abbrev hw1 : (sc1).IsWhole := Memref.isWhole_whole _
/-- Scratch 2. -/
abbrev sc2 : Memref sig .tc .vmem S512x1024 .f32 := Memref.whole cc0_scratch2
/-- It is whole. -/
abbrev hw2 : (sc2).IsWhole := Memref.isWhole_whole _
/-- Scratch 3. -/
abbrev sc3 : Memref sig .tc .vmem S512x1024 .bf16 := Memref.whole cc0_scratch3
/-- It is whole. -/
abbrev hw3 : (sc3).IsWhole := Memref.isWhole_whole _
/-- Scratch 4. -/
abbrev sc4 : Memref sig .tc .vmem S512x1024 .f32 := Memref.whole cc0_scratch4
/-- It is whole. -/
abbrev hw4 : (sc4).IsWhole := Memref.isWhole_whole _

/-- The first branch's condition holds at the first point only. -/
theorem hcond0 (t : Fin cfg0.N) : cond0_0 (grid0.coords t) ↔ t.val = 0 :=
  (by decide +kernel : ∀ t : Fin grid0.N, cond0_0 (grid0.coords t) ↔ t.val = 0) t
/-- The second branch's at the first eight. -/
theorem hcond1 (t : Fin cfg0.N) : cond0_1 (grid0.coords t) ↔ t.val < 8 :=
  (by decide +kernel : ∀ t : Fin grid0.N, cond0_1 (grid0.coords t) ↔ t.val < 8) t
/-- The third branch's at the eighth. -/
theorem hcond2 (t : Fin cfg0.N) : cond0_2 (grid0.coords t) ↔ t.val = 7 :=
  (by decide +kernel : ∀ t : Fin grid0.N, cond0_2 (grid0.coords t) ↔ t.val = 7) t
/-- The fourth branch's past the eighth. -/
theorem hcond3 (t : Fin cfg0.N) : cond0_3 (grid0.coords t) ↔ 8 ≤ t.val :=
  (by decide +kernel : ∀ t : Fin grid0.N, cond0_3 (grid0.coords t) ↔ 8 ≤ t.val) t

/-- What is held between points: the five scratches at contents `Kept` allows, and the generator's register. -/
def Inv (c : Dev nD) (n : ℕ) : sProp 𝕄 :=
  iprop((∃ W D h1 xn acc, ⌜Kept m c n W D h1 xn acc⌝ ∗ owns (c : Thread nD τ) sc0 fullShare W ∗ owns (c : Thread nD τ) sc1 fullShare D ∗ owns (c : Thread nD τ) sc2 fullShare h1 ∗ owns (c : Thread nD τ) sc3 fullShare xn ∗ owns (c : Thread nD τ) sc4 fullShare acc) ∗ (∃ r, prngReg c r))

/-- The relational proof data: an input's buffer is left as found; the result's holds `outAt` from the eighth point on. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun _ X => 7 ≤ t.val → X = outAt m c t
  Φ t := Inv m c t.val
  q _ := fullShare
  owed _ := 0

/-- One point's work, from any of the four runs of it. -/
theorem point_of (c : Dev nD) (t : Fin cfg0.N) (O : sProp 𝕄) (d d' : Vec F S512x1024 .f32) (W : Vec F S1024x4096 .bf16) (D : Vec F S4096x1024 .bf16) (h1 : Vec F S512x1024 .f32) (xn : Vec F S512x1024 .bf16) (acc : Vec F S512x1024 .f32) (W' : Vec F S1024x4096 .bf16) (D' : Vec F S4096x1024 .bf16) (h1' : Vec F S512x1024 .f32) (xn' : Vec F S512x1024 .bf16) (acc' : Vec F S512x1024 .f32)
    (hk : Kept m c (t.val + 1) W' D' h1' xn' acc') (hd : 7 ≤ t.val → d' = outAt m c t)
    (hrun : ∀ (E : Set ℕ) (K : PUnit → sProp 𝕄), iprop(Held c (ms0 t) (ms1 t) (ms2 t) (ms3 t) (ms4 t) (ms5 t) (ms6 t) (ms7 t) (ms8 t) sc0 sc1 sc2 sc3 sc4 (iblk m c 0 t) (iblk m c 1 t) (iblk m c 2 t) (iblk m c 3 t) (iblk m c 4 t) (iblk m c 5 t) (iblk m c 6 t) (iblk m c 7 t) d W D h1 xn acc
        ∗ (Held c (ms0 t) (ms1 t) (ms2 t) (ms3 t) (ms4 t) (ms5 t) (ms6 t) (ms7 t) (ms8 t) sc0 sc1 sc2 sc3 sc4 (iblk m c 0 t) (iblk m c 1 t) (iblk m c 2 t) (iblk m c 3 t) (iblk m c 4 t) (iblk m c 5 t) (iblk m c 6 t) (iblk m c 7 t) d' W' D' h1' xn' acc' -∗ K ⟨⟩))
      ⊢ wp frame (wpE (defs₀ (F := F)) Variants.none c none) E (cc0_proj_mlp (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hw0 sc1 hw1 sc2 hw2 sc3 hw3 sc4 hw4) K) :
    iprop(((owns (c : Thread nD τ) sc0 fullShare W ∗ owns (c : Thread nD τ) sc1 fullShare D ∗ owns (c : Thread nD τ) sc2 fullShare h1 ∗ owns (c : Thread nD τ) sc3 fullShare xn ∗ owns (c : Thread nD τ) sc4 fullShare acc) ∗ (∃ r, prngReg c r)) ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare d)
      ⊢ wp frame (wpE (defs₀ (F := F)) Variants.none c none) Set.univ (bodyAt0 t) (fun _ =>
        iprop(Inv m c (t.val + 1) ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ X, ⌜7 ≤ t.val → X = outAt m c t⌝ ∗ owns (c : Thread nD τ) (ms8 t) fullShare X))) := by
  iintro ⟨⟨⟨S0, S1, S2, S3, S4⟩, Hg⟩, Ho, H0, H1, H2, H3, H4, H5, H6, H7, H8⟩
  iapply (hrun Set.univ _)
  isplitl [H0 H1 H2 H3 H4 H5 H6 H7 H8 S0 S1 S2 S3 S4]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    iexact S4
  · unfold Held Inv
    iintro ⟨H0, H1, H2, H3, H4, H5, H6, H7, H8, S0, S1, S2, S3, S4⟩
    isplitl [S0 S1 S2 S3 S4 Hg]
    · isplitl [S0 S1 S2 S3 S4]
      · iexists W', D', h1', xn', acc'
        isplitr; · ipureintro; exact hk
        isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d'
    isplitr; · ipureintro; exact hd
    iexact H8

/-- One point's work. -/
theorem point (c : Dev nD) (t : Fin cfg0.N) (O : sProp 𝕄) (d : Vec F S512x1024 .f32) :
    iprop(Inv m c t.val ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare d)
      ⊢ wp frame (wpE (defs₀ (F := F)) Variants.none c none) Set.univ (bodyAt0 t) (fun _ =>
        iprop(Inv m c (t.val + 1) ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ X, ⌜7 ≤ t.val → X = outAt m c t⌝ ∗ owns (c : Thread nD τ) (ms8 t) fullShare X))) := by
  have key : ∀ W D h1 xn acc, Kept m c t.val W D h1 xn acc →
      iprop(((owns (c : Thread nD τ) sc0 fullShare W ∗ owns (c : Thread nD τ) sc1 fullShare D ∗ owns (c : Thread nD τ) sc2 fullShare h1 ∗ owns (c : Thread nD τ) sc3 fullShare xn ∗ owns (c : Thread nD τ) sc4 fullShare acc) ∗ (∃ r, prngReg c r)) ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare d)
      ⊢ wp frame (wpE (defs₀ (F := F)) Variants.none c none) Set.univ (bodyAt0 t) (fun _ =>
        iprop(Inv m c (t.val + 1) ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ X, ⌜7 ≤ t.val → X = outAt m c t⌝ ∗ owns (c : Thread nD τ) (ms8 t) fullShare X))) := by
    intro W D h1 xn acc k
    have hN : t.val < 39 := lt_of_lt_of_eq t.isLt N_0
    by_cases h0 : t.val = 0
    · exact point_of m c t O d d W D h1 xn acc _ _ _ _ _ (k.first m c t h0) (fun h => by omega)
        (run_first (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hw0 sc1 hw1 sc2 hw2 sc3 hw3 sc4 hw4 (iblk m c 0 t) (iblk m c 1 t) (iblk m c 2 t) (iblk m c 3 t) (iblk m c 4 t) (iblk m c 5 t) (iblk m c 6 t) (iblk m c 7 t) c (grid0.coords t) ((hcond0 t).mpr h0) ((hcond1 t).mpr (by omega)) (fun h => by have := (hcond2 t).mp h; omega)
          (fun h => by have := (hcond3 t).mp h; omega) d W D h1 xn acc)
    by_cases h7 : t.val < 7
    · exact point_of m c t O d d W D h1 xn acc _ _ _ _ _ (k.next m c t (by omega) (by omega)) (fun h => by omega)
        (run_mid (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hw0 sc1 hw1 sc2 hw2 sc3 hw3 sc4 hw4 (iblk m c 0 t) (iblk m c 1 t) (iblk m c 2 t) (iblk m c 3 t) (iblk m c 4 t) (iblk m c 5 t) (iblk m c 6 t) (iblk m c 7 t) c (grid0.coords t) (fun h => h0 ((hcond0 t).mp h)) ((hcond1 t).mpr (by omega)) (fun h => by have := (hcond2 t).mp h; omega)
          (fun h => by have := (hcond3 t).mp h; omega) d W D h1 xn acc)
    by_cases h8 : t.val < 8
    · exact point_of m c t O d _ W D h1 xn acc _ _ _ _ _ (k.next m c t (by omega) (by omega)) (fun _ => k.out_eighth m c t (by omega))
        (run_eighth (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hw0 sc1 hw1 sc2 hw2 sc3 hw3 sc4 hw4 (iblk m c 0 t) (iblk m c 1 t) (iblk m c 2 t) (iblk m c 3 t) (iblk m c 4 t) (iblk m c 5 t) (iblk m c 6 t) (iblk m c 7 t) c (grid0.coords t) (fun h => h0 ((hcond0 t).mp h)) ((hcond1 t).mpr (by omega)) ((hcond2 t).mpr (by omega))
          (fun h => by have := (hcond3 t).mp h; omega) d W D h1 xn acc)
    · exact point_of m c t O d _ W D h1 xn acc _ _ _ _ _ (k.late m c (by omega)) (fun _ => k.out_late m c t (by omega))
        (run_late (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 hw0 sc1 hw1 sc2 hw2 sc3 hw3 sc4 hw4 (iblk m c 0 t) (iblk m c 1 t) (iblk m c 2 t) (iblk m c 3 t) (iblk m c 4 t) (iblk m c 5 t) (iblk m c 6 t) (iblk m c 7 t) c (grid0.coords t) (fun h => h0 ((hcond0 t).mp h)) (fun h => h8 ((hcond1 t).mp h)) (fun h => by have := (hcond2 t).mp h; omega)
          ((hcond3 t).mpr (by omega)) d W D h1 xn acc)
  refine BIBase.Entails.trans ?_ (?_ : iprop(∃ W D h1 xn acc, ⌜Kept m c t.val W D h1 xn acc⌝ ∗ (((owns (c : Thread nD τ) sc0 fullShare W ∗ owns (c : Thread nD τ) sc1 fullShare D ∗ owns (c : Thread nD τ) sc2 fullShare h1 ∗ owns (c : Thread nD τ) sc3 fullShare xn ∗ owns (c : Thread nD τ) sc4 fullShare acc) ∗ (∃ r, prngReg c r)) ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare d)) ⊢ _)
  · unfold Inv
    iintro ⟨⟨⟨%W, %D, %h1, %xn, %acc, %k, HS⟩, Hg⟩, HR⟩
    iexists W, D, h1, xn, acc
    isplitr; · ipureintro; exact k
    isplitl [HS Hg]
    · isplitl [HS]; · iexact HS
      iexact Hg
    iexact HR
  · iintro ⟨%W, %D, %h1, %xn, %acc, %k, HR⟩
    iapply (key W D h1 xn acc k)
    iexact HR

end Cert.Mlp

end
-- ==== Proof.MlpMain.lean ====
module

public import proofs.«01_k».proof.Proof.MlpPoint

/-! The whole run of the projection and MLP kernel. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 1000000

variable (m : (ℓ : Loc nD τ sig) → Buf (Elt F) ℓ) (ρ : Dev nD → PrngReg)

/-- Window 0 is found at its block. -/
theorem found_0 (c : Dev nD) (t : Fin cfg0.N) (Y) (h : (rdat m c).Finds 0 t Y) : Y = iblk m c 0 t := by
  obtain ⟨d, rfl⟩ := Pipeline.RDat.finds_in_eq_fetched (rdat m c) 0 rfl (fun _ _ _ => rfl) (fun _ _ _ h => h) t Y h
  rfl

/-- Window 1 is found at its block. -/
theorem found_1 (c : Dev nD) (t : Fin cfg0.N) (Y) (h : (rdat m c).Finds 1 t Y) : Y = iblk m c 1 t := by
  obtain ⟨d, rfl⟩ := Pipeline.RDat.finds_in_eq_fetched (rdat m c) 1 rfl (fun _ _ _ => rfl) (fun _ _ _ h => h) t Y h
  rfl

/-- Window 2 is found at its block. -/
theorem found_2 (c : Dev nD) (t : Fin cfg0.N) (Y) (h : (rdat m c).Finds 2 t Y) : Y = iblk m c 2 t := by
  obtain ⟨d, rfl⟩ := Pipeline.RDat.finds_in_eq_fetched (rdat m c) 2 rfl (fun _ _ _ => rfl) (fun _ _ _ h => h) t Y h
  rfl

/-- Window 3 is found at its block. -/
theorem found_3 (c : Dev nD) (t : Fin cfg0.N) (Y) (h : (rdat m c).Finds 3 t Y) : Y = iblk m c 3 t := by
  obtain ⟨d, rfl⟩ := Pipeline.RDat.finds_in_eq_fetched (rdat m c) 3 rfl (fun _ _ _ => rfl) (fun _ _ _ h => h) t Y h
  rfl

/-- Window 4 is found at its block. -/
theorem found_4 (c : Dev nD) (t : Fin cfg0.N) (Y) (h : (rdat m c).Finds 4 t Y) : Y = iblk m c 4 t := by
  obtain ⟨d, rfl⟩ := Pipeline.RDat.finds_in_eq_fetched (rdat m c) 4 rfl (fun _ _ _ => rfl) (fun _ _ _ h => h) t Y h
  rfl

/-- Window 5 is found at its block. -/
theorem found_5 (c : Dev nD) (t : Fin cfg0.N) (Y) (h : (rdat m c).Finds 5 t Y) : Y = iblk m c 5 t := by
  obtain ⟨d, rfl⟩ := Pipeline.RDat.finds_in_eq_fetched (rdat m c) 5 rfl (fun _ _ _ => rfl) (fun _ _ _ h => h) t Y h
  rfl

/-- Window 6 is found at its block. -/
theorem found_6 (c : Dev nD) (t : Fin cfg0.N) (Y) (h : (rdat m c).Finds 6 t Y) : Y = iblk m c 6 t := by
  obtain ⟨d, rfl⟩ := Pipeline.RDat.finds_in_eq_fetched (rdat m c) 6 rfl (fun _ _ _ => rfl) (fun _ _ _ h => h) t Y h
  rfl

/-- Window 7 is found at its block. -/
theorem found_7 (c : Dev nD) (t : Fin cfg0.N) (Y) (h : (rdat m c).Finds 7 t Y) : Y = iblk m c 7 t := by
  obtain ⟨d, rfl⟩ := Pipeline.RDat.finds_in_eq_fetched (rdat m c) 7 rfl (fun _ _ _ => rfl) (fun _ _ _ h => h) t Y h
  rfl

/-- The body table's row at point `t`'s slots. -/
theorem body_row (t : Fin cfg0.N) : defs₀ (F := F) .tc cfg0.body (cfg0.bodyArgs t (cfg0.slots t)) = bodyAt0 t := by
  unfold defs₀; rw [Defs.onTc_tc]

/-- An input's buffer, left as found, in the relation's words. -/
theorem restate (c : Dev nD) (t : Fin cfg0.N) (O : sProp 𝕄) : iprop(Inv m c (t.val + 1) ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ X, ⌜7 ≤ t.val → X = outAt m c t⌝ ∗ owns (c : Thread nD τ) (ms8 t) fullShare X))
    ⊢ iprop(Inv m c (t.val + 1) ∗ O ∗ (∃ X, ⌜X = iblk m c 0 t⌝ ∗ owns (c : Thread nD τ) (ms0 t) fullShare X) ∗ (∃ X, ⌜X = iblk m c 1 t⌝ ∗ owns (c : Thread nD τ) (ms1 t) fullShare X) ∗ (∃ X, ⌜X = iblk m c 2 t⌝ ∗ owns (c : Thread nD τ) (ms2 t) fullShare X) ∗ (∃ X, ⌜X = iblk m c 3 t⌝ ∗ owns (c : Thread nD τ) (ms3 t) fullShare X) ∗ (∃ X, ⌜X = iblk m c 4 t⌝ ∗ owns (c : Thread nD τ) (ms4 t) fullShare X) ∗ (∃ X, ⌜X = iblk m c 5 t⌝ ∗ owns (c : Thread nD τ) (ms5 t) fullShare X) ∗ (∃ X, ⌜X = iblk m c 6 t⌝ ∗ owns (c : Thread nD τ) (ms6 t) fullShare X) ∗ (∃ X, ⌜X = iblk m c 7 t⌝ ∗ owns (c : Thread nD τ) (ms7 t) fullShare X) ∗ (∃ X, ⌜7 ≤ t.val → X = outAt m c t⌝ ∗ owns (c : Thread nD τ) (ms8 t) fullShare X)) := by
  iintro ⟨HI, Ho, H0, H1, H2, H3, H4, H5, H6, H7, H8⟩
  isplitl [HI]; · iexact HI
  isplitl [Ho]; · iexact Ho
  isplitl [H0]
  · iexists _
    isplitr; swap; · iexact H0
    ipureintro; rfl
  isplitl [H1]
  · iexists _
    isplitr; swap; · iexact H1
    ipureintro; rfl
  isplitl [H2]
  · iexists _
    isplitr; swap; · iexact H2
    ipureintro; rfl
  isplitl [H3]
  · iexists _
    isplitr; swap; · iexact H3
    ipureintro; rfl
  isplitl [H4]
  · iexists _
    isplitr; swap; · iexact H4
    ipureintro; rfl
  isplitl [H5]
  · iexists _
    isplitr; swap; · iexact H5
    ipureintro; rfl
  isplitl [H6]
  · iexists _
    isplitr; swap; · iexact H6
    ipureintro; rfl
  isplitl [H7]
  · iexists _
    isplitr; swap; · iexact H7
    ipureintro; rfl
  iexact H8

/-- The body's obligation at every point. -/
theorem body_ok (c : Dev nD) : (rdat m c).BodyObligation (defs₀ (F := F)) Variants.none () Set.univ := fun t Y hY => by
  rw [bigSep_W0, bigSep_W0, body_row]
  rw [found_0 m c t _ (hY 0), found_1 m c t _ (hY 1), found_2 m c t _ (hY 2), found_3 m c t _ (hY 3), found_4 m c t _ (hY 4), found_5 m c t _ (hY 5), found_6 m c t _ (hY 6), found_7 m c t _ (hY 7)]
  refine BIBase.Entails.trans (point m c t ((rdat m c).owesAt () t.castSucc) (Y 8)) ((wp _ _ _ _).mono fun _ => ?_)
  exact restate m c t _

/-- What the launch hands the region, in the scratches' terms. -/
theorem launch_eq (c : Dev nD) : (Pipeline.ΦA spec0 c : sProp 𝕄)
    = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [owns_whole]; try rfl

/-- The launch gives the invariant before the first point. -/
theorem inv_start (c : Dev nD) : Pipeline.ΦA spec0 c ⊢ (rdat m c).Φ 0 := by
  rw [launch_eq]
  show _ ⊢ Inv m c 0
  unfold Inv
  iintro ⟨⟨⟨%W, S0⟩, ⟨%D, S1⟩, ⟨%h1, S2⟩, ⟨%xn, S3⟩, ⟨%acc, S4⟩⟩, Hg⟩
  isplitl [S0 S1 S2 S3 S4]
  · iexists W, D, h1, xn, acc
    isplitr; · ipureintro; exact Kept.start m c W D h1 xn acc
    isplitl [S0]; · iexact S0
    isplitl [S1]; · iexact S1
    isplitl [S2]; · iexact S2
    isplitl [S3]; · iexact S3
    iexact S4
  iexact Hg

/-- After the last point the scratches' contents are forgotten. -/
theorem inv_end (c : Dev nD) : (rdat m c).Φ (Fin.last cfg0.N) ⊢ Pipeline.ΦA spec0 c := by
  rw [launch_eq]
  show Inv m c _ ⊢ _
  unfold Inv
  iintro ⟨⟨%W, %D, %h1, %xn, %acc, %k, S0, S1, S2, S3, S4⟩, Hg⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hg

set_option backward.isDefEq.respectTransparency.types false in
/-- THE RUN: every weakly fair execution ends, every counter at zero, each window's array at contents the write-backs allow. -/
theorem run_main : θ_run defs (onTc (τ := τ) (main (F := F))) (s₀ m ρ) (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_ok m) (hshare := fun c => (rdat m c).share_full fun _ => rfl)
    (howed := fun _ _ => rfl) (V := V m) (hmain := hmain m Variants.none) (hA := fun _ _ => rfl) (hin := inv_start m) (hout := inv_end m)

end Cert.Mlp

end
-- ==== Proof.MlpFrame.lean ====
module

public import proofs.«01_k».proof.Proof.MlpMain
public import Idealize.ShloMosaic.Lib.Pipeline.ArrRel
public import Idealize.ShloMosaic.Lib.Pipeline.ValueKit.Geometry

/-! The projection and MLP kernel's frame, and its result block by block. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments after the run are as launched. -/
theorem args_kept {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    (Pipeline.RDat.FramePost.arr_in h c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (Pipeline.RDat.FramePost.arr_in h c 5 rfl).trans (V_main_arg5 m c),
    (Pipeline.RDat.FramePost.arr_in h c 6 rfl).trans (V_main_arg6 m c),
    ((h c).2 main_arg7 (Pipeline.mem_restRefs_of main_arg7 (by decide) (by decide))).trans (V_main_arg7 m c)⟩

/-- The result is written back from the eighth point on. -/
theorem flush8 (t : Fin cfg0.N) : (cfg0.win 8).flush t = true ↔ 7 ≤ t.val :=
  (by decide +kernel : ∀ t : Fin grid0.N, win0_8.flush t = true ↔ 7 ≤ t.val) t

/-- The result's block at a point. -/
theorem idx8 : ∀ t : Fin cfg0.N, win0_8.index t = ![t.val - 7, 0] :=
  (by decide +kernel : ∀ t : Fin grid0.N, win0_8.index t = ![t.val - 7, 0])

/-- Points that write back have blocks of their own. -/
theorem idx8_inj : ∀ t t' : Fin cfg0.N, (cfg0.win 8).flush t = true → (cfg0.win 8).flush t' = true → (cfg0.win 8).index t = (cfg0.win 8).index t' → t = t' :=
  (by decide +kernel : ∀ t t' : Fin grid0.N, win0_8.flush t = true → win0_8.flush t' = true → win0_8.index t = win0_8.index t' → t = t')

/-- Where an index of point `t`'s block lies in the result. -/
theorem emb8 (t : Fin cfg0.N) (h : 7 ≤ t.val) (p : Fin 512) (q : Fin 1024) :
    (win0_8.blk t).view.emb (ix2 p q) = (ix2 ⟨512 * (t.val - 7) + p.val, by have := lt_of_lt_of_eq t.isLt N_0; omega⟩ q : S16384x1024.Idx) := by
  blk_ext [idx8 t]

/-- The result array after the run, block by block. -/
theorem result_at {r : PUnit × MemSt nD τ sig (Elt F)} (h : Pipeline.RDat.FramePost (cfgs 0) (rdat m) (V m) r) (c : Dev nD)
    (t : Fin cfg0.N) (ht : 7 ≤ t.val) (p : Fin 512) (q : Fin 1024) :
    r.2.mem ((c.tc : Thread nD τ).loc main_v11) (ix2 ⟨512 * (t.val - 7) + p.val, by have := lt_of_lt_of_eq t.isLt N_0; omega⟩ q : S16384x1024.Idx) = outAt m c t (ix2 p q) := by
  obtain ⟨after, hL, hA⟩ := Pipeline.RDat.FramePost.exists_exact h c
  have hf := (flush8 t).mpr ht
  have hb := ((rdat m c).withAfter after).read_blk_arrAt_eq_flushed 8 ((cfg0.win 8).hdisj_of_index_inj idx8_inj) cfg0.N t t.isLt hf
  have e := congrFun hb (ix2 p q)
  have h8 := hA 8
  obtain ⟨Y, -, hY⟩ := hL 8 t hf
  have hv : after 8 t = outAt m c t := hY ht
  have e2 : ((rdat m c).withAfter after).arrAt 8 cfg0.N ((win0_8.blk t).view.emb (ix2 p q)) = after 8 t (ix2 p q) := e
  rw [emb8 t ht, hv] at e2
  exact (congrFun h8 _).trans e2

/-- THE FRAME: the run ends, the arguments unchanged, every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_kept m h.1 c, h.2⟩) (run_main m ρ)

/-- THE RUN's result and arguments. -/
theorem run_value : θ_run defs (onTc (τ := τ) (main (F := F))) ⟨m, fun _ => 0, ρ⟩ (fun r => ∀ c : Dev nD,
      (∀ (t : Fin cfg0.N) (ht : 7 ≤ t.val) (p : Fin 512) (q : Fin 1024),
        r.2.mem ((c.tc : Thread nD τ).loc main_v11) (ix2 ⟨512 * (t.val - 7) + p.val, by have := lt_of_lt_of_eq t.isLt N_0; omega⟩ q : S16384x1024.Idx) = outAt m c t (ix2 p q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨result_at m h.1 c, args_kept m h.1 c⟩) (run_main m ρ)

end Cert.Mlp

end
-- ==== Proof.MlpRow.lean ====
module

public import Idealize.ShloMosaic.Lib.Pointwise

/-! One row of the layer's second half, in plain sums over the extended reals. -/

@[expose] public section

noncomputable section

namespace Cert.Mlp

open Idealize.ShloMosaic

/-- A row divided by the root of its mean square, and multiplied by the gain. -/
def rowRms (x g : Fin 1024 → EReal) (q : Fin 1024) : EReal :=
  x q * Ideal.rsqrt (Ideal.div (∑ k, x k * x k) (Ideal.ofBits FTy.f32 1149239296#32) + Ideal.ofBits FTy.f32 897988541#32) * g q

/-- A row times a matrix. -/
def rowMul (a : Fin 1024 → EReal) (w : Fin 1024 → Fin 1024 → EReal) (q : Fin 1024) : EReal := ∑ k, a k * w k q

/-- One hidden unit: the square of the positive part. -/
def unitOf (x u : Fin 1024 → EReal) : EReal := max (∑ k, x k * u k) 0 * max (∑ k, x k * u k) 0

/-- The MLP of a row: the 4096 hidden units times the second weight. -/
def rowMlp (x : Fin 1024 → EReal) (u : Fin 1024 → Fin 4096 → EReal) (d : Fin 4096 → Fin 1024 → EReal) (q : Fin 1024) : EReal :=
  ∑ f, unitOf x (fun k => u k f) * d f q

/-- The stream's row after the mixer. -/
def rowStream (a h : Fin 1024 → EReal) (w : Fin 1024 → Fin 1024 → EReal) (g : Fin 1024 → EReal) (q : Fin 1024) : EReal :=
  h q + rowRms (rowMul a w) g q

/-- The result's row. -/
def rowOut (a h : Fin 1024 → EReal) (w : Fin 1024 → Fin 1024 → EReal) (g1 g2 : Fin 1024 → EReal) (u : Fin 1024 → Fin 4096 → EReal)
    (d : Fin 4096 → Fin 1024 → EReal) (g3 : Fin 1024 → EReal) (q : Fin 1024) : EReal :=
  rowStream a h w g1 q + rowRms (rowMlp (rowRms (rowStream a h w g1) g2) u d) g3 q

/-- A function of 4096 places continued by zero. -/
def pad (f : Fin 4096 → EReal) (n : ℕ) : EReal := if h : n < 4096 then f ⟨n, h⟩ else 0

/-- Below 4096 it is the function. -/
theorem pad_lt (f : Fin 4096 → EReal) (n : ℕ) (h : n < 4096) : pad f n = f ⟨n, h⟩ := dif_pos h

/-- A sum over the 4096 places, as a sum over an initial segment. -/
theorem sum_pad (f : Fin 4096 → EReal) : ∑ n ∈ Finset.range 4096, pad f n = ∑ i, f i := by
  rw [← Fin.sum_univ_eq_sum_range]
  exact Finset.sum_congr rfl fun i _ => dif_pos i.isLt

/-- An initial segment's sum and the next `b` places'. -/
theorem sum_more (f : Fin 4096 → EReal) (a b : ℕ) (h : a + b ≤ 4096) (g : Fin b → EReal) (hg : ∀ i : Fin b, g i = f ⟨a + i.val, by omega⟩) :
    ∑ n ∈ Finset.range a, pad f n + ∑ i, g i = ∑ n ∈ Finset.range (a + b), pad f n := by
  rw [Finset.sum_range_add, ← Fin.sum_univ_eq_sum_range (fun n => pad f (a + n))]
  congr 1
  refine Finset.sum_congr rfl fun i _ => ?_
  rw [hg]
  exact (pad_lt f _ (by omega)).symm

end Cert.Mlp

end
-- ==== Proof.MlpRead.lean ====
module

public import proofs.«01_k».proof.Proof.MlpState
public import proofs.«01_k».proof.Proof.MlpRow

/-! The kernel's vector expressions read entry by entry, over the extended reals. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

/-- The root-mean-square norm of a block, entry by entry. -/
theorem rms_at (x : FVec Ideal S512x1024 .f32) (g : Vec Ideal S1x1024 .f32) (p : Fin 512) (q : Fin 1024) :
    rms x g (ix2 p q) = rowRms (fun k => x (ix2 p k)) (fun k => g (ix2 0 k)) q := by
  pointwise [rms]
  rfl

/-- The projection, entry by entry. -/
theorem projOf_at (a : Vec Ideal S512x1024 .bf16) (w : Vec Ideal S1024x1024 .f32) (p : Fin 512) (q : Fin 1024) :
    projOf a w (ix2 p q) = rowMul (fun k => a (ix2 p k)) (fun k j => w (ix2 k j)) q := by
  pointwise [projOf]
  rfl

/-- The stream after the mixer, entry by entry. -/
theorem streamOf_at (a : Vec Ideal S512x1024 .bf16) (h : Vec Ideal S512x1024 .f32) (w : Vec Ideal S1024x1024 .f32) (g : Vec Ideal S1x1024 .f32)
    (p : Fin 512) (q : Fin 1024) :
    streamOf a h w g (ix2 p q) = rowStream (fun k => a (ix2 p k)) (fun k => h (ix2 p k)) (fun k j => w (ix2 k j)) (fun k => g (ix2 0 k)) q := by
  show h (ix2 p q) + rms (projOf a w) g (ix2 p q) = _
  rw [rms_at]
  simp only [projOf_at]
  rfl

/-- The MLP's input, entry by entry. -/
theorem normOf_at (h1 : FVec Ideal S512x1024 .f32) (g : Vec Ideal S1x1024 .f32) (p : Fin 512) (q : Fin 1024) :
    normOf h1 g (ix2 p q) = rowRms (fun k => h1 (ix2 p k)) (fun k => g (ix2 0 k)) q := rms_at h1 g p q

/-- The result's block, entry by entry. -/
theorem outOf_at (h1 u : FVec Ideal S512x1024 .f32) (g : Vec Ideal S1x1024 .f32) (p : Fin 512) (q : Fin 1024) :
    outOf h1 u g (ix2 p q) = h1 (ix2 p q) + rowRms (fun k => u (ix2 p k)) (fun k => g (ix2 0 k)) q :=
  congrArg (h1 (ix2 p q) + ·) (rms_at u g p q)

/-- 512 hidden units' share, entry by entry. -/
theorem narrow_at (xn : Vec Ideal S512x1024 .bf16) (wu : FVec Ideal S1024x512 .bf16) (wd : FVec Ideal S512x1024 .bf16) (p : Fin 512) (q : Fin 1024) :
    narrow xn wu wd (ix2 p q) = ∑ f : Fin 512, unitOf (fun k => xn (ix2 p k)) (fun k => wu (ix2 k f)) * wd (ix2 f q) := by
  pointwise [narrow]
  rfl

/-- 1024 hidden units' share, entry by entry. -/
theorem wide_at (xn : Vec Ideal S512x1024 .bf16) (wu wd : Vec Ideal S1024x1024 .bf16) (p : Fin 512) (q : Fin 1024) :
    wide xn wu wd (ix2 p q) = ∑ f : Fin 1024, unitOf (fun k => xn (ix2 p k)) (fun k => wu (ix2 k f)) * wd (ix2 f q) := by
  pointwise [wide]
  rfl

/-- Columns of the weight kept whole. -/
theorem colsAt_at (W : Vec Ideal S1024x4096 .bf16) (o : ℕ) (ho) (hb : o + 1024 ≤ 4096) (p q : Fin 1024) :
    colsAt W o ho (ix2 p q) = W (ix2 p ⟨o + q.val, by omega⟩) := by
  refine congrArg W (funext fun d => ?_)
  fin_cases d
  · exact Fin.ext (show 0 + 1 * p.val = p.val by omega)
  · exact Fin.ext (show o + 1 * q.val = o + q.val by omega)

/-- Rows of the weight kept whole. -/
theorem rowsAt_at (W : Vec Ideal S4096x1024 .bf16) (o : ℕ) (ho) (hb : o + 1024 ≤ 4096) (p q : Fin 1024) :
    rowsAt W o ho (ix2 p q) = W (ix2 ⟨o + p.val, by omega⟩ q) := by
  refine congrArg W (funext fun d => ?_)
  fin_cases d
  · exact Fin.ext (show o + 1 * p.val = o + p.val by omega)
  · exact Fin.ext (show 0 + 1 * q.val = q.val by omega)

/-- The four shares are the whole MLP. -/
theorem wideSum_at (xn : FVec Ideal S512x1024 .bf16) (U : Vec Ideal S1024x4096 .bf16) (D : Vec Ideal S4096x1024 .bf16) (p : Fin 512) (q : Fin 1024) :
    wideSum xn U D (ix2 p q) = rowMlp (fun k => xn (ix2 p k)) (fun k f => U (ix2 k f)) (fun f j => D (ix2 f j)) q := by
  show wide xn _ _ (ix2 p q) + wide xn _ _ (ix2 p q) + wide xn _ _ (ix2 p q) + wide xn _ _ (ix2 p q) = _
  simp only [wide_at]
  unfold rowMlp
  rw [← sum_pad, ← sum_more _ 3072 1024 (by omega) _ (fun f => ?_), ← sum_more _ 2048 1024 (by omega) _ (fun f => ?_),
    ← sum_more _ 1024 1024 (by omega) _ (fun f => ?_), ← sum_more _ 0 1024 (by omega) _ (fun f => ?_), Finset.range_zero, Finset.sum_empty, zero_add]
  all_goals simp only [colsAt_at _ _ _ (by omega : 0 + 1024 ≤ 4096), colsAt_at _ _ _ (by omega : 1024 + 1024 ≤ 4096), colsAt_at _ _ _ (by omega : 2048 + 1024 ≤ 4096),
    colsAt_at _ _ _ (by omega : 3072 + 1024 ≤ 4096), rowsAt_at _ _ _ (by omega : 0 + 1024 ≤ 4096), rowsAt_at _ _ _ (by omega : 1024 + 1024 ≤ 4096),
    rowsAt_at _ _ _ (by omega : 2048 + 1024 ≤ 4096), rowsAt_at _ _ _ (by omega : 3072 + 1024 ≤ 4096)]

end Cert.Mlp

end
-- ==== Proof.MlpData.lean ====
module

public import proofs.«01_k».proof.Proof.MlpRead
public import Idealize.ShloMosaic.Lib.Pipeline.ValueKit

/-! The fetched blocks in the launched arrays' entries, and the result in them. -/

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable (m : (ℓ : Loc nD τ sig) → Buf (Elt Ideal) ℓ) (c : Dev nD)

/-- The mixer's output as launched. -/
abbrev argY : S2x8192x1024.Idx → EReal := m ((c : Thread nD τ).loc main_arg0)
/-- The stream before the mixer as launched. -/
abbrev argH : S16384x1024.Idx → EReal := m ((c : Thread nD τ).loc main_arg1)
/-- The projection. -/
abbrev argW : S1x1024x1024.Idx → EReal := m ((c : Thread nD τ).loc main_arg2)
/-- The gain after the mixer. -/
abbrev argG1 : S2x1024.Idx → EReal := m ((c : Thread nD τ).loc main_arg3)
/-- The gain before the MLP. -/
abbrev argG2 : S2x1024.Idx → EReal := m ((c : Thread nD τ).loc main_arg4)
/-- The first weight. -/
abbrev argU : S2x1024x4096.Idx → EReal := m ((c : Thread nD τ).loc main_arg5)
/-- The second weight. -/
abbrev argD : S2x4096x1024.Idx → EReal := m ((c : Thread nD τ).loc main_arg6)
/-- The gain after the MLP. -/
abbrev argG3 : S2x1024.Idx → EReal := m ((c : Thread nD τ).loc main_arg7)

/-- The blocks of each window over the grid. -/
theorem idx : ∀ t : Fin cfg0.N, win0_0.index t = ![t.val - 7, 0] ∧ win0_1.index t = ![t.val - 7, 0] ∧ win0_2.index t = ![0, 0] ∧ win0_3.index t = ![0, 0]
    ∧ win0_4.index t = ![0, 0] ∧ win0_5.index t = ![1, 0, min t.val 7] ∧ win0_6.index t = ![1, min t.val 7, 0] ∧ win0_7.index t = ![0, 0] :=
  (by decide +kernel : ∀ t : Fin grid0.N, _)

theorem N39 : cfg0.N = 39 := N_0

/-- The result's row at a point's local row. -/
abbrev rowAt (t : Fin cfg0.N) (p : Fin 512) : Fin 16384 := ⟨512 * (t.val - 7) + p.val, by have := lt_of_lt_of_eq t.isLt N39; omega⟩

theorem blk_y (t : Fin cfg0.N) (p : Fin 512) (k : Fin 1024) :
    iblk m c 0 t (ix2 p k) = argY m c (ix3 ⟨(rowAt t p).val / 8192, by omega⟩ ⟨(rowAt t p).val % 8192, by omega⟩ k) := by
  have e : (win0_0.blk t).view.emb (ix2 p k) = (ix2 (rowAt t p) k : S16384x1024.Idx) := by blk_ext [idx t]
  show Gen.V m c main_v0 ((win0_0.blk t).view.emb (ix2 p k)) = _
  rw [e]
  entry_read
  pointwise []

theorem blk_h (t : Fin cfg0.N) (p : Fin 512) (k : Fin 1024) : iblk m c 1 t (ix2 p k) = argH m c (ix2 (rowAt t p) k) := by
  blk_ext [iblk, V, idx t]

theorem blk_w (t : Fin cfg0.N) (p k : Fin 1024) : iblk m c 2 t (ix2 p k) = argW m c (ix3 0 p k) := by
  have e : (win0_2.blk t).view.emb (ix2 p k) = (ix2 p k : S1024x1024.Idx) := by blk_ext [idx t]
  show Gen.V m c main_v1 ((win0_2.blk t).view.emb (ix2 p k)) = _
  rw [e]
  entry_read
  pointwise []

theorem blk_g1 (t : Fin cfg0.N) (k : Fin 1024) : iblk m c 3 t (ix2 0 k) = argG1 m c (ix2 1 k) := by
  have e : (win0_3.blk t).view.emb (ix2 0 k) = (ix2 0 k : S1x1024.Idx) := by blk_ext [idx t]
  show Gen.V m c main_v8 ((win0_3.blk t).view.emb (ix2 0 k)) = _
  rw [e]
  entry_read
  pointwise []

theorem blk_g2 (t : Fin cfg0.N) (k : Fin 1024) : iblk m c 4 t (ix2 0 k) = argG2 m c (ix2 1 k) := by
  have e : (win0_4.blk t).view.emb (ix2 0 k) = (ix2 0 k : S1x1024.Idx) := by blk_ext [idx t]
  show Gen.V m c main_v9 ((win0_4.blk t).view.emb (ix2 0 k)) = _
  rw [e]
  entry_read
  pointwise []

theorem blk_g3 (t : Fin cfg0.N) (k : Fin 1024) : iblk m c 7 t (ix2 0 k) = argG3 m c (ix2 1 k) := by
  have e : (win0_7.blk t).view.emb (ix2 0 k) = (ix2 0 k : S1x1024.Idx) := by blk_ext [idx t]
  show Gen.V m c main_v10 ((win0_7.blk t).view.emb (ix2 0 k)) = _
  rw [e]
  entry_read
  pointwise []

theorem blk_u (t : Fin cfg0.N) (p : Fin 1024) (k : Fin 512) : iblk m c 5 t (ix3 0 p k) = argU m c (ix3 1 p ⟨512 * min t.val 7 + k.val, by omega⟩) := by
  blk_ext [iblk, V, idx t]

theorem blk_d (t : Fin cfg0.N) (k : Fin 512) (p : Fin 1024) : iblk m c 6 t (ix3 0 k p) = argD m c (ix3 1 ⟨512 * min t.val 7 + k.val, by omega⟩ p) := by
  blk_ext [iblk, V, idx t]

/-- A column block of the first weight, narrowed. -/
theorem up_at (t : Fin cfg0.N) (ht : t.val < 8) (p : Fin 1024) (k : Fin 512) :
    upPart (iblk m c 5 t) (ix2 p k) = argU m c (ix3 1 p ⟨512 * t.val + k.val, by omega⟩) := by
  have e : ∀ w : Vec Ideal S1x1024x512 .f32, upPart w (ix2 p k) = w (ix3 0 p k) := fun w => by pointwise [upPart]
  rw [e, blk_u]
  exact congrArg (fun z => argU m c (ix3 1 p z)) (Fin.ext (by simp only; omega))

/-- A row block of the second weight, narrowed. -/
theorem down_at (t : Fin cfg0.N) (ht : t.val < 8) (k : Fin 512) (p : Fin 1024) :
    downPart (iblk m c 6 t) (ix2 k p) = argD m c (ix3 1 ⟨512 * t.val + k.val, by omega⟩ p) := by
  have e : ∀ w : Vec Ideal S1x512x1024 .f32, downPart w (ix2 k p) = w (ix3 0 k p) := fun w => by pointwise [downPart]
  rw [e, blk_d]
  exact congrArg (fun z => argD m c (ix3 1 z p)) (Fin.ext (by simp only; omega))

/-- The first weight kept whole is layer 1's. -/
theorem upKept_at (p : Fin 1024) (f : Fin 4096) : upKept m c (ix2 p f) = argU m c (ix3 1 p f) := by
  refine (up_at m c (pt (f.val / 512) (by omega)) (by show f.val / 512 < 8; omega) p ⟨f.val % 512, by omega⟩).trans ?_
  exact congrArg (fun z => argU m c (ix3 1 p z)) (Fin.ext (show 512 * (f.val / 512) + f.val % 512 = f.val by omega))

/-- The second weight kept whole is layer 1's. -/
theorem downKept_at (f : Fin 4096) (p : Fin 1024) : downKept m c (ix2 f p) = argD m c (ix3 1 f p) := by
  refine (down_at m c (pt (f.val / 512) (by omega)) (by show f.val / 512 < 8; omega) ⟨f.val % 512, by omega⟩ p).trans ?_
  exact congrArg (fun z => argD m c (ix3 1 z p)) (Fin.ext (show 512 * (f.val / 512) + f.val % 512 = f.val by omega))

/-- The launched row of the mixer's output. -/
def rowY (r : Fin 16384) (k : Fin 1024) : EReal := argY m c (ix3 ⟨r.val / 8192, by omega⟩ ⟨r.val % 8192, by omega⟩ k)

/-- The stream's row after the mixer, of the launched arrays. -/
def rowS (r : Fin 16384) : Fin 1024 → EReal :=
  rowStream (rowY m c r) (fun k => argH m c (ix2 r k)) (fun k j => argW m c (ix3 0 k j)) (fun k => argG1 m c (ix2 1 k))

/-- The MLP's input row, of the launched arrays. -/
def rowN (r : Fin 16384) : Fin 1024 → EReal := rowRms (rowS m c r) (fun k => argG2 m c (ix2 1 k))

/-- The result's row, of the launched arrays. -/
def rowR (r : Fin 16384) : Fin 1024 → EReal :=
  rowOut (rowY m c r) (fun k => argH m c (ix2 r k)) (fun k j => argW m c (ix3 0 k j)) (fun k => argG1 m c (ix2 1 k)) (fun k => argG2 m c (ix2 1 k))
    (fun k f => argU m c (ix3 1 k f)) (fun f j => argD m c (ix3 1 f j)) (fun k => argG3 m c (ix2 1 k))

theorem streamAt_at (t : Fin cfg0.N) (p : Fin 512) (q : Fin 1024) : streamAt m c t (ix2 p q) = rowS m c (rowAt t p) q := by
  unfold streamAt rowS
  rw [streamOf_at]
  simp only [blk_y, blk_h, blk_w, blk_g1]
  rfl

theorem normAt_at (t : Fin cfg0.N) (p : Fin 512) (q : Fin 1024) : normAt m c t (ix2 p q) = rowN m c (rowAt t p) q := by
  unfold normAt rowN
  rw [normOf_at]
  simp only [streamAt_at, blk_g2]

/-- One term of the MLP's sum. -/
def termAt (r : Fin 16384) (q : Fin 1024) (f : Fin 4096) : EReal :=
  unitOf (rowN m c r) (fun k => argU m c (ix3 1 k f)) * argD m c (ix3 1 f q)

/-- The accumulator after `k` shares is the sum over the first `512 k` hidden units. -/
theorem accAt_at (p : Fin 512) (q : Fin 1024) : ∀ (k : ℕ) (h : k ≤ 8),
    accAt m c k (by omega) (ix2 p q) = ∑ n ∈ Finset.range (512 * k), pad (termAt m c (rowAt (pt 0 (by omega)) p) q) n := by
  intro k
  induction k with
  | zero =>
    intro h
    show zeros (F := Ideal) (ix2 p q) = _
    rw [Nat.mul_zero, Finset.range_zero, Finset.sum_empty]
    pointwise [zeros]
  | succ k ih =>
    intro h
    show accAt m c k (by omega) (ix2 p q) + narrow _ _ _ (ix2 p q) = _
    rw [ih (by omega), narrow_at, Nat.mul_succ]
    refine sum_more _ (512 * k) 512 (by omega) _ fun f => ?_
    simp only [normAt_at, up_at m c (pt k (by omega)) (show k < 8 by omega), down_at m c (pt k (by omega)) (show k < 8 by omega)]
    rfl

/-- THE RESULT at a point's block. -/
theorem outAt_at (t : Fin cfg0.N) (ht : 7 ≤ t.val) (p : Fin 512) (q : Fin 1024) : outAt m c t (ix2 p q) = rowR m c (rowAt t p) q := by
  unfold outAt rowR rowOut
  by_cases h : t.val ≤ 7
  · have e : rowAt (pt 0 (by decide)) p = rowAt t p := Fin.ext (show 512 * (0 - 7) + p.val = 512 * (t.val - 7) + p.val by omega)
    rw [if_pos h, outOf_at, streamAt_at, e]
    simp only [accAt_at m c p _ 8 (by omega), blk_g3, e]
    simp only [show 512 * 8 = 4096 from rfl, sum_pad]
    rfl
  · rw [if_neg h, outOf_at, streamAt_at]
    simp only [wideSum_at, normAt_at, upKept_at, downKept_at, blk_g3]
    rfl

end Cert.Mlp

end
-- ==== Proof.MlpRefValue.lean ====
module

public import proofs.«01_k».proof.Proof.Gen.Reference2Ideal.Run
public import proofs.«01_k».proof.Proof.MlpRow

/-! The second reference's result, entry by entry, in the same row sums. -/

@[expose] public section

set_option maxRecDepth 16384

noncomputable section

namespace Cert.MlpRef

open Idealize.ShloMosaic Idealize.ShloMosaic.TcCoe Idealize.SL.Sem
open Cert.Reference2Ideal Cert.Reference2Ideal.Gen Cert.Mlp

variable {F : FTy → Type} [FloatOps F]

/-- Layer 1's row of a gain, over all rows. -/
def gain (g : FVec F S2x1024 .f32) : FVec F S16384x1024 .f32 :=
  broadcastInDim S16384x1024 ![0, 1] bcast_S1x1024_S16384x1024_0_1 (broadcastInDim S1x1024 ![1] bcast_S1024_S1x1024_1
    (shapeCast _ (extractStridedSlice S1x1024 ![1, 0] g slices_S2x1024_S1x1024_1_0) shapeCasts_S1x1024_S1024))

/-- The root-mean-square norm with a gain. -/
def norm (x : FVec F S16384x1024 .f32) (g : FVec F S2x1024 .f32) : FVec F S16384x1024 .f32 :=
  mulf (mulf x (broadcastInDim S16384x1024 ![0, 1] bcast_S16384x1_S16384x1024_0_1 (Host.rsqrt (addf (Host.divf
      (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32))) (broadcastInDim S16384x1 ![] bcast_S_S16384x1 (constant S_ .f32 0x358637BD#32))))))
    (gain g)

/-- The mixer's output through its projection. -/
def proj (y : FVec F S2x8192x1024 .bf16) (w : FVec F S1x1024x1024 .f32) : FVec F S16384x1024 .f32 :=
  Host.dotGeneral dot_S16384x1024_S1024x1024_S16384x1024_1_0_0_1_n_n none (shapeCast _ (extf .f32 y bitsLt_bf16_f32) shapeCasts_S2x8192x1024_S16384x1024)
    (shapeCast _ w shapeCasts_S1x1024x1024_S1024x1024)

/-- The stream after the mixer. -/
def stream (y : FVec F S2x8192x1024 .bf16) (h : FVec F S16384x1024 .f32) (w : FVec F S1x1024x1024 .f32) (g : FVec F S2x1024 .f32) : FVec F S16384x1024 .f32 :=
  addf h (norm (proj y w) g)

/-- The hidden units' positive parts. -/
def hidden (x : FVec F S16384x1024 .f32) (u : FVec F S2x1024x4096 .f32) : FVec F S16384x4096 .f32 :=
  maximumf (Host.dotGeneral dot_S16384x1024_S1024x4096_S16384x4096_1_0_0_1_n_n none x
      (shapeCast _ (extractStridedSlice S1x1024x4096 ![1, 0, 0] u slices_S2x1024x4096_S1x1024x4096_1_0_0) shapeCasts_S1x1024x4096_S1024x4096))
    (broadcastInDim S16384x4096 ![] bcast_S_S16384x4096 (constant S_ .f32 0x00000000#32))

/-- The MLP. -/
def mlp (x : FVec F S16384x1024 .f32) (u : FVec F S2x1024x4096 .f32) (d : FVec F S2x4096x1024 .f32) : FVec F S16384x1024 .f32 :=
  Host.dotGeneral dot_S16384x4096_S4096x1024_S16384x1024_1_0_0_1_n_n none (mulf (hidden x u) (hidden x u))
    (shapeCast _ (extractStridedSlice S1x4096x1024 ![1, 0, 0] d slices_S2x4096x1024_S1x4096x1024_1_0_0) shapeCasts_S1x4096x1024_S4096x1024)

variable (m : (ℓ : Loc nD τ sig) → Buf (Elt F) ℓ) (c : Dev nD)

/-- The reference's result in this vocabulary. -/
theorem res_eq : Value.res_main_v58 m c
    = addf (stream (m ((c.tc : Thread nD τ).loc main_arg0)) (m ((c.tc : Thread nD τ).loc main_arg1)) (m ((c.tc : Thread nD τ).loc main_arg2)) (m ((c.tc : Thread nD τ).loc main_arg3)))
      (norm (mlp (norm (stream (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4))) (m ((c.tc : Thread nD τ).loc main_arg5)) (m ((c.tc : Thread nD τ).loc main_arg6)))
        (m ((c.tc : Thread nD τ).loc main_arg7))) := by
  unfold Value.res_main_v58
  rfl

/-- The norm, entry by entry. -/
theorem norm_at (x : FVec Ideal S16384x1024 .f32) (g : FVec Ideal S2x1024 .f32) (r : Fin 16384) (q : Fin 1024) :
    norm x g (ix2 r q) = rowRms (fun k => x (ix2 r k)) (fun k => g (ix2 1 k)) q := by
  pointwise [norm, gain]
  rfl

/-- The projection, entry by entry. -/
theorem proj_at (y : FVec Ideal S2x8192x1024 .bf16) (w : FVec Ideal S1x1024x1024 .f32) (r : Fin 16384) (q : Fin 1024) :
    proj y w (ix2 r q) = rowMul (fun k => y (ix3 ⟨r.val / 8192, by omega⟩ ⟨r.val % 8192, by omega⟩ k)) (fun k j => w (ix3 0 k j)) q := by
  pointwise [proj]
  rfl

/-- The MLP, entry by entry. -/
theorem mlp_at (x : FVec Ideal S16384x1024 .f32) (u : FVec Ideal S2x1024x4096 .f32) (d : FVec Ideal S2x4096x1024 .f32) (r : Fin 16384) (q : Fin 1024) :
    mlp x u d (ix2 r q) = rowMlp (fun k => x (ix2 r k)) (fun k f => u (ix3 1 k f)) (fun f j => d (ix3 1 f j)) q := by
  pointwise [mlp, hidden]
  rfl

/-- THE REFERENCE'S RESULT, entry by entry. -/
theorem res_at (m : (ℓ : Loc nD τ sig) → Buf (Elt Ideal) ℓ) (c : Dev nD) (r : Fin 16384) (q : Fin 1024) :
    Value.res_main_v58 m c (ix2 r q : S16384x1024.Idx)
      = rowOut (fun k => m ((c.tc : Thread nD τ).loc main_arg0) (ix3 ⟨r.val / 8192, by omega⟩ ⟨r.val % 8192, by omega⟩ k : S2x8192x1024.Idx))
        (fun k => m ((c.tc : Thread nD τ).loc main_arg1) (ix2 r k : S16384x1024.Idx)) (fun k j => m ((c.tc : Thread nD τ).loc main_arg2) (ix3 0 k j : S1x1024x1024.Idx))
        (fun k => m ((c.tc : Thread nD τ).loc main_arg3) (ix2 1 k : S2x1024.Idx)) (fun k => m ((c.tc : Thread nD τ).loc main_arg4) (ix2 1 k : S2x1024.Idx))
        (fun k f => m ((c.tc : Thread nD τ).loc main_arg5) (ix3 1 k f : S2x1024x4096.Idx)) (fun f j => m ((c.tc : Thread nD τ).loc main_arg6) (ix3 1 f j : S2x4096x1024.Idx))
        (fun k => m ((c.tc : Thread nD τ).loc main_arg7) (ix2 1 k : S2x1024.Idx)) q := by
  rw [res_eq]
  have hs : ∀ k : Fin 1024, stream (F := Ideal) (m ((c.tc : Thread nD τ).loc main_arg0)) (m ((c.tc : Thread nD τ).loc main_arg1)) (m ((c.tc : Thread nD τ).loc main_arg2))
      (m ((c.tc : Thread nD τ).loc main_arg3)) (ix2 r k)
      = rowStream (fun k => m ((c.tc : Thread nD τ).loc main_arg0) (ix3 ⟨r.val / 8192, by omega⟩ ⟨r.val % 8192, by omega⟩ k : S2x8192x1024.Idx))
        (fun k => m ((c.tc : Thread nD τ).loc main_arg1) (ix2 r k : S16384x1024.Idx)) (fun k j => m ((c.tc : Thread nD τ).loc main_arg2) (ix3 0 k j : S1x1024x1024.Idx))
        (fun k => m ((c.tc : Thread nD τ).loc main_arg3) (ix2 1 k : S2x1024.Idx)) k := by
    intro k
    show _ + norm (F := Ideal) _ _ (ix2 r k) = _
    rw [norm_at]
    simp only [proj_at]
    rfl
  show stream (F := Ideal) _ _ _ _ (ix2 r q) + norm (F := Ideal) _ _ (ix2 r q) = _
  rw [hs, norm_at]
  simp only [mlp_at, norm_at, hs]
  rfl

end Cert.MlpRef

end
-- ==== Proof.InRun.lean ====
module

public import proofs.«01_k».proof.Proof.Gen.Kernel3Ideal.Value
public import Idealize.ShloMosaic.Lib.VecWindow
public import Idealize.ShloMosaic.Lib.WholeRead
public import Idealize.ShloMosaic.Lib.Pipeline.ReadBack

/-! What each grid point of the input projection leaves in its results and in the two kept weights, in the printed body's own expressions. -/

@[expose] public section

set_option maxRecDepth 16384
set_option maxHeartbeats 1000000

noncomputable section

namespace Cert.InProj

open Idealize.ShloMosaic Idealize.ShloMosaic.TcCoe Idealize.ShloMosaic.Tactic Idealize.SL.Sem
open Cert.Kernel3Ideal Cert.Kernel3Ideal.Gen

variable {F : FTy → Type} [FloatOps F] [Named F]

theorem z2 : (![0, 0] : Fin 2 → ℕ) = fun _ => 0 := by decide
theorem z3 : (![0, 0, 0] : Fin 3 → ℕ) = fun _ => 0 := by decide
theorem ld_x {e : EltTy} (x : Vec F S1024x1024 e) (h) : View.ld x (Rect.unit (s := S1024x1024) ![0, 0] ![1024, 1024] h) = x := View.ld_unit_zero (S := S1024x1024) z2 h x
theorem ld_g {e : EltTy} (x : Vec F S1x1024 e) (h) : View.ld x (Rect.unit (s := S1x1024) ![0, 0] ![1, 1024] h) = x := View.ld_unit_zero (S := S1x1024) z2 h x
theorem ld_wg {e : EltTy} (x : Vec F S1024x128 e) (h) : View.ld x (Rect.unit (s := S1024x128) ![0, 0] ![1024, 128] h) = x := View.ld_unit_zero (S := S1024x128) z2 h x
theorem ld_bg {e : EltTy} (x : Vec F S1x128 e) (h) : View.ld x (Rect.unit (s := S1x128) ![0, 0] ![1, 128] h) = x := View.ld_unit_zero (S := S1x128) z2 h x
theorem ld_wq {e : EltTy} (x : Vec F S512x1024 e) (h) : View.ld x (Rect.unit (s := S512x1024) ![0, 0] ![512, 1024] h) = x := View.ld_unit_zero (S := S512x1024) z2 h x

theorem cov_q (v : View sig .tc .vmem S512x1024 .bf16) (h h') (x : Vec F S512x1024 .bf16) :
    v.readCov [(⟨Rect.unit (s := S512x1024) ![0, 0] ![512, 1024] h, x⟩ : View.Piece (Elt F) S512x1024 .bf16)] (Rect.unit (s := S512x1024) ![0, 0] ![512, 1024] h').toLoadRect = x := by
  rw [View.readCov_fill (s := S512x1024) v h x [] _ (by decide)]; exact ld_wq x h'
theorem cov_v (v : View sig .tc .vmem S1024x1024 .bf16) (h h') (x : Vec F S1024x1024 .bf16) :
    v.readCov [(⟨Rect.unit (s := S1024x1024) ![0, 0] ![1024, 1024] h, x⟩ : View.Piece (Elt F) S1024x1024 .bf16)] (Rect.unit (s := S1024x1024) ![0, 0] ![1024, 1024] h').toLoadRect = x := by
  rw [View.readCov_fill (s := S1024x1024) v h x [] _ (by decide)]; exact ld_x x h'

/-- The columns of the weight for the queries, the keys, the values and the output gate. -/
def colQ (w : Vec F S1024x3072 .bf16) : Vec F S1024x512 .bf16 := View.ld w (Rect.unit ![0, 0] ![1024, 512] inb_S1024x3072_S1024x512_0_0)
@[inherit_doc colQ] def colK (w : Vec F S1024x3072 .bf16) : Vec F S1024x512 .bf16 := View.ld w (Rect.unit ![0, 512] ![1024, 512] inb_S1024x3072_S1024x512_0_512)
@[inherit_doc colQ] def colV (w : Vec F S1024x3072 .bf16) : Vec F S1024x1024 .bf16 := View.ld w (Rect.unit ![0, 1024] ![1024, 1024] inb_S1024x3072_S1024x1024_0_1024)
@[inherit_doc colQ] def colO (w : Vec F S1024x3072 .bf16) : Vec F S1024x1024 .bf16 := View.ld w (Rect.unit ![0, 2048] ![1024, 1024] inb_S1024x3072_S1024x1024_0_2048)

/-- At a first point: the queries' block. -/
theorem outA_5 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : cond0_0 i)
    (x0 : Vec F S1024x1024 .f32) (x1 : Vec F S1x1024 .f32) (x2 : Vec F S1024x3072 .bf16) (x3 : Vec F S1024x128 .bf16) (x4 : Vec F S1x128 .f32) :
    out0_A_5 c i arg1 harg1 arg2 harg2 arg3 harg3 arg4 harg4 arg5 harg5 arg6 harg6 arg7 harg7 arg8 harg8 arg9 harg9 arg10 harg10 arg11 harg11 arg12 harg12 hc0 x0 x1 x2 x3 x4 = k0_pay4 x0 x1 (k0_pay1 (colQ x2)) := by
  unfold out0_A_5 kernelRun0_A
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- At a first point: the keys' block. -/
theorem outA_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : cond0_0 i)
    (x0 : Vec F S1024x1024 .f32) (x1 : Vec F S1x1024 .f32) (x2 : Vec F S1024x3072 .bf16) (x3 : Vec F S1024x128 .bf16) (x4 : Vec F S1x128 .f32) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 = k0_pay5 x0 x1 (colK x2) := by
  unfold out0_A_6 kernelRun0_A
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- At a first point: the values' block. -/
theorem outA_7 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : cond0_0 i)
    (x0 : Vec F S1024x1024 .f32) (x1 : Vec F S1x1024 .f32) (x2 : Vec F S1024x3072 .bf16) (x3 : Vec F S1024x128 .bf16) (x4 : Vec F S1x128 .f32) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 = k0_pay6 (k0_pay3 x0 x1) (k0_pay2 (colV x2)) := by
  unfold out0_A_7 kernelRun0_A
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- At a first point: the output gate's block. -/
theorem outA_8 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : cond0_0 i)
    (x0 : Vec F S1024x1024 .f32) (x1 : Vec F S1x1024 .f32) (x2 : Vec F S1024x3072 .bf16) (x3 : Vec F S1024x128 .bf16) (x4 : Vec F S1x128 .f32) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 = k0_pay7 (k0_pay3 x0 x1) (colO x2) := by
  unfold out0_A_8 kernelRun0_A
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- At a first point: the gates' block. -/
theorem outA_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : cond0_0 i)
    (x0 : Vec F S1024x1024 .f32) (x1 : Vec F S1x1024 .f32) (x2 : Vec F S1024x3072 .bf16) (x3 : Vec F S1024x128 .bf16) (x4 : Vec F S1x128 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 = k0_pay8 (k0_pay3 x0 x1) x3 x4 := by
  unfold out0_A_9 kernelRun0_A
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- The kept transpose of the queries' weight. -/
theorem keepQ (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : cond0_0 i)
    (x0 : Vec F S1024x1024 .f32) (x1 : Vec F S1x1024 .f32) (x2 : Vec F S1024x3072 .bf16) (x3 : Vec F S1024x128 .bf16) (x4 : Vec F S1x128 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 = k0_pay1 (colQ x2) := by
  unfold sout0_A_0 kernelRun0_A
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- The kept transpose of the values' weight. -/
theorem keepV (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : cond0_0 i)
    (x0 : Vec F S1024x1024 .f32) (x1 : Vec F S1x1024 .f32) (x2 : Vec F S1024x3072 .bf16) (x3 : Vec F S1024x128 .bf16) (x4 : Vec F S1x128 .f32) :
    sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 = k0_pay2 (colV x2) := by
  unfold sout0_A_1 kernelRun0_A
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- At a later point: the queries' block. -/
theorem outB_5 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : ¬cond0_0 i)
    (x0 : Vec F S1024x1024 .f32) (x1 : Vec F S1x1024 .f32) (x2 : Vec F S1024x3072 .bf16) (x3 : Vec F S1024x128 .bf16) (x4 : Vec F S1x128 .f32) (xs0 : Vec F S512x1024 .bf16) (xs1 : Vec F S1024x1024 .bf16) :
    out0_B_5 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = k0_pay4 x0 x1 xs0 := by
  unfold out0_B_5 kernelRun0_B
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- At a later point: the keys' block. -/
theorem outB_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : ¬cond0_0 i)
    (x0 : Vec F S1024x1024 .f32) (x1 : Vec F S1x1024 .f32) (x2 : Vec F S1024x3072 .bf16) (x3 : Vec F S1024x128 .bf16) (x4 : Vec F S1x128 .f32) (xs0 : Vec F S512x1024 .bf16) (xs1 : Vec F S1024x1024 .bf16) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = k0_pay5 x0 x1 (colK x2) := by
  unfold out0_B_6 kernelRun0_B
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- At a later point: the values' block. -/
theorem outB_7 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : ¬cond0_0 i)
    (x0 : Vec F S1024x1024 .f32) (x1 : Vec F S1x1024 .f32) (x2 : Vec F S1024x3072 .bf16) (x3 : Vec F S1024x128 .bf16) (x4 : Vec F S1x128 .f32) (xs0 : Vec F S512x1024 .bf16) (xs1 : Vec F S1024x1024 .bf16) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = k0_pay6 (k0_pay3 x0 x1) xs1 := by
  unfold out0_B_7 kernelRun0_B
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- At a later point: the output gate's block. -/
theorem outB_8 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : ¬cond0_0 i)
    (x0 : Vec F S1024x1024 .f32) (x1 : Vec F S1x1024 .f32) (x2 : Vec F S1024x3072 .bf16) (x3 : Vec F S1024x128 .bf16) (x4 : Vec F S1x128 .f32) (xs0 : Vec F S512x1024 .bf16) (xs1 : Vec F S1024x1024 .bf16) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = k0_pay7 (k0_pay3 x0 x1) (colO x2) := by
  unfold out0_B_8 kernelRun0_B
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

/-- At a later point: the gates' block. -/
theorem outB_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512x1024 .bf16) (harg6 : arg6.IsWhole) (arg7 : Memref sig .tc .vmem S1024x512 .bf16) (harg7 : arg7.IsWhole) (arg8 : Memref sig .tc .vmem S1x1024x1024 .bf16) (harg8 : arg8.IsWhole) (arg9 : Memref sig .tc .vmem S1024x1024 .bf16) (harg9 : arg9.IsWhole) (arg10 : Memref sig .tc .vmem S1024x128 .f32) (harg10 : arg10.IsWhole) (arg11 : Memref sig .tc .vmem S512x1024 .bf16) (harg11 : arg11.IsWhole) (arg12 : Memref sig .tc .vmem S1024x1024 .bf16) (harg12 : arg12.IsWhole) (hc0 : ¬cond0_0 i)
    (x0 : Vec F S1024x1024 .f32) (x1 : Vec F S1x1024 .f32) (x2 : Vec F S1024x3072 .bf16) (x3 : Vec F S1024x128 .bf16) (x4 : Vec F S1x128 .f32) (xs0 : Vec F S512x1024 .bf16) (xs1 : Vec F S1024x1024 .bf16) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = k0_pay8 (k0_pay3 x0 x1) x3 x4 := by
  unfold out0_B_9 kernelRun0_B
  dsimp only
  sl_unfold_words
  simp only [View.read_writes_junk_eq_canon, View.readAt_eq_ld, harg1.read_unread, harg2.read_unread, harg3.read_unread, harg4.read_unread, harg5.read_unread, harg11.read_unread, harg12.read_unread]
  first
    | refine (View.canon_cons_unit_zero z2 _ _ _).trans ?_
    | refine (View.canon_cons_unit_zero z3 _ _ _).trans ?_
  (try simp only [cov_q, cov_v])
  (try simp only [ld_x, ld_g, ld_wg, ld_bg, ld_wq])
  try rfl

variable (m : (ℓ : Loc nD τ sig) → Buf (Elt F) ℓ) (c : Dev nD)

/-- What a point leaves over the two kept weights: the five blocks, and those weights. -/
def ptOut (t : Fin cfg0.N) (wq : Vec F S512x1024 .bf16) (wv : Vec F S1024x1024 .bf16) :
    Vec F S1x512x1024 .bf16 × Vec F S1024x512 .bf16 × Vec F S1x1024x1024 .bf16 × Vec F S1024x1024 .bf16 × Vec F S1024x128 .f32 × Vec F S512x1024 .bf16 × Vec F S1024x1024 .bf16 :=
  (k0_pay4 (iblk m c 0 t) (iblk m c 1 t) wq, k0_pay5 (iblk m c 0 t) (iblk m c 1 t) (colK (iblk m c 2 t)), k0_pay6 (k0_pay3 (iblk m c 0 t) (iblk m c 1 t)) wv,
    k0_pay7 (k0_pay3 (iblk m c 0 t) (iblk m c 1 t)) (colO (iblk m c 2 t)), k0_pay8 (k0_pay3 (iblk m c 0 t) (iblk m c 1 t)) (iblk m c 3 t) (iblk m c 4 t), wq, wv)

theorem ptA (t : Fin cfg0.N) (h0 : t.val % 16 = 0) : outsAt0 m c t.val t.isLt = ptOut m c t (k0_pay1 (colQ (iblk m c 2 t))) (k0_pay2 (colV (iblk m c 2 t))) := by
  rw [outsAt0_A m c t h0]
  simp only [outA_5, outA_6, outA_7, outA_8, outA_9, keepQ, keepV]
  rfl

theorem ptB (t : Fin cfg0.N) (h0 : ¬ t.val % 16 = 0) (a : Vec F S1x512x1024 .bf16 × Vec F S1024x512 .bf16 × Vec F S1x1024x1024 .bf16 × Vec F S1024x1024 .bf16 × Vec F S1024x128 .f32 × Vec F S512x1024 .bf16 × Vec F S1024x1024 .bf16)
    (ha : outsAt0 m c (t.val - 1) (Nat.lt_of_le_of_lt (Nat.sub_le _ _) t.isLt) = a) : outsAt0 m c t.val t.isLt = ptOut m c t a.2.2.2.2.2.1 a.2.2.2.2.2.2 := by
  rw [outsAt0_B m c t h0, ha]
  simp only [outB_5, outB_6, outB_7, outB_8, outB_9]
  rfl

end Cert.InProj

end
-- ==== Proof.InGate.lean ====
module

public import proofs.«01_k».proof.Proof.MlpRow

/-! The gates' cap and log-sigmoid over the extended reals: the cap's values are reals, and the two spellings of the log-sigmoid and of base two agree on them. -/

@[expose] public section

noncomputable section

namespace Cert.InProj

open Idealize.ShloMosaic

/-- A row's normed entries times a weight's column. -/
def rowProj (x g w : Fin 1024 → EReal) : EReal := ∑ k, Cert.Mlp.rowRms x g k * w k

theorem fifteen : Ideal.ofBits FTy.f32 0x41700000#32 = ((15 : ℝ) : EReal) := by
  simp [Ideal.ofBits, Ideal.ieee]
  rw [← EReal.coe_mul]
  norm_num

theorem cmax (a b : ℝ) : ((max a b : ℝ) : EReal) = max (a : EReal) (b : EReal) := EReal.coe_strictMono.monotone.map_max
theorem cmin (a b : ℝ) : ((min a b : ℝ) : EReal) = min (a : EReal) (b : EReal) := EReal.coe_strictMono.monotone.map_min

theorem two_log : Ideal.log (Ideal.ofBits FTy.f32 0x40000000#32) = ((Real.log 2 : ℝ) : EReal) := by
  have h : Ideal.ofBits FTy.f32 0x40000000#32 = ((2 : ℝ) : EReal) := by
    simp [Ideal.ofBits, Ideal.ieee]
    rw [← EReal.coe_mul]
    norm_num
  rw [h, Ideal.log_coe, if_neg (by norm_num)]

/-- The soft cap at 15. -/
def softCap (p : EReal) : EReal := ((15 : ℝ) : EReal) * Ideal.tanh (p * ((1 / 15 : ℝ) : EReal))

/-- The cap's values are reals. -/
theorem softCap_real (p : EReal) : ∃ r : ℝ, softCap p = (r : EReal) := by
  have ht : ∀ x : EReal, ∃ r : ℝ, Ideal.tanh x = (r : EReal) := by
    intro x
    induction x with
    | bot => exact ⟨-1, by simp [Ideal.tanh_bot]⟩
    | top => exact ⟨1, by simp [Ideal.tanh_top]⟩
    | coe r => exact ⟨_, Ideal.tanh_coe r⟩
  obtain ⟨r, hr⟩ := ht (p * ((1 / 15 : ℝ) : EReal))
  exact ⟨15 * r, by unfold softCap; rw [hr, ← EReal.coe_mul]⟩

/-- The cap written with a quotient. -/
theorem softCap_div (p : EReal) : ((15 : ℝ) : EReal) * Ideal.tanh (Ideal.div p ((15 : ℝ) : EReal)) = softCap p := by
  unfold softCap
  rw [Ideal.div_coe (by norm_num)]

/-- The log-sigmoid. -/
def logSig (z : EReal) : EReal := min z 0 - Ideal.log1p (Ideal.exp (0 - max z (-z)))

/-- The log-sigmoid written as the negated softplus of the negation, at a real. -/
theorem logSig_neg (r : ℝ) : -(max (-(r : EReal)) 0 + Ideal.log1p (Ideal.exp (-(max (-(r : EReal) - 0) (-(-(r : EReal) - 0)))))) = logSig (r : EReal) := by
  have e : (0 : EReal) - max (r : EReal) (-(r : EReal)) = ((-|r| : ℝ) : EReal) := by
    rw [← EReal.coe_neg, ← cmax, zero_sub, ← EReal.coe_neg, abs_eq_max_neg]
  have e' : -(max (-(r : EReal) - 0) (-(-(r : EReal) - 0))) = ((-|r| : ℝ) : EReal) := by
    rw [sub_zero, neg_neg, ← e, zero_sub, max_comm]
  have el : Ideal.log1p (Ideal.exp ((-|r| : ℝ) : EReal)) = ((Real.log (1 + Real.exp (-|r|)) : ℝ) : EReal) := by
    rw [Ideal.exp_coe]
    show Ideal.log (1 + _) = _
    rw [← EReal.coe_one, ← EReal.coe_add, Ideal.log_coe, if_neg (by have := Real.exp_pos (-|r|); linarith)]
  unfold logSig
  rw [e, e', el]
  rw [← EReal.coe_zero, ← EReal.coe_neg, ← cmax, ← cmin, ← EReal.coe_add, ← EReal.coe_neg, ← EReal.coe_sub]
  congr 1
  rcases le_total r 0 with h | h
  · rw [min_eq_left h, max_eq_left (by linarith)]; ring
  · rw [min_eq_right h, max_eq_right (by linarith)]; ring

/-- The gate of a lane: eight lanes carry the capped value, the others its log-sigmoid, both in base two. -/
def gateOf (q : ℕ) (p : EReal) : EReal := (if q < 8 then softCap p else logSig (softCap p)) * (((Real.log 2)⁻¹ : ℝ) : EReal)

/-- The quotient by the logarithm of two. -/
theorem div_log_two (x : EReal) : Ideal.div x ((Real.log 2 : ℝ) : EReal) = x * (((Real.log 2)⁻¹ : ℝ) : EReal) := by
  rw [Ideal.div_coe (Real.log_pos (by norm_num)).ne', one_div]

end Cert.InProj

end
-- ==== Proof.InRead.lean ====
module

public import proofs.«01_k».proof.Proof.InRun
public import proofs.«01_k».proof.Proof.InGate

/-! The input projection's vector expressions read entry by entry, over the extended reals. -/

@[expose] public section

set_option maxRecDepth 16384

noncomputable section

namespace Cert.InProj

open Idealize.ShloMosaic Idealize.ShloMosaic.TcCoe Idealize.ShloMosaic.Tactic Idealize.SL.Sem
open Cert.Kernel3Ideal Cert.Kernel3Ideal.Gen Cert.Mlp

theorem keptQ_at (w : Vec Ideal S1024x512 .bf16) (p : Fin 512) (q : Fin 1024) : k0_pay1 w (ix2 p q) = w (ix2 q p) := by
  pointwise [k0_pay1]

theorem keptV_at (w : Vec Ideal S1024x1024 .bf16) (p q : Fin 1024) : k0_pay2 w (ix2 p q) = w (ix2 q p) := by
  pointwise [k0_pay2]

theorem norm_at (x : Vec Ideal S1024x1024 .f32) (g : Vec Ideal S1x1024 .f32) (p q : Fin 1024) :
    k0_pay3 x g (ix2 p q) = rowRms (fun k => x (ix2 p k)) (fun k => g (ix2 0 k)) q := by
  pointwise [k0_pay3]
  rfl

theorem qt_at (x : Vec Ideal S1024x1024 .f32) (g : Vec Ideal S1x1024 .f32) (w : Vec Ideal S512x1024 .bf16) (p : Fin 512) (q : Fin 1024) :
    k0_pay4 x g w (ix3 0 p q) = ∑ k : Fin 1024, w (ix2 p k) * k0_pay3 x g (ix2 q k) := by
  pointwise [k0_pay4]

theorem k_at (x : Vec Ideal S1024x1024 .f32) (g : Vec Ideal S1x1024 .f32) (w : Vec Ideal S1024x512 .bf16) (p : Fin 1024) (q : Fin 512) :
    k0_pay5 x g w (ix2 p q) = (∑ k : Fin 1024, k0_pay3 x g (ix2 p k) * w (ix2 k q)) * Ideal.ofBits FTy.f32 0x3E000000#32 := by
  pointwise [k0_pay5]

theorem vt_at (xn : Vec Ideal S1024x1024 .bf16) (w : Vec Ideal S1024x1024 .bf16) (p : Fin 1024) (q : Fin 1024) :
    k0_pay6 xn w (ix3 0 p q) = ∑ k : Fin 1024, w (ix2 p k) * xn (ix2 q k) := by
  pointwise [k0_pay6]

theorem op_at (xn : Vec Ideal S1024x1024 .bf16) (w : Vec Ideal S1024x1024 .bf16) (p : Fin 1024) (q : Fin 1024) :
    k0_pay7 xn w (ix2 p q) = ∑ k : Fin 1024, xn (ix2 p k) * w (ix2 k q) := by
  pointwise [k0_pay7]

/-- The named constants' values. -/
theorem inv_cap : Named.named (F := Ideal) Cert.Kernel3Ideal.κ "inv_cap" (φ := .f32) 0x3D888889#32 = ((1 / 15 : ℝ) : EReal) :=
  IdealRules.named_const.ideal_named_scalar _ _ _ _ rfl
@[inherit_doc inv_cap] theorem log2e : Named.named (F := Ideal) Cert.Kernel3Ideal.κ "log2e" (φ := .f32) 0x3FB8AA3B#32 = (((Real.log 2)⁻¹ : ℝ) : EReal) :=
  IdealRules.named_const.ideal_named_scalar _ _ _ _ rfl

theorem gates_at (xn : Vec Ideal S1024x1024 .bf16) (w : Vec Ideal S1024x128 .bf16) (b : Vec Ideal S1x128 .f32) (p : Fin 1024) (q : Fin 128) :
    k0_pay8 xn w b (ix2 p q) = gateOf q.val ((∑ k : Fin 1024, xn (ix2 p k) * w (ix2 k q)) + b (ix2 0 q)) := by
  pointwise [k0_pay8]
  have hl : (IntOp.cmpi CmpIPredicate.slt (BitVec.ofNat 32 q.val) 8#32 : BitVec 1) = if q.val < 8 then 1#1 else 0#1 := by
    have := (by decide +kernel : ∀ q : Fin 128, (IntOp.cmpi CmpIPredicate.slt (BitVec.ofNat 32 q.val) 8#32 : BitVec 1) = if q.val < 8 then 1#1 else 0#1)
    exact this q
  rw [inv_cap, log2e, fifteen, hl]
  unfold gateOf
  by_cases h : q.val < 8
  · simp only [h, if_true]
    rfl
  · simp only [h, if_false]
    rfl

theorem colQ_at (w : Vec Ideal S1024x3072 .bf16) (p : Fin 1024) (q : Fin 512) : colQ w (ix2 p q) = w (ix2 p ⟨q.val, by omega⟩) := by
  refine congrArg w (funext fun d => ?_)
  fin_cases d
  · exact Fin.ext (show 0 + 1 * p.val = p.val by omega)
  · exact Fin.ext (show 0 + 1 * q.val = q.val by omega)
theorem colK_at (w : Vec Ideal S1024x3072 .bf16) (p : Fin 1024) (q : Fin 512) : colK w (ix2 p q) = w (ix2 p ⟨512 + q.val, by omega⟩) := by
  refine congrArg w (funext fun d => ?_)
  fin_cases d
  · exact Fin.ext (show 0 + 1 * p.val = p.val by omega)
  · exact Fin.ext (show 512 + 1 * q.val = 512 + q.val by omega)
theorem colV_at (w : Vec Ideal S1024x3072 .bf16) (p q : Fin 1024) : colV w (ix2 p q) = w (ix2 p ⟨1024 + q.val, by omega⟩) := by
  refine congrArg w (funext fun d => ?_)
  fin_cases d
  · exact Fin.ext (show 0 + 1 * p.val = p.val by omega)
  · exact Fin.ext (show 1024 + 1 * q.val = 1024 + q.val by omega)
theorem colO_at (w : Vec Ideal S1024x3072 .bf16) (p q : Fin 1024) : colO w (ix2 p q) = w (ix2 p ⟨2048 + q.val, by omega⟩) := by
  refine congrArg w (funext fun d => ?_)
  fin_cases d
  · exact Fin.ext (show 0 + 1 * p.val = p.val by omega)
  · exact Fin.ext (show 2048 + 1 * q.val = 2048 + q.val by omega)

end Cert.InProj

end
-- ==== Proof.InData.lean ====
module

public import proofs.«01_k».proof.Proof.InRead
public import Idealize.ShloMosaic.Lib.Pipeline.ValueKit

/-! The fetched blocks of the input projection in the launched arrays' entries. -/

@[expose] public section

set_option maxRecDepth 16384

noncomputable section

namespace Cert.InProj

open Idealize.ShloMosaic Idealize.ShloMosaic.TcCoe Idealize.ShloMosaic.Tactic Idealize.SL.Sem
open Cert.Kernel3Ideal Cert.Kernel3Ideal.Gen Cert.Mlp

variable (m : (ℓ : Loc nD τ sig) → Buf (Elt Ideal) ℓ) (c : Dev nD)

/-- The stream as launched. -/
abbrev argH : S16384x1024.Idx → EReal := m ((c : Thread nD τ).loc main_arg0)
/-- The gains. -/
abbrev argG : S2x1024.Idx → EReal := m ((c : Thread nD τ).loc main_arg1)
/-- The weight. -/
abbrev argW : S1x1024x3088.Idx → EReal := m ((c : Thread nD τ).loc main_arg2)
/-- The gates' bias. -/
abbrev argB : S1x16.Idx → EReal := m ((c : Thread nD τ).loc main_arg3)

/-- The blocks of each window over the grid. -/
theorem idx : ∀ t : Fin cfg0.N, win0_0.index t = ![t.val, 0] ∧ win0_1.index t = ![0, 0] ∧ win0_2.index t = ![0, 0] ∧ win0_3.index t = ![0, 0] ∧ win0_4.index t = ![0, 0] :=
  (by decide +kernel : ∀ t : Fin grid0.N, _)

theorem N16 : cfg0.N = 16 := N_0

/-- The stream's row at a point's local row. -/
abbrev rowAt (t : Fin cfg0.N) (p : Fin 1024) : Fin 16384 := ⟨1024 * t.val + p.val, by have := lt_of_lt_of_eq t.isLt N16; omega⟩

theorem blk_h (t : Fin cfg0.N) (p k : Fin 1024) : iblk m c 0 t (ix2 p k) = argH m c (ix2 (rowAt t p) k) := by
  blk_ext [iblk, V, idx t]

theorem blk_g (t : Fin cfg0.N) (k : Fin 1024) : iblk m c 1 t (ix2 0 k) = argG m c (ix2 1 k) := by
  have e : (win0_1.blk t).view.emb (ix2 0 k) = (ix2 0 k : S1x1024.Idx) := by blk_ext [idx t]
  show Gen.V m c main_v12 ((win0_1.blk t).view.emb (ix2 0 k)) = _
  rw [e]
  simp only [Gen.V, hostOps0, hostOps0_1, hostOps0_2, hostOps0_3, hostOps0_4, List.flatten_cons, List.flatten_nil, List.append_nil, List.cons_append, List.nil_append]
  entry_read
  pointwise []

theorem blk_w (t : Fin cfg0.N) (p : Fin 1024) (k : Fin 3072) : iblk m c 2 t (ix2 p k) = argW m c (ix3 0 p ⟨k.val, by omega⟩) := by
  have e : (win0_2.blk t).view.emb (ix2 p k) = (ix2 p k : S1024x3072.Idx) := by blk_ext [idx t]
  show Gen.V m c main_v2 ((win0_2.blk t).view.emb (ix2 p k)) = _
  rw [e]
  simp only [Gen.V, hostOps0, hostOps0_1, hostOps0_2, hostOps0_3, hostOps0_4, List.flatten_cons, List.flatten_nil, List.append_nil, List.cons_append, List.nil_append]
  entry_read
  pointwise []

theorem blk_wg (t : Fin cfg0.N) (p : Fin 1024) (k : Fin 128) :
    iblk m c 3 t (ix2 p k) = if h : k.val < 16 then argW m c (ix3 0 p ⟨3072 + k.val, by omega⟩) else 0 := by
  have e : (win0_3.blk t).view.emb (ix2 p k) = (ix2 p k : S1024x128.Idx) := by blk_ext [idx t]
  show Gen.V m c main_v6 ((win0_3.blk t).view.emb (ix2 p k)) = _
  rw [e]
  simp only [Gen.V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise []
  split
  · rfl
  · show (((0#32 : BitVec 32).toInt : ℝ) : EReal) = 0
    simp

theorem blk_bg (t : Fin cfg0.N) (k : Fin 128) : iblk m c 4 t (ix2 0 k) = if h : k.val < 16 then argB m c (ix2 0 ⟨k.val, h⟩) else 0 := by
  have e : (win0_4.blk t).view.emb (ix2 0 k) = (ix2 0 k : S1x128.Idx) := by blk_ext [idx t]
  show Gen.V m c main_v9 ((win0_4.blk t).view.emb (ix2 0 k)) = _
  rw [e]
  simp only [Gen.V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise []
  split
  · rfl
  · show (((0#32 : BitVec 32).toInt : ℝ) : EReal) = 0
    simp

end Cert.InProj

end
-- ==== Proof.InGrid.lean ====
module

public import proofs.«01_k».proof.Proof.InData

/-! The input projection's results: after every point the two kept weights are the launched weight's columns transposed, so each result's entry is a row's projection. -/

@[expose] public section

set_option maxRecDepth 16384

noncomputable section

namespace Cert.InProj

open Idealize.ShloMosaic Idealize.ShloMosaic.TcCoe Idealize.SL.Sem
open Cert.Kernel3Ideal Cert.Kernel3Ideal.Gen Cert.Mlp

variable (m : (ℓ : Loc nD τ sig) → Buf (Elt Ideal) ℓ) (c : Dev nD)

/-- The queries' weight transposed. -/
def wQ : Vec Ideal S512x1024 .bf16 := fun i => argW m c (ix3 0 (i 1 : Fin 1024) ⟨(i 0).val, lt_trans (show (i 0).val < 512 from (i 0).isLt) (by norm_num)⟩)
/-- The values' weight transposed. -/
def wV : Vec Ideal S1024x1024 .bf16 := fun i => argW m c (ix3 0 (i 1 : Fin 1024) ⟨1024 + (i 0).val, lt_trans (Nat.add_lt_add_left (show (i 0).val < 1024 from (i 0).isLt) 1024) (by norm_num)⟩)

theorem keptQ (t : Fin cfg0.N) : k0_pay1 (colQ (iblk m c 2 t)) = wQ m c := by
  funext i
  obtain ⟨p, q, rfl⟩ : ∃ (p : Fin 512) (q : Fin 1024), i = ix2 p q := ⟨i 0, i 1, eq_ix2 i⟩
  rw [keptQ_at, colQ_at, blk_w]
  rfl

theorem keptV (t : Fin cfg0.N) : k0_pay2 (colV (iblk m c 2 t)) = wV m c := by
  funext i
  obtain ⟨p, q, rfl⟩ : ∃ (p : Fin 1024) (q : Fin 1024), i = ix2 p q := ⟨i 0, i 1, eq_ix2 i⟩
  rw [keptV_at, colV_at, blk_w]
  rfl

/-- Every point's blocks. -/
theorem pt_all : ∀ (n : ℕ) (hn : n < cfg0.N), outsAt0 m c n hn = ptOut m c ⟨n, hn⟩ (wQ m c) (wV m c) := by
  intro n
  induction n with
  | zero =>
    intro hn
    have h := ptA m c ⟨0, hn⟩ rfl
    rw [keptQ, keptV] at h
    exact h
  | succ n ih =>
    intro hn
    have h16 := lt_of_lt_of_eq hn N16
    have h := ptB m c ⟨n + 1, hn⟩ (by simp only; omega) _ (ih (Nat.lt_of_succ_lt hn))
    exact h

/-- A row's projection onto a column of the launched weight. -/
abbrev projAt (r : Fin 16384) (q : Fin 3088) : EReal :=
  rowProj (fun k => argH m c (ix2 r k)) (fun k => argG m c (ix2 1 k)) (fun k => argW m c (ix3 0 k q))

theorem norm_row (t : Fin cfg0.N) (p q : Fin 1024) :
    k0_pay3 (iblk m c 0 t) (iblk m c 1 t) (ix2 p q) = rowRms (fun k => argH m c (ix2 (rowAt t p) k)) (fun k => argG m c (ix2 1 k)) q := by
  rw [norm_at]
  simp only [blk_h, blk_g]

theorem pt_q (t : Fin cfg0.N) (p : Fin 512) (s : Fin 1024) : (ptOut m c t (wQ m c) (wV m c)).1 (ix3 0 p s) = projAt m c (rowAt t s) ⟨p.val, by omega⟩ := by
  refine (qt_at _ _ _ p s).trans (Finset.sum_congr rfl fun k _ => ?_)
  rw [norm_row]
  exact mul_comm _ _

theorem pt_k (t : Fin cfg0.N) (s : Fin 1024) (q : Fin 512) :
    (ptOut m c t (wQ m c) (wV m c)).2.1 (ix2 s q) = projAt m c (rowAt t s) ⟨512 + q.val, by omega⟩ * Ideal.ofBits FTy.f32 0x3E000000#32 := by
  refine (k_at _ _ _ s q).trans (congrArg (· * _) (Finset.sum_congr rfl fun k _ => ?_))
  rw [norm_row, colK_at, blk_w]

theorem pt_v (t : Fin cfg0.N) (p : Fin 1024) (s : Fin 1024) : (ptOut m c t (wQ m c) (wV m c)).2.2.1 (ix3 0 p s) = projAt m c (rowAt t s) ⟨1024 + p.val, by omega⟩ := by
  refine (vt_at _ _ p s).trans (Finset.sum_congr rfl fun k _ => ?_)
  rw [norm_row]
  exact mul_comm _ _

theorem pt_o (t : Fin cfg0.N) (s : Fin 1024) (q : Fin 1024) : (ptOut m c t (wQ m c) (wV m c)).2.2.2.1 (ix2 s q) = projAt m c (rowAt t s) ⟨2048 + q.val, by omega⟩ := by
  refine (op_at _ _ s q).trans (Finset.sum_congr rfl fun k _ => ?_)
  rw [norm_row, colO_at, blk_w]

theorem pt_g (t : Fin cfg0.N) (s : Fin 1024) (q : Fin 128) : (ptOut m c t (wQ m c) (wV m c)).2.2.2.2.1 (ix2 s q)
    = gateOf q.val (if h : q.val < 16 then projAt m c (rowAt t s) ⟨3072 + q.val, by omega⟩ + argB m c (ix2 0 ⟨q.val, h⟩) else 0) := by
  refine (gates_at _ _ _ s q).trans (congrArg (gateOf q.val) ?_)
  by_cases h : q.val < 16
  · rw [dif_pos h, blk_bg, dif_pos h]
    refine congrArg (· + _) (Finset.sum_congr rfl fun k _ => ?_)
    rw [norm_row, blk_wg, dif_pos h]
  · rw [dif_neg h, blk_bg, dif_neg h, add_zero]
    refine Finset.sum_eq_zero fun k _ => ?_
    rw [blk_wg, dif_neg h, mul_zero]

/-- What a point's blocks are read from. -/
theorem acc_eq (p : ℕ) (hp : p < cfg0.N) (h') :
    Pipeline.accAt (fun n h => Value.stAt0 m c n h Value.junk0) (Value.stAt0 m c) 0 p h' = ptOut m c ⟨p, hp⟩ (wQ m c) (wV m c) := by
  rw [← pt_all m c p hp]
  exact (Value.outsAt0_sweep m c p hp).symm

theorem row_eq (p : ℕ) (hp : p < cfg0.N) (r : Fin 16384) (h : p = r.val / 1024) : rowAt ⟨p, hp⟩ ⟨r.val % 1024, by omega⟩ = r :=
  Fin.ext (by subst h; show 1024 * (r.val / 1024) + r.val % 1024 = r.val; omega)

/-- The queries. -/
theorem G5_at (b : Fin 2) (p : Fin 512) (s : Fin 8192) : Value.G5 m c (ix3 b p s) = projAt m c ⟨b.val * 8192 + s.val, by omega⟩ ⟨p.val, by omega⟩ := by
  have hp : 8 * (b.val / 1 - 0) + 8 * (p.val / 512 - 0) + 1 * (s.val / 1024 - 0) = (b.val * 8192 + s.val) / 1024 := by omega
  have hn : Value.pt5Of (ix3 b p s) < cfg0.N := by rw [N16]; show 8 * (b.val / 1 - 0) + 8 * (p.val / 512 - 0) + 1 * (s.val / 1024 - 0) < 16; omega
  have hx : Value.loc5Of (ix3 b p s) = (ix3 0 p ⟨(b.val * 8192 + s.val) % 1024, by omega⟩ : S1x512x1024.Idx) := by
    funext d
    fin_cases d
    · exact Fin.ext (show b.val % 1 = 0 by omega)
    · exact Fin.ext (show p.val % 512 = p.val by omega)
    · exact Fin.ext (show s.val % 1024 = (b.val * 8192 + s.val) % 1024 by omega)
  unfold Value.G5
  rw [dif_pos hn, acc_eq m c _ hn, hx, pt_q]
  exact congrArg (fun r => projAt m c r _) (row_eq _ hn ⟨b.val * 8192 + s.val, by omega⟩ hp)

/-- The keys. -/
theorem G6_at (r : Fin 16384) (q : Fin 512) : Value.G6 m c (ix2 r q) = projAt m c r ⟨512 + q.val, by omega⟩ * Ideal.ofBits FTy.f32 0x3E000000#32 := by
  have hp : 1 * (r.val / 1024 - 0) + 1 * (q.val / 512 - 0) = r.val / 1024 := by omega
  have hn : Value.pt6Of (ix2 r q) < cfg0.N := by rw [N16]; show 1 * (r.val / 1024 - 0) + 1 * (q.val / 512 - 0) < 16; omega
  have hx : Value.loc6Of (ix2 r q) = (ix2 ⟨r.val % 1024, by omega⟩ q : S1024x512.Idx) := by
    funext d
    fin_cases d
    · rfl
    · exact Fin.ext (show q.val % 512 = q.val by omega)
  unfold Value.G6
  rw [dif_pos hn, acc_eq m c _ hn, hx, pt_k]
  exact congrArg (fun r => projAt m c r _ * _) (row_eq _ hn r hp)

/-- The values. -/
theorem G7_at (b : Fin 2) (p : Fin 1024) (s : Fin 8192) : Value.G7 m c (ix3 b p s) = projAt m c ⟨b.val * 8192 + s.val, by omega⟩ ⟨1024 + p.val, by omega⟩ := by
  have hp : 8 * (b.val / 1 - 0) + 8 * (p.val / 1024 - 0) + 1 * (s.val / 1024 - 0) = (b.val * 8192 + s.val) / 1024 := by omega
  have hn : Value.pt7Of (ix3 b p s) < cfg0.N := by rw [N16]; show 8 * (b.val / 1 - 0) + 8 * (p.val / 1024 - 0) + 1 * (s.val / 1024 - 0) < 16; omega
  have hx : Value.loc7Of (ix3 b p s) = (ix3 0 p ⟨(b.val * 8192 + s.val) % 1024, by omega⟩ : S1x1024x1024.Idx) := by
    funext d
    fin_cases d
    · exact Fin.ext (show b.val % 1 = 0 by omega)
    · exact Fin.ext (show p.val % 1024 = p.val by omega)
    · exact Fin.ext (show s.val % 1024 = (b.val * 8192 + s.val) % 1024 by omega)
  unfold Value.G7
  rw [dif_pos hn, acc_eq m c _ hn, hx, pt_v]
  exact congrArg (fun r => projAt m c r _) (row_eq _ hn ⟨b.val * 8192 + s.val, by omega⟩ hp)

/-- The output gate's input. -/
theorem G8_at (r : Fin 16384) (q : Fin 1024) : Value.G8 m c (ix2 r q) = projAt m c r ⟨2048 + q.val, by omega⟩ := by
  have hp : 1 * (r.val / 1024 - 0) + 1 * (q.val / 1024 - 0) = r.val / 1024 := by omega
  have hn : Value.pt8Of (ix2 r q) < cfg0.N := by rw [N16]; show 1 * (r.val / 1024 - 0) + 1 * (q.val / 1024 - 0) < 16; omega
  have hx : Value.loc8Of (ix2 r q) = (ix2 ⟨r.val % 1024, by omega⟩ q : S1024x1024.Idx) := by
    funext d
    fin_cases d
    · rfl
    · exact Fin.ext (show q.val % 1024 = q.val by omega)
  unfold Value.G8
  rw [dif_pos hn, acc_eq m c _ hn, hx, pt_o]
  exact congrArg (fun r => projAt m c r _) (row_eq _ hn r hp)

/-- The gates. -/
theorem G9_at (r : Fin 16384) (q : Fin 128) : Value.G9 m c (ix2 r q)
    = gateOf q.val (if h : q.val < 16 then projAt m c r ⟨3072 + q.val, by omega⟩ + argB m c (ix2 0 ⟨q.val, h⟩) else 0) := by
  have hp : 1 * (r.val / 1024 - 0) + 1 * (q.val / 128 - 0) = r.val / 1024 := by omega
  have hn : Value.pt9Of (ix2 r q) < cfg0.N := by rw [N16]; show 1 * (r.val / 1024 - 0) + 1 * (q.val / 128 - 0) < 16; omega
  have hx : Value.loc9Of (ix2 r q) = (ix2 ⟨r.val % 1024, by omega⟩ q : S1024x128.Idx) := by
    funext d
    fin_cases d
    · rfl
    · exact Fin.ext (show q.val % 128 = q.val by omega)
  unfold Value.G9
  rw [dif_pos hn, acc_eq m c _ hn, hx, pt_g]
  exact congrArg (fun r => gateOf q.val (if h : q.val < 16 then projAt m c r ⟨3072 + q.val, by omega⟩ + argB m c (ix2 0 ⟨q.val, h⟩) else 0)) (row_eq _ hn r hp)

end Cert.InProj

end
-- ==== Proof.InRefValue.lean ====
module

public import proofs.«01_k».proof.Proof.Gen.Reference3Ideal.Run
public import proofs.«01_k».proof.Proof.InGate

/-! The third reference's results, entry by entry. -/

@[expose] public section

set_option maxRecDepth 16384

noncomputable section

namespace Cert.InRef

open Idealize.ShloMosaic Idealize.ShloMosaic.TcCoe Idealize.ShloMosaic.Tactic Idealize.SL.Sem
open Cert.Reference3Ideal Cert.Reference3Ideal.Gen Cert.Mlp Cert.InProj

variable {F : FTy → Type} [FloatOps F]

/-- The normed rows. -/
def norm (x : FVec F S16384x1024 .f32) (g : FVec F S2x1024 .f32) : FVec F S16384x1024 .f32 :=
  mulf (mulf x (broadcastInDim S16384x1024 ![0, 1] bcast_S16384x1_S16384x1024_0_1 (Host.rsqrt (addf (Host.divf
      (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1
      (shapeCast _ (extractStridedSlice S1x1024 ![1, 0] g slices_S2x1024_S1x1024_1_0) shapeCasts_S1x1024_S1024)))

/-- All the projections of the normed rows. -/
def proj (x : FVec F S16384x1024 .f32) (g : FVec F S2x1024 .f32) (w : FVec F S1x1024x3088 .f32) : FVec F S16384x3088 .f32 :=
  Host.dotGeneral dot_S16384x1024_S1024x3088_S16384x3088_1_0_0_1_n_n none (norm x g) (shapeCast _ w shapeCasts_S1x1024x3088_S1024x3088)

/-- The gates before their cap, in 128 lanes. -/
def pre (y : FVec F S16384x3088 .f32) (b : FVec F S1x16 .f32) : FVec F S16384x128 .f32 :=
  pad S16384x128 ![0, 0] ![0, 112] ![0, 0] (addf (extractStridedSlice S16384x16 ![0, 3072] y slices_S16384x3088_S16384x16_0_3072)
    (broadcastInDim S16384x16 ![0, 1] bcast_S1x16_S16384x16_0_1 (broadcastInDim S1x16 ![1] bcast_S16_S1x16_1 (shapeCast _ b shapeCasts_S1x16_S16))))
    (sitofp .f32 (constantI S_ 32 0#32)) pads_S16384x16_S16384x128_000_01120 h_S_

/-- The soft cap. -/
def cap (z : FVec F S16384x128 .f32) : FVec F S16384x128 .f32 :=
  mulf (broadcastInDim S16384x128 ![] bcast_S_S16384x128 (constant S_ .f32 0x41700000#32)) (Host.tanh (Host.divf z
    (broadcastInDim S16384x128 ![] bcast_S_S16384x128 (constant S_ .f32 0x41700000#32))))

/-- The other lanes' log-sigmoid, as the reference spells it. -/
def logSigV (z : FVec F S16384x120 .f32) : FVec F S16384x120 .f32 :=
  Host.negf (select (cmpf .une (subf (Host.negf z) (broadcastInDim S16384x120 ![] bcast_S_S16384x120 (constant S_ .f32 0x00000000#32)))
      (subf (Host.negf z) (broadcastInDim S16384x120 ![] bcast_S_S16384x120 (constant S_ .f32 0x00000000#32))))
    (addf (Host.negf z) (broadcastInDim S16384x120 ![] bcast_S_S16384x120 (constant S_ .f32 0x00000000#32)))
    (addf (maximumf (Host.negf z) (broadcastInDim S16384x120 ![] bcast_S_S16384x120 (constant S_ .f32 0x00000000#32)))
      (Host.log1p (Host.exp (Host.negf (Host.absf (subf (Host.negf z) (broadcastInDim S16384x120 ![] bcast_S_S16384x120 (constant S_ .f32 0x00000000#32)))))))))

/-- The gates. -/
def gates (z : FVec F S16384x128 .f32) : FVec F S16384x128 .f32 :=
  Host.divf (concatenate S16384x128 1 [⟨S16384x8, (extractStridedSlice S16384x8 ![0, 0] z slices_S16384x128_S16384x8_0_0)⟩,
      ⟨S16384x120, logSigV (extractStridedSlice S16384x120 ![0, 8] z slices_S16384x128_S16384x120_0_8)⟩] concatenates_S16384x8_S16384x120_S16384x128_d1)
    (broadcastInDim S16384x128 ![] bcast_S_S16384x128 (Host.log (constant S_ .f32 0x40000000#32)))

variable (m : (ℓ : Loc nD τ sig) → Buf (Elt F) ℓ) (c : Dev nD)

theorem res_eq : Value.res_main_v48 m c
    = gates (cap (pre (proj (m ((c.tc : Thread nD τ).loc main_arg0)) (m ((c.tc : Thread nD τ).loc main_arg1)) (m ((c.tc : Thread nD τ).loc main_arg2)))
        (m ((c.tc : Thread nD τ).loc main_arg3)))) := by
  unfold Value.res_main_v48
  rfl

theorem norm_at (x : FVec Ideal S16384x1024 .f32) (g : FVec Ideal S2x1024 .f32) (r : Fin 16384) (q : Fin 1024) :
    norm x g (ix2 r q) = rowRms (fun k => x (ix2 r k)) (fun k => g (ix2 1 k)) q := by
  pointwise [norm]
  rfl

/-- The projections, entry by entry. -/
theorem proj_at (x : FVec Ideal S16384x1024 .f32) (g : FVec Ideal S2x1024 .f32) (w : FVec Ideal S1x1024x3088 .f32) (r : Fin 16384) (q : Fin 3088) :
    proj x g w (ix2 r q) = rowProj (fun k => x (ix2 r k)) (fun k => g (ix2 1 k)) (fun k => w (ix3 0 k q)) := by
  pointwise [proj]
  simp only [norm_at]
  rfl

theorem pre_at (y : FVec Ideal S16384x3088 .f32) (b : FVec Ideal S1x16 .f32) (r : Fin 16384) (q : Fin 128) :
    pre y b (ix2 r q) = if h : q.val < 16 then y (ix2 r ⟨3072 + q.val, by omega⟩) + b (ix2 0 ⟨q.val, h⟩) else 0 := by
  pointwise [pre]
  split
  · rfl
  · show (((0#32 : BitVec 32).toInt : ℝ) : EReal) = 0
    simp

theorem cap_at (z : FVec Ideal S16384x128 .f32) (r : Fin 16384) (q : Fin 128) : cap z (ix2 r q) = softCap (z (ix2 r q)) := by
  pointwise [cap]
  rw [fifteen, softCap_div]

theorem logSigV_at (z : FVec Ideal S16384x120 .f32) (r : Fin 16384) (q : Fin 120) (s : ℝ) (hs : z (ix2 r q) = (s : EReal)) :
    logSigV z (ix2 r q) = logSig (s : EReal) := by
  pointwise [logSigV]
  rw [hs, if_neg (fun h => h rfl)]
  have h := logSig_neg s
  rw [sub_zero] at h
  exact h

theorem gates_at (z : FVec Ideal S16384x128 .f32) (r : Fin 16384) (q : Fin 128) : gates (cap z) (ix2 r q) = gateOf q.val (z (ix2 r q)) := by
  obtain ⟨s, hs⟩ := softCap_real (z (ix2 r q))
  pointwise [gates]
  rw [two_log, div_log_two]
  unfold gateOf
  congr 1
  by_cases h : q.val < 8
  · rw [dif_pos h, if_pos h, cap_at]
  · rw [dif_neg h, if_neg h, hs]
    refine logSigV_at _ _ _ s ?_
    pointwise []
    have e : (⟨8 + (q.val - 8), by omega⟩ : Fin 128) = q := Fin.ext (by simp only; omega)
    rw [e, cap_at, hs]

/-- The five results' entries: the queries, the keys, the values, the output gate's input and the gates. -/
theorem qt_at (y : FVec Ideal S16384x3088 .f32) (b : Fin 2) (p : Fin 512) (s : Fin 8192) :
    truncf .bf16 (transpose S2x512x8192 [0, 2, 1] (shapeCast _ (extractStridedSlice S16384x512 ![0, 0] y slices_S16384x3088_S16384x512_0_0) shapeCasts_S16384x512_S2x8192x512) transposes_S2x8192x512_S2x512x8192_0_2_1) bitsLt_bf16_f32
      (ix3 b p s) = y (ix2 ⟨b.val * 8192 + s.val, by omega⟩ ⟨p.val, by omega⟩) := by
  pointwise []

theorem k_at (y : FVec Ideal S16384x3088 .f32) (r : Fin 16384) (q : Fin 512) :
    truncf .bf16 (mulf (extractStridedSlice S16384x512 ![0, 512] y slices_S16384x3088_S16384x512_0_512) (broadcastInDim S16384x512 ![] bcast_S_S16384x512 (constant S_ .f32 0x3E000000#32))) bitsLt_bf16_f32
      (ix2 r q) = y (ix2 r ⟨512 + q.val, by omega⟩) * Ideal.ofBits FTy.f32 0x3E000000#32 := by
  pointwise []

theorem vt_at (y : FVec Ideal S16384x3088 .f32) (b : Fin 2) (p : Fin 1024) (s : Fin 8192) :
    truncf .bf16 (transpose S2x1024x8192 [0, 2, 1] (shapeCast _ (extractStridedSlice S16384x1024 ![0, 1024] y slices_S16384x3088_S16384x1024_0_1024) shapeCasts_S16384x1024_S2x8192x1024) transposes_S2x8192x1024_S2x1024x8192_0_2_1) bitsLt_bf16_f32
      (ix3 b p s) = y (ix2 ⟨b.val * 8192 + s.val, by omega⟩ ⟨1024 + p.val, by omega⟩) := by
  pointwise []

theorem op_at (y : FVec Ideal S16384x3088 .f32) (r : Fin 16384) (q : Fin 1024) :
    truncf .bf16 (extractStridedSlice S16384x1024 ![0, 2048] y slices_S16384x3088_S16384x1024_0_2048) bitsLt_bf16_f32
      (ix2 r q) = y (ix2 r ⟨2048 + q.val, by omega⟩) := by
  pointwise []

end Cert.InRef

end
-- ==== Proof.QkvTile.lean ====
module

public import proofs.«01_k».proof.Proof.Gen.Kernel4Ideal.Value
public import Idealize.ShloMosaic.Lib.VecWindow
public import Idealize.ShloMosaic.Lib.WholeRead
public import Idealize.ShloMosaic.Lib.Pipeline.ReadBack
public import Idealize.ShloMosaic.Lib.Pipeline.ValueKit

/-! The blocks of the query, key and value projection: whole-buffer reads, and the tiles of the key means and of the transposed values. -/

@[expose] public section

set_option maxRecDepth 16384
set_option maxHeartbeats 2000000

noncomputable section

namespace Cert.Qkv

open Idealize.ShloMosaic Idealize.ShloMosaic.TcCoe Idealize.ShloMosaic.Tactic Idealize.SL.Sem
open Cert.Kernel4Ideal Cert.Kernel4Ideal.Gen

theorem z2 : (![0, 0] : Fin 2 → ℕ) = fun _ => 0 := by decide
theorem ld_x {e : EltTy} (x : Vec Ideal S1024x1024 e) (h) : View.ld x (Rect.unit (s := S1024x1024) ![0, 0] ![1024, 1024] h) = x := View.ld_unit_zero (S := S1024x1024) z2 h x
theorem ld_g {e : EltTy} (x : Vec Ideal S1x1024 e) (h) : View.ld x (Rect.unit (s := S1x1024) ![0, 0] ![1, 1024] h) = x := View.ld_unit_zero (S := S1x1024) z2 h x
theorem cov_w (v : View sig .tc .vmem S1024x1024 .bf16) (h h') (x : Vec Ideal S1024x1024 .bf16) :
    v.readCov [(⟨Rect.unit (s := S1024x1024) ![0, 0] ![1024, 1024] h, x⟩ : View.Piece (Elt Ideal) S1024x1024 .bf16)] (Rect.unit (s := S1024x1024) ![0, 0] ![1024, 1024] h').toLoadRect = x := by
  rw [View.readCov_fill (s := S1024x1024) v h x [] _ (by decide)]; exact ld_x x h'

/-- The columns of the weight for the queries, the keys and the values. -/
def colQ (w : Vec Ideal S1024x3072 .f32) : Vec Ideal S1024x1024 .f32 := View.ld w (Rect.unit ![0, 0] ![1024, 1024] inb_S1024x3072_S1024x1024_0_0)
@[inherit_doc colQ] def colK (w : Vec Ideal S1024x3072 .f32) : Vec Ideal S1024x1024 .f32 := View.ld w (Rect.unit ![0, 1024] ![1024, 1024] inb_S1024x3072_S1024x1024_0_1024)
@[inherit_doc colQ] def colV (w : Vec Ideal S1024x3072 .f32) : Vec Ideal S1024x1024 .f32 := View.ld w (Rect.unit ![0, 2048] ![1024, 1024] inb_S1024x3072_S1024x1024_0_2048)

/-- A block's four key means: the mean of each 256 rows. -/
def kmOf (k : S1024x1024.Idx → EReal) : S4x1x1024.Idx → EReal := fun y =>
  Ideal.div (∑ s : Fin 256, k (ix2 ⟨256 * (y 0).val + s.val, by have h : (y 0).val < 4 := (y 0).isLt; omega⟩ (y 2 : Fin 1024))) (Ideal.ofBits FTy.f32 0x43800000#32)

/-- A block's transposed values: each head's rows for each quarter of the columns, then the row of ones and the rows of zeros. -/
def vtOf (v : S1024x1024.Idx → EReal) : S1x8x4x144x256.Idx → EReal := fun y =>
  if h : (y 3).val < 128 then v (ix2 ⟨128 * (y 1).val + (y 3).val, by have h1 : (y 1).val < 8 := (y 1).isLt; omega⟩ ⟨256 * (y 2).val + (y 4).val, by have h2 : (y 2).val < 4 := (y 2).isLt; have h4 : (y 4).val < 256 := (y 4).isLt; omega⟩)
  else if (y 3).val = 128 then 1 else 0

theorem val_piece (v : FVec Ideal S1024x1024 .f32) (a b : ℕ) (hs : S1024x1024.Slices ![a, b] S128x256) (hb) (hc) (x : S1x1x1x128x256.Idx) (y : S1x8x4x144x256.Idx)
    (e1 : 128 * (y 1).val = a) (e2 : 256 * (y 2).val = b) (e3 : (y 3).val = (x 3).val) (e4 : (y 4).val = (x 4).val) (l3 : (x 3).val < 128) :
    shapeCast S1x1x1x128x256 (truncf .bf16 (extractStridedSlice S128x256 ![a, b] v hs) hb : FVec Ideal S128x256 .bf16) hc x = vtOf v y := by
  obtain ⟨i, j, k, p, q, rfl⟩ : ∃ (i j k : Fin 1) (p : Fin 128) (q : Fin 256), x = ix5 i j k p q := ⟨x 0, x 1, x 2, x 3, x 4, eq_ix5 x⟩
  subst e1 e2
  unfold vtOf
  rw [dif_pos (by omega)]
  pointwise []
  have h3 : (y 3).val = p.val := e3
  have h4 : (y 4).val = q.val := e4
  exact congrArg v (congrArg₂ ix2 (Fin.ext (by show 128 * (y 1).val + p.val = 128 * (y 1).val + (y 3).val; omega)) (Fin.ext (by show 256 * (y 2).val + q.val = 256 * (y 2).val + (y 4).val; omega)))

theorem ones_piece (hc) (x : S1x1x1x16x256.Idx) (v : S1024x1024.Idx → EReal) (y : S1x8x4x144x256.Idx) (e3 : (y 3).val = 128 + (x 3).val) :
    shapeCast S1x1x1x16x256 (k0_pay21 (F := Ideal) k0_pay20) hc x = vtOf v y := by
  obtain ⟨i, j, k, p, q, rfl⟩ : ∃ (i j k : Fin 1) (p : Fin 16) (q : Fin 256), x = ix5 i j k p q := ⟨x 0, x 1, x 2, x 3, x 4, eq_ix5 x⟩
  unfold vtOf
  rw [dif_neg (by omega)]
  pointwise [k0_pay20, k0_pay21]
  have h3 : (y 3).val = 128 + p.val := e3
  rw [h3]
  have h : ∀ p : Fin 16, (BitVec.setWidth 32 (IntOp.cmpi CmpIPredicate.eq (BitVec.ofNat 32 p.val) 0#32)).toInt = if 128 + p.val = 128 then 1 else 0 := by decide
  show (((BitVec.setWidth 32 (IntOp.cmpi CmpIPredicate.eq (BitVec.ofNat 32 p.val) 0#32)).toInt : ℝ) : EReal) = _
  rw [h p]
  split <;> simp

theorem km_piece0 (x : FVec Ideal S1024x1024 .f32) (g : FVec Ideal S1x1024 .f32) (w : FVec Ideal S1024x1024 .bf16) (i : Fin 1) (j : Fin 1) (q : Fin 1024) : k0_pay15 (F := Ideal) (k0_pay13 x g w) k0_pay14 (ix3 i j q) = Ideal.div (∑ s : Fin 256, k0_pay11 (F := Ideal) x g w (ix2 ⟨s.val, by omega⟩ q)) (Ideal.ofBits FTy.f32 0x43800000#32) := by
  pointwise [k0_pay15, k0_pay13, k0_pay14]

theorem km_at (k : S1024x1024.Idx → EReal) (o : ℕ) (ho : o + 256 ≤ 1024) (q : Fin 1024) (y : S4x1x1024.Idx) (e0 : 256 * (y 0).val = o) (e2 : (y 2).val = q.val) :
    Ideal.div (∑ s : Fin 256, k (ix2 ⟨o + s.val, by omega⟩ q)) (Ideal.ofBits FTy.f32 0x43800000#32) = kmOf k y := by
  subst e0
  have h : (y 2 : Fin 1024) = q := Fin.ext e2
  unfold kmOf
  rw [h]

theorem km_tile0 (x : FVec Ideal S1024x1024 .f32) (g : FVec Ideal S1x1024 .f32) (w : FVec Ideal S1024x1024 .bf16) (z : S1x1x1024.Idx) (y : S4x1x1024.Idx) (e0 : (y 0).val = 0) (e2 : (y 2).val = (z 2).val) :
    k0_pay15 (F := Ideal) (k0_pay13 x g w) k0_pay14 z = kmOf (k0_pay11 (F := Ideal) x g w) y := by
  obtain ⟨i, j, q, rfl⟩ : ∃ (i j : Fin 1) (q : Fin 1024), z = ix3 i j q := ⟨z 0, z 1, z 2, eq_ix3 z⟩
  rw [km_piece0, ← km_at _ 0 (by norm_num) q y (by omega) e2]
  simp only [Nat.zero_add]
theorem km_piece1 (k : FVec Ideal S1024x1024 .f32) (i : Fin 1) (j : Fin 1) (q : Fin 1024) : k0_pay16 (F := Ideal) k (ix3 i j q) = Ideal.div (∑ s : Fin 256, k (ix2 ⟨256 + s.val, by omega⟩ q)) (Ideal.ofBits FTy.f32 0x43800000#32) := by
  pointwise [k0_pay16]
theorem km_tile1 (k : FVec Ideal S1024x1024 .f32) (z : S1x1x1024.Idx) (y : S4x1x1024.Idx) (e0 : (y 0).val = 1) (e2 : (y 2).val = (z 2).val) : k0_pay16 (F := Ideal) k z = kmOf k y := by
  obtain ⟨i, j, q, rfl⟩ : ∃ (i j : Fin 1) (q : Fin 1024), z = ix3 i j q := ⟨z 0, z 1, z 2, eq_ix3 z⟩
  rw [km_piece1, ← km_at _ 256 (by norm_num) q y (by omega) e2]
theorem km_piece2 (k : FVec Ideal S1024x1024 .f32) (i : Fin 1) (j : Fin 1) (q : Fin 1024) : k0_pay17 (F := Ideal) k (ix3 i j q) = Ideal.div (∑ s : Fin 256, k (ix2 ⟨512 + s.val, by omega⟩ q)) (Ideal.ofBits FTy.f32 0x43800000#32) := by
  pointwise [k0_pay17]
theorem km_tile2 (k : FVec Ideal S1024x1024 .f32) (z : S1x1x1024.Idx) (y : S4x1x1024.Idx) (e0 : (y 0).val = 2) (e2 : (y 2).val = (z 2).val) : k0_pay17 (F := Ideal) k z = kmOf k y := by
  obtain ⟨i, j, q, rfl⟩ : ∃ (i j : Fin 1) (q : Fin 1024), z = ix3 i j q := ⟨z 0, z 1, z 2, eq_ix3 z⟩
  rw [km_piece2, ← km_at _ 512 (by norm_num) q y (by omega) e2]
theorem km_piece3 (k : FVec Ideal S1024x1024 .f32) (i : Fin 1) (j : Fin 1) (q : Fin 1024) : k0_pay18 (F := Ideal) k (ix3 i j q) = Ideal.div (∑ s : Fin 256, k (ix2 ⟨768 + s.val, by omega⟩ q)) (Ideal.ofBits FTy.f32 0x43800000#32) := by
  pointwise [k0_pay18]
theorem km_tile3 (k : FVec Ideal S1024x1024 .f32) (z : S1x1x1024.Idx) (y : S4x1x1024.Idx) (e0 : (y 0).val = 3) (e2 : (y 2).val = (z 2).val) : k0_pay18 (F := Ideal) k z = kmOf k y := by
  obtain ⟨i, j, q, rfl⟩ : ∃ (i j : Fin 1) (q : Fin 1024), z = ix3 i j q := ⟨z 0, z 1, z 2, eq_ix3 z⟩
  rw [km_piece3, ← km_at _ 768 (by norm_num) q y (by omega) e2]

end Cert.Qkv

end
-- ==== Proof.QkvRun.lean ====
module

public import proofs.«01_k».proof.Proof.QkvTile

/-! What each grid point of the query, key and value projection leaves in its results and in the three kept weights. -/

@[expose] public section

set_option maxRecDepth 16384
set_option maxHeartbeats 2000000

noncomputable section

namespace Cert.Qkv

open Idealize.ShloMosaic Idealize.ShloMosaic.TcCoe Idealize.ShloMosaic.Tactic Idealize.SL.Sem
open Cert.Kernel4Ideal Cert.Kernel4Ideal.Gen

/-- At a first point: the queries' block. -/
theorem outA_3 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec Ideal S1024x1024 .f32) (x1 : Vec Ideal S1x1024 .f32) (x2 : Vec Ideal S1024x3072 .f32) :
    out0_A_3 c i arg1 harg1 arg2 harg2 arg3 harg3 arg4 harg4 arg5 harg5 arg6 harg6 arg7 harg7 arg8 harg8 arg9 harg9 arg10 harg10 hc0 x0 x1 x2 = k0_pay10 x0 x1 (k0_pay6 (colQ x2)) := by
  unfold out0_A_3 kernelRun0_A
  dsimp only
  sl_unfold_words
  simp only [View.read_writes_junk_eq_canon, View.readAt_eq_ld, harg1.read_unread, harg2.read_unread, harg3.read_unread, harg8.read_unread, harg9.read_unread, harg10.read_unread]
  refine (View.canon_cons_unit_zero z2 _ _ _).trans ?_
  (try simp only [cov_w])
  (try simp only [ld_x, ld_g])
  try rfl

/-- At a first point: the keys' block. -/
theorem outA_4 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec Ideal S1024x1024 .f32) (x1 : Vec Ideal S1x1024 .f32) (x2 : Vec Ideal S1024x3072 .f32) :
    out0_A_4 c i arg1 harg1 arg2 harg2 arg3 harg3 arg4 harg4 arg5 harg5 arg6 harg6 arg7 harg7 arg8 harg8 arg9 harg9 arg10 harg10 hc0 x0 x1 x2 = k0_pay12 x0 x1 (k0_pay7 (colK x2)) := by
  unfold out0_A_4 kernelRun0_A
  dsimp only
  sl_unfold_words
  simp only [View.read_writes_junk_eq_canon, View.readAt_eq_ld, harg1.read_unread, harg2.read_unread, harg3.read_unread, harg8.read_unread, harg9.read_unread, harg10.read_unread]
  refine (View.canon_cons_unit_zero z2 _ _ _).trans ?_
  (try simp only [cov_w])
  (try simp only [ld_x, ld_g])
  try rfl

/-- At a first point: the key means' block. -/
theorem outA_5 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec Ideal S1024x1024 .f32) (x1 : Vec Ideal S1x1024 .f32) (x2 : Vec Ideal S1024x3072 .f32) :
    out0_A_5 c i arg1 harg1 arg2 harg2 arg3 harg3 arg4 harg4 arg5 harg5 arg6 harg6 arg7 harg7 arg8 harg8 arg9 harg9 arg10 harg10 hc0 x0 x1 x2 = kmOf (k0_pay11 x0 x1 (k0_pay7 (colK x2))) := by
  funext y
  have hc := cover0_A_5 c i arg1 harg1 arg2 harg2 arg3 harg3 arg4 harg4 arg5 harg5 arg6 harg6 arg7 harg7 arg8 harg8 arg9 harg9 arg10 harg10 hc0 x0 x1 x2 y
  revert hc
  unfold out0_A_5 kernelRun0_A
  dsimp only
  sl_unfold_words
  simp only [View.read_writes_junk_eq_canon, View.readAt_eq_ld, harg1.read_unread, harg2.read_unread, harg3.read_unread, harg8.read_unread, harg9.read_unread, harg10.read_unread]
  (try simp only [cov_w])
  (try simp only [ld_x, ld_g])
  intro hc
  canon_tiles x h using hc
  case piece0 => exact km_tile3 _ _ _ (by omega) (by omega)
  case piece1 => exact km_tile2 _ _ _ (by omega) (by omega)
  case piece2 => exact km_tile1 _ _ _ (by omega) (by omega)
  case piece3 => exact km_tile0 _ _ _ _ _ (by omega) (by omega)

/-- At a first point: the transposed values' block. -/
theorem outA_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec Ideal S1024x1024 .f32) (x1 : Vec Ideal S1x1024 .f32) (x2 : Vec Ideal S1024x3072 .f32) :
    out0_A_6 c i arg1 harg1 arg2 harg2 arg3 harg3 arg4 harg4 arg5 harg5 arg6 harg6 arg7 harg7 arg8 harg8 arg9 harg9 arg10 harg10 hc0 x0 x1 x2 = vtOf (k0_pay19 (k0_pay9 x0 x1) (k0_pay8 (colV x2))) := by
  funext y
  have hc := cover0_A_6 c i arg1 harg1 arg2 harg2 arg3 harg3 arg4 harg4 arg5 harg5 arg6 harg6 arg7 harg7 arg8 harg8 arg9 harg9 arg10 harg10 hc0 x0 x1 x2 y
  revert hc
  unfold out0_A_6 kernelRun0_A
  dsimp only
  sl_unfold_words
  simp only [View.read_writes_junk_eq_canon, View.readAt_eq_ld, harg1.read_unread, harg2.read_unread, harg3.read_unread, harg8.read_unread, harg9.read_unread, harg10.read_unread]
  (try simp only [cov_w])
  (try simp only [ld_x, ld_g])
  intro hc
  canon_tiles x h using hc
  all_goals first
    | exact val_piece _ _ _ _ _ _ _ _ (by omega) (by omega) (by omega) (by omega) (by omega)
    | exact ones_piece _ _ _ _ (by omega)

/-- The kept weight of the queries. -/
theorem keepQ (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec Ideal S1024x1024 .f32) (x1 : Vec Ideal S1x1024 .f32) (x2 : Vec Ideal S1024x3072 .f32) :
    sout0_A_0 c i arg1 harg1 arg2 harg2 arg3 harg3 arg4 harg4 arg5 harg5 arg6 harg6 arg7 harg7 arg8 harg8 arg9 harg9 arg10 harg10 hc0 x0 x1 x2 = k0_pay6 (colQ x2) := by
  unfold sout0_A_0 kernelRun0_A
  dsimp only
  sl_unfold_words
  simp only [View.read_writes_junk_eq_canon, View.readAt_eq_ld, harg1.read_unread, harg2.read_unread, harg3.read_unread, harg8.read_unread, harg9.read_unread, harg10.read_unread]
  refine (View.canon_cons_unit_zero z2 _ _ _).trans ?_
  (try simp only [cov_w])
  (try simp only [ld_x, ld_g])
  try rfl

/-- The kept weight of the keys. -/
theorem keepK (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec Ideal S1024x1024 .f32) (x1 : Vec Ideal S1x1024 .f32) (x2 : Vec Ideal S1024x3072 .f32) :
    sout0_A_1 c i arg1 harg1 arg2 harg2 arg3 harg3 arg4 harg4 arg5 harg5 arg6 harg6 arg7 harg7 arg8 harg8 arg9 harg9 arg10 harg10 hc0 x0 x1 x2 = k0_pay7 (colK x2) := by
  unfold sout0_A_1 kernelRun0_A
  dsimp only
  sl_unfold_words
  simp only [View.read_writes_junk_eq_canon, View.readAt_eq_ld, harg1.read_unread, harg2.read_unread, harg3.read_unread, harg8.read_unread, harg9.read_unread, harg10.read_unread]
  refine (View.canon_cons_unit_zero z2 _ _ _).trans ?_
  (try simp only [cov_w])
  (try simp only [ld_x, ld_g])
  try rfl

/-- The kept transpose of the values' weight. -/
theorem keepV (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec Ideal S1024x1024 .f32) (x1 : Vec Ideal S1x1024 .f32) (x2 : Vec Ideal S1024x3072 .f32) :
    sout0_A_2 c i arg1 harg1 arg2 harg2 arg3 harg3 arg4 harg4 arg5 harg5 arg6 harg6 arg7 harg7 arg8 harg8 arg9 harg9 arg10 harg10 hc0 x0 x1 x2 = k0_pay8 (colV x2) := by
  unfold sout0_A_2 kernelRun0_A
  dsimp only
  sl_unfold_words
  simp only [View.read_writes_junk_eq_canon, View.readAt_eq_ld, harg1.read_unread, harg2.read_unread, harg3.read_unread, harg8.read_unread, harg9.read_unread, harg10.read_unread]
  refine (View.canon_cons_unit_zero z2 _ _ _).trans ?_
  (try simp only [cov_w])
  (try simp only [ld_x, ld_g])
  try rfl

/-- At a later point: the queries' block. -/
theorem outB_3 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : ¬cond0_0 i)
    (x0 : Vec Ideal S1024x1024 .f32) (x1 : Vec Ideal S1x1024 .f32) (x2 : Vec Ideal S1024x3072 .f32) (xs0 : Vec Ideal S1024x1024 .bf16) (xs1 : Vec Ideal S1024x1024 .bf16) (xs2 : Vec Ideal S1024x1024 .bf16) :
    out0_B_3 c i arg1 harg1 arg2 harg2 arg3 harg3 arg4 harg4 arg5 harg5 arg6 harg6 arg7 harg7 arg8 harg8 arg9 harg9 arg10 harg10 hc0 x0 x1 x2 xs0 xs1 xs2 = k0_pay10 x0 x1 xs0 := by
  unfold out0_B_3 kernelRun0_B
  dsimp only
  sl_unfold_words
  simp only [View.read_writes_junk_eq_canon, View.readAt_eq_ld, harg1.read_unread, harg2.read_unread, harg3.read_unread, harg8.read_unread, harg9.read_unread, harg10.read_unread]
  refine (View.canon_cons_unit_zero z2 _ _ _).trans ?_
  (try simp only [cov_w])
  (try simp only [ld_x, ld_g])
  try rfl

/-- At a later point: the keys' block. -/
theorem outB_4 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : ¬cond0_0 i)
    (x0 : Vec Ideal S1024x1024 .f32) (x1 : Vec Ideal S1x1024 .f32) (x2 : Vec Ideal S1024x3072 .f32) (xs0 : Vec Ideal S1024x1024 .bf16) (xs1 : Vec Ideal S1024x1024 .bf16) (xs2 : Vec Ideal S1024x1024 .bf16) :
    out0_B_4 c i arg1 harg1 arg2 harg2 arg3 harg3 arg4 harg4 arg5 harg5 arg6 harg6 arg7 harg7 arg8 harg8 arg9 harg9 arg10 harg10 hc0 x0 x1 x2 xs0 xs1 xs2 = k0_pay12 x0 x1 xs1 := by
  unfold out0_B_4 kernelRun0_B
  dsimp only
  sl_unfold_words
  simp only [View.read_writes_junk_eq_canon, View.readAt_eq_ld, harg1.read_unread, harg2.read_unread, harg3.read_unread, harg8.read_unread, harg9.read_unread, harg10.read_unread]
  refine (View.canon_cons_unit_zero z2 _ _ _).trans ?_
  (try simp only [cov_w])
  (try simp only [ld_x, ld_g])
  try rfl

/-- At a later point: the key means' block. -/
theorem outB_5 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : ¬cond0_0 i)
    (x0 : Vec Ideal S1024x1024 .f32) (x1 : Vec Ideal S1x1024 .f32) (x2 : Vec Ideal S1024x3072 .f32) (xs0 : Vec Ideal S1024x1024 .bf16) (xs1 : Vec Ideal S1024x1024 .bf16) (xs2 : Vec Ideal S1024x1024 .bf16) :
    out0_B_5 c i arg1 harg1 arg2 harg2 arg3 harg3 arg4 harg4 arg5 harg5 arg6 harg6 arg7 harg7 arg8 harg8 arg9 harg9 arg10 harg10 hc0 x0 x1 x2 xs0 xs1 xs2 = kmOf (k0_pay11 x0 x1 xs1) := by
  funext y
  have hc := cover0_B_5 c i arg1 harg1 arg2 harg2 arg3 harg3 arg4 harg4 arg5 harg5 arg6 harg6 arg7 harg7 arg8 harg8 arg9 harg9 arg10 harg10 hc0 x0 x1 x2 xs0 xs1 xs2 y
  revert hc
  unfold out0_B_5 kernelRun0_B
  dsimp only
  sl_unfold_words
  simp only [View.read_writes_junk_eq_canon, View.readAt_eq_ld, harg1.read_unread, harg2.read_unread, harg3.read_unread, harg8.read_unread, harg9.read_unread, harg10.read_unread]
  (try simp only [cov_w])
  (try simp only [ld_x, ld_g])
  intro hc
  canon_tiles x h using hc
  case piece0 => exact km_tile3 _ _ _ (by omega) (by omega)
  case piece1 => exact km_tile2 _ _ _ (by omega) (by omega)
  case piece2 => exact km_tile1 _ _ _ (by omega) (by omega)
  case piece3 => exact km_tile0 _ _ _ _ _ (by omega) (by omega)

/-- At a later point: the transposed values' block. -/
theorem outB_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S4x1x1024 .f32) (harg6 : arg6.IsWhole) (arg7 : Memref sig .tc .vmem S1x8x4x144x256 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (hc0 : ¬cond0_0 i)
    (x0 : Vec Ideal S1024x1024 .f32) (x1 : Vec Ideal S1x1024 .f32) (x2 : Vec Ideal S1024x3072 .f32) (xs0 : Vec Ideal S1024x1024 .bf16) (xs1 : Vec Ideal S1024x1024 .bf16) (xs2 : Vec Ideal S1024x1024 .bf16) :
    out0_B_6 c i arg1 harg1 arg2 harg2 arg3 harg3 arg4 harg4 arg5 harg5 arg6 harg6 arg7 harg7 arg8 harg8 arg9 harg9 arg10 harg10 hc0 x0 x1 x2 xs0 xs1 xs2 = vtOf (k0_pay19 (k0_pay9 x0 x1) xs2) := by
  funext y
  have hc := cover0_B_6 c i arg1 harg1 arg2 harg2 arg3 harg3 arg4 harg4 arg5 harg5 arg6 harg6 arg7 harg7 arg8 harg8 arg9 harg9 arg10 harg10 hc0 x0 x1 x2 xs0 xs1 xs2 y
  revert hc
  unfold out0_B_6 kernelRun0_B
  dsimp only
  sl_unfold_words
  simp only [View.read_writes_junk_eq_canon, View.readAt_eq_ld, harg1.read_unread, harg2.read_unread, harg3.read_unread, harg8.read_unread, harg9.read_unread, harg10.read_unread]
  (try simp only [cov_w])
  (try simp only [ld_x, ld_g])
  intro hc
  canon_tiles x h using hc
  all_goals first
    | exact val_piece _ _ _ _ _ _ _ _ (by omega) (by omega) (by omega) (by omega) (by omega)
    | exact ones_piece _ _ _ _ (by omega)

variable (m : (ℓ : Loc nD τ sig) → Buf (Elt Ideal) ℓ) (c : Dev nD)

/-- What a point leaves over the three kept weights: the four blocks, and those weights. -/
def ptOut (t : Fin cfg0.N) (wq wk wv : Vec Ideal S1024x1024 .bf16) :
    Vec Ideal S1024x1024 .bf16 × Vec Ideal S1024x1024 .bf16 × Vec Ideal S4x1x1024 .f32 × Vec Ideal S1x8x4x144x256 .bf16 × Vec Ideal S1024x1024 .bf16 × Vec Ideal S1024x1024 .bf16 × Vec Ideal S1024x1024 .bf16 :=
  (k0_pay10 (iblk m c 0 t) (iblk m c 1 t) wq, k0_pay12 (iblk m c 0 t) (iblk m c 1 t) wk, kmOf (k0_pay11 (iblk m c 0 t) (iblk m c 1 t) wk),
    vtOf (k0_pay19 (k0_pay9 (iblk m c 0 t) (iblk m c 1 t)) wv), wq, wk, wv)

theorem ptA (t : Fin cfg0.N) (h0 : t.val % 16 = 0) : outsAt0 m c t.val t.isLt = ptOut m c t (k0_pay6 (colQ (iblk m c 2 t))) (k0_pay7 (colK (iblk m c 2 t))) (k0_pay8 (colV (iblk m c 2 t))) := by
  rw [outsAt0_A m c t h0]
  simp only [outA_3, outA_4, outA_5, outA_6, keepQ, keepK, keepV]
  rfl

theorem ptB (t : Fin cfg0.N) (h0 : ¬ t.val % 16 = 0) (a : Vec Ideal S1024x1024 .bf16 × Vec Ideal S1024x1024 .bf16 × Vec Ideal S4x1x1024 .f32 × Vec Ideal S1x8x4x144x256 .bf16 × Vec Ideal S1024x1024 .bf16 × Vec Ideal S1024x1024 .bf16 × Vec Ideal S1024x1024 .bf16)
    (ha : outsAt0 m c (t.val - 1) (Nat.lt_of_le_of_lt (Nat.sub_le _ _) t.isLt) = a) : outsAt0 m c t.val t.isLt = ptOut m c t a.2.2.2.2.1 a.2.2.2.2.2.1 a.2.2.2.2.2.2 := by
  rw [outsAt0_B m c t h0, ha]
  simp only [outB_3, outB_4, outB_5, outB_6]
  rfl

end Cert.Qkv

end
-- ==== Proof.QkvData.lean ====
module

public import proofs.«01_k».proof.Proof.QkvRun
public import proofs.«01_k».proof.Proof.InGate

/-! The query, key and value projection's vector expressions read entry by entry, and its fetched blocks in the launched arrays' entries. -/

@[expose] public section

set_option maxRecDepth 16384

noncomputable section

namespace Cert.Qkv

open Idealize.ShloMosaic Idealize.ShloMosaic.TcCoe Idealize.ShloMosaic.Tactic Idealize.SL.Sem
open Cert.Kernel4Ideal Cert.Kernel4Ideal.Gen Cert.Mlp

theorem keptQ_at (w : Vec Ideal S1024x1024 .f32) (p q : Fin 1024) : k0_pay6 w (ix2 p q) = w (ix2 p q) := by
  pointwise [k0_pay6]

theorem keptK_at (w : Vec Ideal S1024x1024 .f32) (p q : Fin 1024) : k0_pay7 w (ix2 p q) = w (ix2 p q) := by
  pointwise [k0_pay7]

theorem keptV_at (w : Vec Ideal S1024x1024 .f32) (p q : Fin 1024) : k0_pay8 w (ix2 p q) = w (ix2 q p) := by
  pointwise [k0_pay8]

theorem norm_at (x : Vec Ideal S1024x1024 .f32) (g : Vec Ideal S1x1024 .f32) (p q : Fin 1024) :
    k0_pay9 x g (ix2 p q) = rowRms (fun k => x (ix2 p k)) (fun k => g (ix2 0 k)) q := by
  pointwise [k0_pay9]
  rfl

/-- The queries' scale: the inverse root of a head's width, over the logarithm of two. -/
def scale : EReal := (((√128)⁻¹ * (Real.log 2)⁻¹ : ℝ) : EReal)

theorem scale_named : Named.named (F := Ideal) Cert.Kernel4Ideal.κ "q_scale" (φ := .f32) 0x3E0293EE#32 = scale :=
  IdealRules.named_const.ideal_named_scalar _ _ _ _ rfl

theorem q_at (x : Vec Ideal S1024x1024 .f32) (g : Vec Ideal S1x1024 .f32) (w : Vec Ideal S1024x1024 .bf16) (p q : Fin 1024) :
    k0_pay10 x g w (ix2 p q) = (∑ k : Fin 1024, k0_pay9 x g (ix2 p k) * w (ix2 k q)) * scale := by
  pointwise [k0_pay10]
  rw [scale_named]

theorem k_at (x : Vec Ideal S1024x1024 .f32) (g : Vec Ideal S1x1024 .f32) (w : Vec Ideal S1024x1024 .bf16) (p q : Fin 1024) :
    k0_pay11 x g w (ix2 p q) = ∑ k : Fin 1024, k0_pay9 x g (ix2 p k) * w (ix2 k q) := by
  pointwise [k0_pay11]

theorem kb_at (x : Vec Ideal S1024x1024 .f32) (g : Vec Ideal S1x1024 .f32) (w : Vec Ideal S1024x1024 .bf16) (p q : Fin 1024) :
    k0_pay12 x g w (ix2 p q) = k0_pay11 x g w (ix2 p q) := by
  pointwise [k0_pay12]

theorem vt_at (xn : Vec Ideal S1024x1024 .bf16) (w : Vec Ideal S1024x1024 .bf16) (p q : Fin 1024) :
    k0_pay19 xn w (ix2 p q) = ∑ k : Fin 1024, w (ix2 p k) * xn (ix2 q k) := by
  pointwise [k0_pay19]

theorem colQ_at (w : Vec Ideal S1024x3072 .f32) (p q : Fin 1024) : colQ w (ix2 p q) = w (ix2 p ⟨q.val, by omega⟩) := by
  refine congrArg w (funext fun d => ?_)
  fin_cases d
  · exact Fin.ext (show 0 + 1 * p.val = p.val by omega)
  · exact Fin.ext (show 0 + 1 * q.val = q.val by omega)
theorem colK_at (w : Vec Ideal S1024x3072 .f32) (p q : Fin 1024) : colK w (ix2 p q) = w (ix2 p ⟨1024 + q.val, by omega⟩) := by
  refine congrArg w (funext fun d => ?_)
  fin_cases d
  · exact Fin.ext (show 0 + 1 * p.val = p.val by omega)
  · exact Fin.ext (show 1024 + 1 * q.val = 1024 + q.val by omega)
theorem colV_at (w : Vec Ideal S1024x3072 .f32) (p q : Fin 1024) : colV w (ix2 p q) = w (ix2 p ⟨2048 + q.val, by omega⟩) := by
  refine congrArg w (funext fun d => ?_)
  fin_cases d
  · exact Fin.ext (show 0 + 1 * p.val = p.val by omega)
  · exact Fin.ext (show 2048 + 1 * q.val = 2048 + q.val by omega)

variable (m : (ℓ : Loc nD τ sig) → Buf (Elt Ideal) ℓ) (c : Dev nD)

/-- The stream as launched. -/
abbrev argX : S2x8192x1024.Idx → EReal := m ((c : Thread nD τ).loc main_arg0)
/-- The gains. -/
abbrev argG : S2x1024.Idx → EReal := m ((c : Thread nD τ).loc main_arg1)
/-- The weight. -/
abbrev argW : S1x1024x3072.Idx → EReal := m ((c : Thread nD τ).loc main_arg2)

/-- The blocks of each window over the grid. -/
theorem idx : ∀ t : Fin cfg0.N, win0_0.index t = ![t.val, 0] ∧ win0_1.index t = ![0, 0] ∧ win0_2.index t = ![0, 0] :=
  (by decide +kernel : ∀ t : Fin grid0.N, _)

theorem N16 : cfg0.N = 16 := N_0

/-- The stream's row at a point's local row, both sequences laid end to end. -/
abbrev rowAt (t : Fin cfg0.N) (p : Fin 1024) : Fin 16384 := ⟨1024 * t.val + p.val, by have := lt_of_lt_of_eq t.isLt N16; omega⟩

/-- That row of the launched stream. -/
abbrev rowX (r : Fin 16384) (k : Fin 1024) : EReal := argX m c (ix3 ⟨r.val / 8192, by omega⟩ ⟨r.val % 8192, by omega⟩ k)

theorem blk_x (t : Fin cfg0.N) (p k : Fin 1024) : iblk m c 0 t (ix2 p k) = rowX m c (rowAt t p) k := by
  have e : (win0_0.blk t).view.emb (ix2 p k) = (ix2 (rowAt t p) k : S16384x1024.Idx) := by blk_ext [idx t]
  show Gen.V m c main_v3 ((win0_0.blk t).view.emb (ix2 p k)) = _
  rw [e]
  entry_read
  pointwise []

theorem blk_g (t : Fin cfg0.N) (k : Fin 1024) : iblk m c 1 t (ix2 0 k) = argG m c (ix2 0 k) := by
  have e : (win0_1.blk t).view.emb (ix2 0 k) = (ix2 0 k : S1x1024.Idx) := by blk_ext [idx t]
  show Gen.V m c main_v4 ((win0_1.blk t).view.emb (ix2 0 k)) = _
  rw [e]
  entry_read
  pointwise []

theorem blk_w (t : Fin cfg0.N) (p : Fin 1024) (k : Fin 3072) : iblk m c 2 t (ix2 p k) = argW m c (ix3 0 p k) := by
  have e : (win0_2.blk t).view.emb (ix2 p k) = (ix2 p k : S1024x3072.Idx) := by blk_ext [idx t]
  show Gen.V m c main_v2 ((win0_2.blk t).view.emb (ix2 p k)) = _
  rw [e]
  entry_read
  pointwise []

end Cert.Qkv

end
-- ==== Proof.QkvGrid.lean ====
module

public import proofs.«01_k».proof.Proof.QkvData

/-! The query, key and value projection's results: after every point the three kept weights are the launched weight's columns, so each result's entry is made of rows' projections. -/

@[expose] public section

set_option maxRecDepth 16384

noncomputable section

namespace Cert.Qkv

open Idealize.ShloMosaic Idealize.ShloMosaic.TcCoe Idealize.SL.Sem
open Cert.Kernel4Ideal Cert.Kernel4Ideal.Gen Cert.Mlp

variable (m : (ℓ : Loc nD τ sig) → Buf (Elt Ideal) ℓ) (c : Dev nD)

/-- The queries' weight. -/
def wQ : Vec Ideal S1024x1024 .bf16 := fun i => argW m c (ix3 0 (i 0 : Fin 1024) ⟨(i 1).val, lt_trans (show (i 1).val < 1024 from (i 1).isLt) (by norm_num)⟩)
/-- The keys' weight. -/
def wK : Vec Ideal S1024x1024 .bf16 := fun i => argW m c (ix3 0 (i 0 : Fin 1024) ⟨1024 + (i 1).val, lt_trans (Nat.add_lt_add_left (show (i 1).val < 1024 from (i 1).isLt) 1024) (by norm_num)⟩)
/-- The values' weight transposed. -/
def wV : Vec Ideal S1024x1024 .bf16 := fun i => argW m c (ix3 0 (i 1 : Fin 1024) ⟨2048 + (i 0).val, lt_of_lt_of_le (Nat.add_lt_add_left (show (i 0).val < 1024 from (i 0).isLt) 2048) (by norm_num)⟩)

theorem keptQ (t : Fin cfg0.N) : k0_pay6 (colQ (iblk m c 2 t)) = wQ m c := by
  funext i
  obtain ⟨p, q, rfl⟩ : ∃ (p : Fin 1024) (q : Fin 1024), i = ix2 p q := ⟨i 0, i 1, eq_ix2 i⟩
  rw [keptQ_at, colQ_at, blk_w]
  rfl

theorem keptK (t : Fin cfg0.N) : k0_pay7 (colK (iblk m c 2 t)) = wK m c := by
  funext i
  obtain ⟨p, q, rfl⟩ : ∃ (p : Fin 1024) (q : Fin 1024), i = ix2 p q := ⟨i 0, i 1, eq_ix2 i⟩
  rw [keptK_at, colK_at, blk_w]
  rfl

theorem keptV (t : Fin cfg0.N) : k0_pay8 (colV (iblk m c 2 t)) = wV m c := by
  funext i
  obtain ⟨p, q, rfl⟩ : ∃ (p : Fin 1024) (q : Fin 1024), i = ix2 p q := ⟨i 0, i 1, eq_ix2 i⟩
  rw [keptV_at, colV_at, blk_w]
  rfl

/-- Every point's blocks. -/
theorem pt_all : ∀ (n : ℕ) (hn : n < cfg0.N), outsAt0 m c n hn = ptOut m c ⟨n, hn⟩ (wQ m c) (wK m c) (wV m c) := by
  intro n
  induction n with
  | zero =>
    intro hn
    have h := ptA m c ⟨0, hn⟩ rfl
    rw [keptQ, keptK, keptV] at h
    exact h
  | succ n ih =>
    intro hn
    have h16 := lt_of_lt_of_eq hn N16
    have h := ptB m c ⟨n + 1, hn⟩ (by simp only; omega) _ (ih (Nat.lt_of_succ_lt hn))
    exact h

/-- A row's projection onto a column of the launched weight. -/
abbrev projAt (r : Fin 16384) (q : Fin 3072) : EReal :=
  Cert.InProj.rowProj (fun k => rowX m c r k) (fun k => argG m c (ix2 0 k)) (fun k => argW m c (ix3 0 k q))

theorem norm_row (t : Fin cfg0.N) (p q : Fin 1024) :
    k0_pay9 (iblk m c 0 t) (iblk m c 1 t) (ix2 p q) = rowRms (fun k => rowX m c (rowAt t p) k) (fun k => argG m c (ix2 0 k)) q := by
  rw [norm_at]
  simp only [blk_x, blk_g]

theorem pt_q (t : Fin cfg0.N) (s q : Fin 1024) : (ptOut m c t (wQ m c) (wK m c) (wV m c)).1 (ix2 s q) = projAt m c (rowAt t s) ⟨q.val, by omega⟩ * scale := by
  refine (q_at _ _ _ s q).trans (congrArg (· * _) (Finset.sum_congr rfl fun k _ => ?_))
  rw [norm_row]
  rfl

theorem key_row (t : Fin cfg0.N) (s q : Fin 1024) : k0_pay11 (iblk m c 0 t) (iblk m c 1 t) (wK m c) (ix2 s q) = projAt m c (rowAt t s) ⟨1024 + q.val, by omega⟩ := by
  refine (k_at _ _ _ s q).trans (Finset.sum_congr rfl fun k _ => ?_)
  rw [norm_row]
  rfl

theorem pt_k (t : Fin cfg0.N) (s q : Fin 1024) : (ptOut m c t (wQ m c) (wK m c) (wV m c)).2.1 (ix2 s q) = projAt m c (rowAt t s) ⟨1024 + q.val, by omega⟩ :=
  (kb_at _ _ _ s q).trans (key_row m c t s q)

theorem pt_km (t : Fin cfg0.N) (b : Fin 4) (q : Fin 1024) : (ptOut m c t (wQ m c) (wK m c) (wV m c)).2.2.1 (ix3 b 0 q)
    = Ideal.div (∑ s : Fin 256, projAt m c (rowAt t ⟨256 * b.val + s.val, by omega⟩) ⟨1024 + q.val, by omega⟩) (Ideal.ofBits FTy.f32 0x43800000#32) :=
  congrArg (Ideal.div · _) (Finset.sum_congr rfl fun s _ => key_row m c t ⟨256 * b.val + s.val, by omega⟩ q)

theorem val_row (t : Fin cfg0.N) (p s : Fin 1024) : k0_pay19 (k0_pay9 (iblk m c 0 t) (iblk m c 1 t)) (wV m c) (ix2 p s) = projAt m c (rowAt t s) ⟨2048 + p.val, by omega⟩ := by
  refine (vt_at _ _ p s).trans (Finset.sum_congr rfl fun k _ => ?_)
  rw [norm_row]
  exact mul_comm _ _

theorem pt_vt (t : Fin cfg0.N) (h : Fin 8) (n : Fin 4) (r : Fin 144) (s : Fin 256) : (ptOut m c t (wQ m c) (wK m c) (wV m c)).2.2.2.1 (ix5 0 h n r s)
    = if hr : r.val < 128 then projAt m c (rowAt t ⟨256 * n.val + s.val, by omega⟩) ⟨2048 + (128 * h.val + r.val), by omega⟩ else if r.val = 128 then 1 else 0 := by
  show vtOf (k0_pay19 (k0_pay9 (iblk m c 0 t) (iblk m c 1 t)) (wV m c)) (ix5 0 h n r s) = _
  unfold vtOf
  by_cases hr : r.val < 128
  · rw [dif_pos hr]
    refine (dif_pos (show r.val < 128 from hr)).trans ?_
    exact val_row m c t ⟨128 * h.val + r.val, by omega⟩ ⟨256 * n.val + s.val, by omega⟩
  · rw [dif_neg hr]
    exact dif_neg (show ¬ r.val < 128 from hr)

/-- What a point's blocks are read from. -/
theorem acc_eq (p : ℕ) (hp : p < cfg0.N) (h') :
    Pipeline.accAt (fun n h => Value.stAt0 m c n h Value.junk0) (Value.stAt0 m c) 0 p h' = ptOut m c ⟨p, hp⟩ (wQ m c) (wK m c) (wV m c) := by
  rw [← pt_all m c p hp]
  exact (Value.outsAt0_sweep m c p hp).symm

theorem row_eq (p : ℕ) (hp : p < cfg0.N) (s : Fin 1024) (r : Fin 16384) (h : 1024 * p + s.val = r.val) : rowAt ⟨p, hp⟩ s = r := Fin.ext h

/-- The queries. -/
theorem G3_at (r : Fin 16384) (q : Fin 1024) : Value.G3 m c (ix2 r q) = projAt m c r ⟨q.val, by omega⟩ * scale := by
  have hp : 1 * (r.val / 1024 - 0) + 1 * (q.val / 1024 - 0) = r.val / 1024 := by omega
  have hn : Value.pt3Of (ix2 r q) < cfg0.N := by rw [N16]; show 1 * (r.val / 1024 - 0) + 1 * (q.val / 1024 - 0) < 16; omega
  have hx : Value.loc3Of (ix2 r q) = (ix2 ⟨r.val % 1024, by omega⟩ q : S1024x1024.Idx) := by
    funext d
    fin_cases d
    · rfl
    · exact Fin.ext (show q.val % 1024 = q.val by omega)
  unfold Value.G3
  rw [dif_pos hn, acc_eq m c _ hn, hx, pt_q]
  exact congrArg (fun r => projAt m c r _ * _) (row_eq _ hn _ r (by show 1024 * (1 * (r.val / 1024 - 0) + 1 * (q.val / 1024 - 0)) + r.val % 1024 = r.val; omega))

/-- The keys. -/
theorem G4_at (r : Fin 16384) (q : Fin 1024) : Value.G4 m c (ix2 r q) = projAt m c r ⟨1024 + q.val, by omega⟩ := by
  have hn : Value.pt4Of (ix2 r q) < cfg0.N := by rw [N16]; show 1 * (r.val / 1024 - 0) + 1 * (q.val / 1024 - 0) < 16; omega
  have hx : Value.loc4Of (ix2 r q) = (ix2 ⟨r.val % 1024, by omega⟩ q : S1024x1024.Idx) := by
    funext d
    fin_cases d
    · rfl
    · exact Fin.ext (show q.val % 1024 = q.val by omega)
  unfold Value.G4
  rw [dif_pos hn, acc_eq m c _ hn, hx, pt_k]
  exact congrArg (fun r => projAt m c r _) (row_eq _ hn _ r (by show 1024 * (1 * (r.val / 1024 - 0) + 1 * (q.val / 1024 - 0)) + r.val % 1024 = r.val; omega))

/-- The key means. -/
theorem G5_at (b : Fin 64) (q : Fin 1024) : Value.G5 m c (ix3 b 0 q)
    = Ideal.div (∑ s : Fin 256, projAt m c ⟨b.val * 256 + s.val, by omega⟩ ⟨1024 + q.val, by omega⟩) (Ideal.ofBits FTy.f32 0x43800000#32) := by
  have hn : Value.pt5Of (ix3 b 0 q) < cfg0.N := by rw [N16]; show 1 * (b.val / 4 - 0) + 1 * (0 / 1 - 0) + 1 * (q.val / 1024 - 0) < 16; omega
  have hx : Value.loc5Of (ix3 b 0 q) = (ix3 ⟨b.val % 4, by omega⟩ 0 q : S4x1x1024.Idx) := by
    funext d
    fin_cases d
    · rfl
    · rfl
    · exact Fin.ext (show q.val % 1024 = q.val by omega)
  unfold Value.G5
  rw [dif_pos hn, acc_eq m c _ hn, hx, pt_km]
  refine congrArg (Ideal.div · _) (Finset.sum_congr rfl fun s _ => congrArg (fun r => projAt m c r _) (row_eq _ hn _ _ ?_))
  show 1024 * (1 * (b.val / 4 - 0) + 1 * (0 / 1 - 0) + 1 * (q.val / 1024 - 0)) + (256 * (b.val % 4) + s.val) = b.val * 256 + s.val
  omega

/-- The transposed values over their filler rows. -/
theorem G6_at (b : Fin 2) (h : Fin 8) (n : Fin 32) (r : Fin 144) (s : Fin 256) : Value.G6 m c (ix5 b h n r s)
    = if hr : r.val < 128 then projAt m c ⟨b.val * 8192 + n.val * 256 + s.val, by omega⟩ ⟨2048 + (h.val * 128 + r.val), by omega⟩ else if r.val = 128 then 1 else 0 := by
  have hn : Value.pt6Of (ix5 b h n r s) < cfg0.N := by
    rw [N16]; show 8 * (b.val / 1 - 0) + 8 * (h.val / 8 - 0) + 1 * (n.val / 4 - 0) + 1 * (r.val / 144 - 0) + 1 * (s.val / 256 - 0) < 16; omega
  have hx : Value.loc6Of (ix5 b h n r s) = (ix5 0 h ⟨n.val % 4, by omega⟩ r s : S1x8x4x144x256.Idx) := by
    funext d
    fin_cases d
    · exact Fin.ext (show b.val % 1 = 0 by omega)
    · exact Fin.ext (show h.val % 8 = h.val by omega)
    · rfl
    · exact Fin.ext (show r.val % 144 = r.val by omega)
    · exact Fin.ext (show s.val % 256 = s.val by omega)
  unfold Value.G6
  rw [dif_pos hn, acc_eq m c _ hn, hx, pt_vt]
  by_cases hr : r.val < 128
  · rw [dif_pos hr, dif_pos hr]
    refine congrArg₂ (projAt m c) (row_eq _ hn _ _ ?_) (Fin.ext ?_)
    · show 1024 * (8 * (b.val / 1 - 0) + 8 * (h.val / 8 - 0) + 1 * (n.val / 4 - 0) + 1 * (r.val / 144 - 0) + 1 * (s.val / 256 - 0)) + (256 * (n.val % 4) + s.val) = b.val * 8192 + n.val * 256 + s.val
      omega
    · show 2048 + (128 * h.val + r.val) = 2048 + (h.val * 128 + r.val)
      omega
  · rw [dif_neg hr, dif_neg hr]

end Cert.Qkv

end
-- ==== Proof.QkvRefValue.lean ====
module

public import proofs.«01_k».proof.Proof.Gen.Reference4Ideal.Run
public import proofs.«01_k».proof.Proof.InGate

/-! The fourth reference's results, entry by entry. -/

@[expose] public section

set_option maxRecDepth 16384

noncomputable section

namespace Cert.QkvRef

open Idealize.ShloMosaic Idealize.ShloMosaic.TcCoe Idealize.ShloMosaic.Tactic Idealize.SL.Sem
open Cert.Reference4Ideal Cert.Reference4Ideal.Gen Cert.Mlp Cert.InProj

/-- The normed rows. -/
def norm (x : FVec Ideal S2x8192x1024 .f32) (g : FVec Ideal S2x1024 .f32) : FVec Ideal S16384x1024 .f32 :=
  mulf (mulf (shapeCast _ x shapeCasts_S2x8192x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast _ x shapeCasts_S2x8192x1024_S16384x1024) (shapeCast _ x shapeCasts_S2x8192x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![0, 0] g slices_S2x1024_S1x1024_0_0) shapeCasts_S1x1024_S1024)))

/-- All the projections of the normed rows. -/
def proj (x : FVec Ideal S2x8192x1024 .f32) (g : FVec Ideal S2x1024 .f32) (w : FVec Ideal S1x1024x3072 .f32) : FVec Ideal S16384x3072 .f32 :=
  Host.dotGeneral dot_S16384x1024_S1024x3072_S16384x3072_1_0_0_1_n_n none (norm x g) (shapeCast _ w shapeCasts_S1x1024x3072_S1024x3072)

theorem norm_at (x : FVec Ideal S2x8192x1024 .f32) (g : FVec Ideal S2x1024 .f32) (r : Fin 16384) (q : Fin 1024) :
    norm x g (ix2 r q) = rowRms (fun k => x (ix3 ⟨r.val / 8192, by omega⟩ ⟨r.val % 8192, by omega⟩ k)) (fun k => g (ix2 0 k)) q := by
  pointwise [norm]
  rfl

/-- The projections, entry by entry. -/
theorem proj_at (x : FVec Ideal S2x8192x1024 .f32) (g : FVec Ideal S2x1024 .f32) (w : FVec Ideal S1x1024x3072 .f32) (r : Fin 16384) (q : Fin 3072) :
    proj x g w (ix2 r q) = rowProj (fun k => x (ix3 ⟨r.val / 8192, by omega⟩ ⟨r.val % 8192, by omega⟩ k)) (fun k => g (ix2 0 k)) (fun k => w (ix3 0 k q)) := by
  pointwise [proj]
  simp only [norm_at]
  rfl

/-- A quotient by the root of 128 and then by the logarithm of two is one product. -/
theorem scaled (s : EReal) : Ideal.div (Ideal.div s (Ideal.sqrt (Ideal.ofBits FTy.f32 0x43000000#32))) (Ideal.log (Ideal.ofBits FTy.f32 0x40000000#32))
    = s * (((√128)⁻¹ * (Real.log 2)⁻¹ : ℝ) : EReal) := by
  have h : Ideal.ofBits FTy.f32 0x43000000#32 = ((128 : ℝ) : EReal) := by
    simp [Ideal.ofBits, Ideal.ieee]
    rw [← EReal.coe_mul]
    norm_num
  have h2 : (√128 : ℝ) ≠ 0 := (Real.sqrt_pos.mpr (by norm_num)).ne'
  have h3 : Real.log 2 ≠ 0 := (Real.log_pos (by norm_num)).ne'
  rw [two_log, h, Ideal.sqrt_coe, if_neg (by norm_num), Ideal.div_coe h2, Ideal.div_coe h3, mul_assoc, ← EReal.coe_mul, one_div, one_div]

/-- The four results' entries: the queries, the keys, the key means and the transposed values over their filler rows. -/
theorem q_at (y : FVec Ideal S16384x3072 .f32) (r : Fin 16384) (q : Fin 1024) :
    (truncf .bf16 (Host.divf (Host.divf (extractStridedSlice S16384x1024 ![0, 0] y slices_S16384x3072_S16384x1024_0_0) (broadcastInDim S16384x1024 ![] bcast_S_S16384x1024 (Host.sqrt (constant S_ .f32 0x43000000#32)))) (broadcastInDim S16384x1024 ![] bcast_S_S16384x1024 (Host.log (constant S_ .f32 0x40000000#32)))) bitsLt_bf16_f32 : FVec Ideal S16384x1024 .bf16)
      (ix2 r q) = y (ix2 r ⟨q.val, by omega⟩) * (((√128)⁻¹ * (Real.log 2)⁻¹ : ℝ) : EReal) := by
  pointwise []
  exact scaled _

theorem k_at (y : FVec Ideal S16384x3072 .f32) (r : Fin 16384) (q : Fin 1024) :
    (truncf .bf16 (extractStridedSlice S16384x1024 ![0, 1024] y slices_S16384x3072_S16384x1024_0_1024) bitsLt_bf16_f32 : FVec Ideal S16384x1024 .bf16)
      (ix2 r q) = y (ix2 r ⟨1024 + q.val, by omega⟩) := by
  pointwise []

theorem km_at (y : FVec Ideal S16384x3072 .f32) (b : Fin 64) (q : Fin 1024) :
    (Host.divf (broadcastInDim S64x1x1024 ![0, 2] bcast_S64x1024_S64x1x1024_0_2 (Host.reduceAdd (shapeCast _ (extractStridedSlice S16384x1024 ![0, 1024] y slices_S16384x3072_S16384x1024_0_1024) shapeCasts_S16384x1024_S64x256x1024) (constant S_ .f32 0x00000000#32) reducesTo_S64x256x1024_S64x1024_d1 h_S_)) (broadcastInDim S64x1x1024 ![] bcast_S_S64x1x1024 (constant S_ .f32 0x43800000#32)) : FVec Ideal S64x1x1024 .f32)
      (ix3 b 0 q) = Ideal.div (∑ s : Fin 256, y (ix2 ⟨b.val * 256 + s.val, by omega⟩ ⟨1024 + q.val, by omega⟩)) (Ideal.ofBits FTy.f32 0x43800000#32) := by
  pointwise []

theorem vt_at (y : FVec Ideal S16384x3072 .f32) (b : Fin 2) (h : Fin 8) (n : Fin 32) (r : Fin 144) (s : Fin 256) :
    (truncf .bf16 (concatenate S2x8x32x144x256 3 [⟨S2x8x32x128x256, (transpose S2x8x32x128x256 [0, 3, 1, 4, 2] (shapeCast _ (extractStridedSlice S16384x1024 ![0, 2048] y slices_S16384x3072_S16384x1024_0_2048) shapeCasts_S16384x1024_S2x32x256x8x128) transposes_S2x32x256x8x128_S2x8x32x128x256_0_3_1_4_2)⟩, ⟨S2x8x32x16x256, (broadcastInDim S2x8x32x16x256 ![3, 4] bcast_S16x1_S2x8x32x16x256_3_4 (broadcastInDim S16x1 ![0] bcast_S16_S16x1_0 (uitofp .f32 (cmpi .eq (iotaInDim S16 32 0) (broadcastInDim S16 ![] bcast_S_S16 (constantI S_ 32 0#32))))))⟩] concatenates_S2x8x32x128x256_S2x8x32x16x256_S2x8x32x144x256_d3) bitsLt_bf16_f32 : FVec Ideal S2x8x32x144x256 .bf16)
      (ix5 b h n r s) = if hr : r.val < 128 then y (ix2 ⟨b.val * 8192 + n.val * 256 + s.val, by omega⟩ ⟨2048 + (h.val * 128 + r.val), by omega⟩) else if r.val = 128 then 1 else 0 := by
  pointwise []
  split
  · rfl
  · have e : ∀ p : Fin 16, (IntOp.cmpi CmpIPredicate.eq (BitVec.ofNat 32 p.val) 0#32 : BitVec 1).toNat = if p.val = 0 then 1 else 0 := by decide
    show (((IntOp.cmpi CmpIPredicate.eq (BitVec.ofNat 32 (r.val - 128)) 0#32 : BitVec 1).toNat : ℝ) : EReal) = _
    rw [e ⟨r.val - 128, by omega⟩]
    by_cases h' : r.val = 128
    · rw [if_pos h', if_pos (by simp only; omega)]
      simp
    · rw [if_neg h', if_neg (by simp only; omega)]
      simp

end Cert.QkvRef

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.ScanGrid
public import proofs.«01_k».proof.Proof.ScanRefRun
public import proofs.«01_k».proof.Proof.ScanPre
public import proofs.«01_k».proof.Proof.MlpFrame
public import proofs.«01_k».proof.Proof.MlpData
public import proofs.«01_k».proof.Proof.MlpRefValue
public import proofs.«01_k».proof.Proof.InGrid
public import proofs.«01_k».proof.Proof.InRefValue
public import proofs.«01_k».proof.Proof.QkvGrid
public import proofs.«01_k».proof.Proof.QkvRefValue
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs' results are the recurrence's closed form at every index. -/
theorem algebraic_scan : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hQ, hK, hV, hG⟩ := Cert.Scan.finite_fn _ _ _ _ _ _ (hpre c)
  obtain ⟨h0, h1, h2, h3, h4, h5⟩ := hagree c
  have first : Cert.Scan.refIter (Cert.Scan.argQ m c) (Cert.Scan.argK m c) (Cert.Scan.argV m c) (Cert.Scan.argG m c) 0
      = Cert.Scan.firstState m' c := by
    unfold Cert.Scan.firstState
    rw [h0, h1, h2, h4]
    rfl
  rw [(h c).1, Cert.Scan.out_iterate m' c _ first (fun _ => rfl), h3, h5]
  funext i
  obtain ⟨b, t, l, rfl⟩ : ∃ (b : Fin 2) (t : Fin 8192) (l : Fin 1024), i = ix3 b t l := ⟨i 0, i 1, i 2, eq_ix3 i⟩
  exact (Cert.Scan.ref_value b hQ hK hV hG (Cert.Scan.argO m c) (Cert.Scan.argN m c) t l).trans (Cert.Scan.kernel_value hQ hK hV hG b t l).symm

/-- The two printings of the projection and MLP kernel have the same body table. -/
theorem table_Kernel2 : Cert.Kernel2.defs₀ (F := Bits) = Cert.Kernel2Ideal.defs₀ (F := Bits) := by
  unfold Cert.Kernel2.defs₀ Cert.Kernel2Ideal.defs₀
  refine congrArg (Defs.onTc (τ := Cert.Kernel2.τ)) ?_
  funext l a
  match l, a with
  | 0, (t, s) => rfl

/-- Its frame: the run written once over any floats, taken at the bits. -/
theorem quiescent_Kernel2 : Cert.quiescent_Kernel2 := fun m ρ _ => by
  unfold Cert.Kernel2.defs
  rw [table_Kernel2]
  exact Cert.Mlp.run_frame (F := Bits) m ρ

theorem quiescent_Kernel2Ideal : Cert.quiescent_Kernel2Ideal := fun m ρ _ => Cert.Mlp.run_frame (F := Ideal) m ρ

theorem quiescent_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both programs' results are the same row sums of the launched arrays. -/
theorem algebraic_mlp : algebraic_Kernel2Ideal_Reference2Ideal := by
  intro m ρ m' ρ' _ hagree
  refine ⟨fun c i => Cert.Mlp.rowR m c (i 0) (i 1), ?_, ?_⟩
  · refine (θ_run Cert.Kernel2Ideal.defs _ _).mono (fun r h c => ⟨?_, (h c).2⟩) (Cert.Mlp.run_value (F := Ideal) m ρ)
    funext i
    obtain ⟨a, q, rfl⟩ : ∃ (a : Fin 16384) (q : Fin 1024), i = ix2 a q := ⟨i 0, i 1, eq_ix2 i⟩
    have ht : 7 ≤ (Cert.Mlp.pt (7 + a.val / 512) (by omega)).val := by show 7 ≤ 7 + a.val / 512; omega
    have e : Cert.Mlp.rowAt (Cert.Mlp.pt (7 + a.val / 512) (by omega)) ⟨a.val % 512, by omega⟩ = a :=
      Fin.ext (show 512 * (7 + a.val / 512 - 7) + a.val % 512 = a.val by omega)
    have hv := ((h c).1 _ ht ⟨a.val % 512, by omega⟩ q).trans (Cert.Mlp.outAt_at m c _ ht _ q)
    exact (congrArg (fun z : Fin 16384 => r.2.mem ((c.tc : Thread Cert.Kernel2Ideal.nD Cert.Kernel2Ideal.τ).loc Cert.Kernel2Ideal.main_v11) (ix2 z q : Cert.Kernel2Ideal.S16384x1024.Idx)) e.symm).trans
      (hv.trans (congrArg (fun z => Cert.Mlp.rowR m c z q) e))
  · refine (θ_run Cert.Reference2Ideal.defs _ _).mono (fun _ h c => ⟨?_, (h c).2⟩) (Cert.Reference2Ideal.Value.run (F := Ideal) m' ρ')
    obtain ⟨h0, h1, h2, h3, h4, h5, h6, h7⟩ := hagree c
    rw [(h c).1]
    funext i
    obtain ⟨a, q, rfl⟩ : ∃ (a : Fin 16384) (q : Fin 1024), i = ix2 a q := ⟨i 0, i 1, eq_ix2 i⟩
    refine (Cert.MlpRef.res_at m' c a q).trans ?_
    rw [h0, h1, h2, h3, h4, h5, h6, h7]
    rfl

theorem quiescent_Reference3Ideal : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The two named constants are the reals the table gives them. -/
theorem preserves_in : preserves_Kernel3_Kernel3Ideal :=
  ⟨IdealRules.named_const.statement Cert.Kernel3Ideal.κ "inv_cap" .f32 0x3D888889#32 ((1 / 15 : ℝ) : EReal) rfl,
    IdealRules.named_const.statement Cert.Kernel3Ideal.κ "log2e" .f32 0x3FB8AA3B#32 (((Real.log 2)⁻¹ : ℝ) : EReal) rfl⟩

/-- Both programs' five results are the rows' projections, the gates' capped and in base two. -/
theorem algebraic_in : algebraic_Kernel3Ideal_Reference3Ideal := by
  intro m ρ m' ρ' _ hagree
  refine ⟨_, _, _, _, _, Cert.Kernel3Ideal.Value.run (F := Ideal) m ρ, ?_⟩
  refine (θ_run Cert.Reference3Ideal.defs _ _).mono (fun _ h c => ⟨?_, ?_, ?_, ?_, ?_, (h c).2.2.2.2.2⟩) (Cert.Reference3Ideal.Value.run (F := Ideal) m' ρ')
  · obtain ⟨h0, h1, h2, h3⟩ := hagree c
    rw [(h c).1, h0, h1, h2]
    funext i
    obtain ⟨b, p, s, rfl⟩ : ∃ (b : Fin 2) (p : Fin 512) (s : Fin 8192), i = ix3 b p s := ⟨i 0, i 1, i 2, eq_ix3 i⟩
    exact ((Cert.InRef.qt_at (Cert.InRef.proj (Cert.InProj.argH m c) (Cert.InProj.argG m c) (Cert.InProj.argW m c)) b p s).trans (Cert.InRef.proj_at _ _ _ _ _)).trans
      (Cert.InProj.G5_at m c b p s).symm
  · obtain ⟨h0, h1, h2, h3⟩ := hagree c
    rw [(h c).2.1, h0, h1, h2]
    funext i
    obtain ⟨r, q, rfl⟩ : ∃ (r : Fin 16384) (q : Fin 512), i = ix2 r q := ⟨i 0, i 1, eq_ix2 i⟩
    exact ((Cert.InRef.k_at (Cert.InRef.proj (Cert.InProj.argH m c) (Cert.InProj.argG m c) (Cert.InProj.argW m c)) r q).trans
      (congrArg (· * _) (Cert.InRef.proj_at _ _ _ _ _))).trans (Cert.InProj.G6_at m c r q).symm
  · obtain ⟨h0, h1, h2, h3⟩ := hagree c
    rw [(h c).2.2.1, h0, h1, h2]
    funext i
    obtain ⟨b, p, s, rfl⟩ : ∃ (b : Fin 2) (p : Fin 1024) (s : Fin 8192), i = ix3 b p s := ⟨i 0, i 1, i 2, eq_ix3 i⟩
    exact ((Cert.InRef.vt_at (Cert.InRef.proj (Cert.InProj.argH m c) (Cert.InProj.argG m c) (Cert.InProj.argW m c)) b p s).trans (Cert.InRef.proj_at _ _ _ _ _)).trans
      (Cert.InProj.G7_at m c b p s).symm
  · obtain ⟨h0, h1, h2, h3⟩ := hagree c
    rw [(h c).2.2.2.1, h0, h1, h2]
    funext i
    obtain ⟨r, q, rfl⟩ : ∃ (r : Fin 16384) (q : Fin 1024), i = ix2 r q := ⟨i 0, i 1, eq_ix2 i⟩
    exact ((Cert.InRef.op_at (Cert.InRef.proj (Cert.InProj.argH m c) (Cert.InProj.argG m c) (Cert.InProj.argW m c)) r q).trans (Cert.InRef.proj_at _ _ _ _ _)).trans
      (Cert.InProj.G8_at m c r q).symm
  · obtain ⟨h0, h1, h2, h3⟩ := hagree c
    rw [(h c).2.2.2.2.1, Cert.InRef.res_eq, h0, h1, h2, h3]
    funext i
    obtain ⟨r, q, rfl⟩ : ∃ (r : Fin 16384) (q : Fin 128), i = ix2 r q := ⟨i 0, i 1, eq_ix2 i⟩
    refine ((Cert.InRef.gates_at _ r q).trans (congrArg _ ((Cert.InRef.pre_at _ _ r q).trans ?_))).trans (Cert.InProj.G9_at m c r q).symm
    by_cases h : q.val < 16
    · rw [dif_pos h, dif_pos h]
      exact congrArg (· + _) (Cert.InRef.proj_at _ _ _ _ _)
    · rw [dif_neg h, dif_neg h]

theorem quiescent_Reference4Ideal : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The named constant is the real the table gives it. -/
theorem preserves_qkv : preserves_Kernel4_Kernel4Ideal :=
  IdealRules.named_const.statement Cert.Kernel4Ideal.κ "q_scale" .f32 0x3E0293EE#32 (((Real.sqrt 128)⁻¹ * (Real.log 2)⁻¹ : ℝ) : EReal) rfl

/-- Both programs' four results are the rows' projections: the queries' scaled, the keys' and their means, the values' transposed. -/
theorem algebraic_qkv : algebraic_Kernel4Ideal_Reference4Ideal := by
  intro m ρ m' ρ' _ hagree
  refine ⟨_, _, _, _, Cert.Kernel4Ideal.Value.run (F := Ideal) m ρ, ?_⟩
  refine (θ_run Cert.Reference4Ideal.defs _ _).mono (fun _ h c => ⟨?_, ?_, ?_, ?_, (h c).2.2.2.2⟩) (Cert.Reference4Ideal.Value.run (F := Ideal) m' ρ')
  · obtain ⟨h0, h1, h2⟩ := hagree c
    rw [(h c).1, h0, h1, h2]
    funext i
    obtain ⟨r, q, rfl⟩ : ∃ (r : Fin 16384) (q : Fin 1024), i = ix2 r q := ⟨i 0, i 1, eq_ix2 i⟩
    exact ((Cert.QkvRef.q_at (Cert.QkvRef.proj (Cert.Qkv.argX m c) (Cert.Qkv.argG m c) (Cert.Qkv.argW m c)) r q).trans
      (congrArg (· * _) (Cert.QkvRef.proj_at _ _ _ _ _))).trans (Cert.Qkv.G3_at m c r q).symm
  · obtain ⟨h0, h1, h2⟩ := hagree c
    rw [(h c).2.1, h0, h1, h2]
    funext i
    obtain ⟨r, q, rfl⟩ : ∃ (r : Fin 16384) (q : Fin 1024), i = ix2 r q := ⟨i 0, i 1, eq_ix2 i⟩
    exact ((Cert.QkvRef.k_at (Cert.QkvRef.proj (Cert.Qkv.argX m c) (Cert.Qkv.argG m c) (Cert.Qkv.argW m c)) r q).trans (Cert.QkvRef.proj_at _ _ _ _ _)).trans
      (Cert.Qkv.G4_at m c r q).symm
  · obtain ⟨h0, h1, h2⟩ := hagree c
    rw [(h c).2.2.1, h0, h1, h2]
    funext i
    obtain ⟨b, z, q, rfl⟩ : ∃ (b : Fin 64) (z : Fin 1) (q : Fin 1024), i = ix3 b z q := ⟨i 0, i 1, i 2, eq_ix3 i⟩
    obtain rfl : z = 0 := Subsingleton.elim _ _
    exact ((Cert.QkvRef.km_at (Cert.QkvRef.proj (Cert.Qkv.argX m c) (Cert.Qkv.argG m c) (Cert.Qkv.argW m c)) b q).trans
      (congrArg (Ideal.div · _) (Finset.sum_congr rfl fun s _ => Cert.QkvRef.proj_at _ _ _ _ _))).trans (Cert.Qkv.G5_at m c b q).symm
  · obtain ⟨h0, h1, h2⟩ := hagree c
    rw [(h c).2.2.2.1, h0, h1, h2]
    funext i
    obtain ⟨b, d, n, r, s, rfl⟩ : ∃ (b : Fin 2) (d : Fin 8) (n : Fin 32) (r : Fin 144) (s : Fin 256), i = ix5 b d n r s := ⟨i 0, i 1, i 2, i 3, i 4, eq_ix5 i⟩
    refine ((Cert.QkvRef.vt_at (Cert.QkvRef.proj (Cert.Qkv.argX m c) (Cert.Qkv.argG m c) (Cert.Qkv.argW m c)) b d n r s).trans ?_).trans (Cert.Qkv.G6_at m c b d n r s).symm
    by_cases hr : r.val < 128
    · rw [dif_pos hr, dif_pos hr]
      exact Cert.QkvRef.proj_at _ _ _ _ _
    · rw [dif_neg hr, dif_neg hr]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Pre_finite.Gen.facts, fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial, quiescent_Kernel2, quiescent_Kernel2Ideal, quiescent_Reference2Ideal,
    fun m ρ _ => Cert.Kernel3.Gen.frame m ρ, fun m ρ _ => Cert.Kernel3Ideal.Gen.frame m ρ, quiescent_Reference3Ideal,
    fun m ρ _ => Cert.Kernel4.Gen.frame m ρ, fun m ρ _ => Cert.Kernel4Ideal.Gen.frame m ρ, quiescent_Reference4Ideal,
    trivial, algebraic_scan, trivial, algebraic_mlp, preserves_in, algebraic_in, preserves_qkv, algebraic_qkv⟩

end Cert.Proof

end
